-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def preserves_Kernel_KernelIdeal : Prop :=
  IdealRules.named_const.Statement Cert.KernelIdeal.κ "q_scale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v23)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v23) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v60) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  IdealRules.named_const.Statement Cert.Kernel4Ideal.κ "q_scale" .f32 0x3E38AA3B#32 (((1 / 8) * (Real.log 2)⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v13_1)) (v1 : (c : Dev Cert.Kernel4Ideal.nD) → Buf (Elt Ideal) ((c.tc : Thread Cert.Kernel4Ideal.nD Cert.Kernel4Ideal.τ).loc Cert.Kernel4Ideal.main_v13_2)) (v2 : (c : Dev Cert.Kernel4Ideal.nD) → Buf (Elt Ideal) ((c.tc : Thread Cert.Kernel4Ideal.nD Cert.Kernel4Ideal.τ).loc Cert.Kernel4Ideal.main_v13_5)) (v3 : (c : Dev Cert.Kernel4Ideal.nD) → Buf (Elt Ideal) ((c.tc : Thread Cert.Kernel4Ideal.nD Cert.Kernel4Ideal.τ).loc Cert.Kernel4Ideal.main_v13_6)) (v4 : (c : Dev Cert.Kernel4Ideal.nD) → Buf (Elt Ideal) ((c.tc : Thread Cert.Kernel4Ideal.nD Cert.Kernel4Ideal.τ).loc Cert.Kernel4Ideal.main_v13_7)) (v5 : (c : Dev Cert.Kernel4Ideal.nD) → Buf (Elt Ideal) ((c.tc : Thread Cert.Kernel4Ideal.nD Cert.Kernel4Ideal.τ).loc Cert.Kernel4Ideal.main_v13_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13_1) = v0 c
          ∧ r.2.mem ((c.tc : Thread Cert.Kernel4Ideal.nD Cert.Kernel4Ideal.τ).loc Cert.Kernel4Ideal.main_v13_2) = v1 c
          ∧ r.2.mem ((c.tc : Thread Cert.Kernel4Ideal.nD Cert.Kernel4Ideal.τ).loc Cert.Kernel4Ideal.main_v13_5) = v2 c
          ∧ r.2.mem ((c.tc : Thread Cert.Kernel4Ideal.nD Cert.Kernel4Ideal.τ).loc Cert.Kernel4Ideal.main_v13_6) = v3 c
          ∧ r.2.mem ((c.tc : Thread Cert.Kernel4Ideal.nD Cert.Kernel4Ideal.τ).loc Cert.Kernel4Ideal.main_v13_7) = v4 c
          ∧ r.2.mem ((c.tc : Thread Cert.Kernel4Ideal.nD Cert.Kernel4Ideal.τ).loc Cert.Kernel4Ideal.main_v13_0) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v68) = v0 c
          ∧ r.2.mem ((c.tc : Thread Cert.Reference4Ideal.nD Cert.Reference4Ideal.τ).loc Cert.Reference4Ideal.main_v69) = v1 c
          ∧ r.2.mem ((c.tc : Thread Cert.Reference4Ideal.nD Cert.Reference4Ideal.τ).loc Cert.Reference4Ideal.main_v71) = v2 c
          ∧ r.2.mem ((c.tc : Thread Cert.Reference4Ideal.nD Cert.Reference4Ideal.τ).loc Cert.Reference4Ideal.main_v74) = v3 c
          ∧ r.2.mem ((c.tc : Thread Cert.Reference4Ideal.nD Cert.Reference4Ideal.τ).loc Cert.Reference4Ideal.main_v54) = v4 c
          ∧ r.2.mem ((c.tc : Thread Cert.Reference4Ideal.nD Cert.Reference4Ideal.τ).loc Cert.Reference4Ideal.main_v83) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  IdealRules.named_const.Statement Cert.Kernel5Ideal.κ "q_scale" .f32 0x3E38AA3B#32 (((1 / 8) * (Real.log 2)⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v22)) (v1 : (c : Dev Cert.Kernel5Ideal.nD) → Buf (Elt Ideal) ((c.tc : Thread Cert.Kernel5Ideal.nD Cert.Kernel5Ideal.τ).loc Cert.Kernel5Ideal.main_v24_0)) (v2 : (c : Dev Cert.Kernel5Ideal.nD) → Buf (Elt Ideal) ((c.tc : Thread Cert.Kernel5Ideal.nD Cert.Kernel5Ideal.τ).loc Cert.Kernel5Ideal.main_v24_1)) (v3 : (c : Dev Cert.Kernel5Ideal.nD) → Buf (Elt Ideal) ((c.tc : Thread Cert.Kernel5Ideal.nD Cert.Kernel5Ideal.τ).loc Cert.Kernel5Ideal.main_v24_2)) (v4 : (c : Dev Cert.Kernel5Ideal.nD) → Buf (Elt Ideal) ((c.tc : Thread Cert.Kernel5Ideal.nD Cert.Kernel5Ideal.τ).loc Cert.Kernel5Ideal.main_v24_3)) (v5 : (c : Dev Cert.Kernel5Ideal.nD) → Buf (Elt Ideal) ((c.tc : Thread Cert.Kernel5Ideal.nD Cert.Kernel5Ideal.τ).loc Cert.Kernel5Ideal.main_v24_4)) (v6 : (c : Dev Cert.Kernel5Ideal.nD) → Buf (Elt Ideal) ((c.tc : Thread Cert.Kernel5Ideal.nD Cert.Kernel5Ideal.τ).loc Cert.Kernel5Ideal.main_v24_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v22) = v0 c
          ∧ r.2.mem ((c.tc : Thread Cert.Kernel5Ideal.nD Cert.Kernel5Ideal.τ).loc Cert.Kernel5Ideal.main_v24_0) = v1 c
          ∧ r.2.mem ((c.tc : Thread Cert.Kernel5Ideal.nD Cert.Kernel5Ideal.τ).loc Cert.Kernel5Ideal.main_v24_1) = v2 c
          ∧ r.2.mem ((c.tc : Thread Cert.Kernel5Ideal.nD Cert.Kernel5Ideal.τ).loc Cert.Kernel5Ideal.main_v24_2) = v3 c
          ∧ r.2.mem ((c.tc : Thread Cert.Kernel5Ideal.nD Cert.Kernel5Ideal.τ).loc Cert.Kernel5Ideal.main_v24_3) = v4 c
          ∧ r.2.mem ((c.tc : Thread Cert.Kernel5Ideal.nD Cert.Kernel5Ideal.τ).loc Cert.Kernel5Ideal.main_v24_4) = v5 c
          ∧ r.2.mem ((c.tc : Thread Cert.Kernel5Ideal.nD Cert.Kernel5Ideal.τ).loc Cert.Kernel5Ideal.main_v24_5) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v107) = v0 c
          ∧ r.2.mem ((c.tc : Thread Cert.Reference5Ideal.nD Cert.Reference5Ideal.τ).loc Cert.Reference5Ideal.main_v115) = v1 c
          ∧ r.2.mem ((c.tc : Thread Cert.Reference5Ideal.nD Cert.Reference5Ideal.τ).loc Cert.Reference5Ideal.main_v116) = v2 c
          ∧ r.2.mem ((c.tc : Thread Cert.Reference5Ideal.nD Cert.Reference5Ideal.τ).loc Cert.Reference5Ideal.main_v117) = v3 c
          ∧ r.2.mem ((c.tc : Thread Cert.Reference5Ideal.nD Cert.Reference5Ideal.τ).loc Cert.Reference5Ideal.main_v119) = v4 c
          ∧ r.2.mem ((c.tc : Thread Cert.Reference5Ideal.nD Cert.Reference5Ideal.τ).loc Cert.Reference5Ideal.main_v122) = v5 c
          ∧ r.2.mem ((c.tc : Thread Cert.Reference5Ideal.nD Cert.Reference5Ideal.τ).loc Cert.Reference5Ideal.main_v93) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)) →
    ∃ (v0 : (c : Dev Cert.Kernel6Ideal.nD) → Buf (Elt Ideal) ((c.tc : Thread Cert.Kernel6Ideal.nD Cert.Kernel6Ideal.τ).loc Cert.Kernel6Ideal.main_v23)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v23) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v60) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S1x64 : Shape := ⟨2, ![1, 64]⟩
abbrev S1x128 : Shape := ⟨2, ![1, 128]⟩
abbrev S32x64x8x2x64 : Shape := ⟨5, ![32, 64, 8, 2, 64]⟩
abbrev S32x64x8x128 : Shape := ⟨4, ![32, 64, 8, 128]⟩
abbrev S1x32x1024x8x2x64 : Shape := ⟨6, ![1, 32, 1024, 8, 2, 64]⟩
abbrev S1x32x1024x8x128 : Shape := ⟨5, ![1, 32, 1024, 8, 128]⟩
abbrev S_ : Shape := ⟨0, ![]⟩

class Facts : Prop where
  bcast_S_S1x64 : S_.BroadcastsInDim S1x64 (![] : Fin 0 → Fin S1x64.rank)
  reducesTo_S1x64_S_d0_1 : S1x64.ReducesTo [0, 1] S_
  h_S_ : 0 < S_.numel
  bcast_S_S32x64x8x2x64 : S_.BroadcastsInDim S32x64x8x2x64 (![] : Fin 0 → Fin S32x64x8x2x64.rank)
  reducesTo_S32x64x8x2x64_S_d0_1_2_3_4 : S32x64x8x2x64.ReducesTo [0, 1, 2, 3, 4] S_
  bcast_S_S32x64x8x128 : S_.BroadcastsInDim S32x64x8x128 (![] : Fin 0 → Fin S32x64x8x128.rank)
  reducesTo_S32x64x8x128_S_d0_1_2_3 : S32x64x8x128.ReducesTo [0, 1, 2, 3] S_
  bcast_S_S1x32x1024x8x2x64 : S_.BroadcastsInDim S1x32x1024x8x2x64 (![] : Fin 0 → Fin S1x32x1024x8x2x64.rank)
  reducesTo_S1x32x1024x8x2x64_S_d0_1_2_3_4_5 : S1x32x1024x8x2x64.ReducesTo [0, 1, 2, 3, 4, 5] S_
  bcast_S_S1x32x1024x8x128 : S_.BroadcastsInDim S1x32x1024x8x128 (![] : Fin 0 → Fin S1x32x1024x8x128.rank)
  reducesTo_S1x32x1024x8x128_S_d0_1_2_3_4 : S1x32x1024x8x128.ReducesTo [0, 1, 2, 3, 4] S_

variable [Facts]

def fn_part2 {F : FTy → Type} [FloatOps F] (main_arg8 : FVec F S1x32x1024x8x2x64 .f32) (main_arg9 : FVec F S1x32x1024x8x128 .f32) (main_v33 : IVec S_ 1) : IVec S_ 1 :=
  let main_v34 : FVec F S1x32x1024x8x2x64 .f32 := Host.absf main_arg8
  let main_cst_12 : FVec F S_ .f32 := constant S_ .f32 0x7F800000#32
  let main_v35 : FVec F S1x32x1024x8x2x64 .f32 := broadcastInDim S1x32x1024x8x2x64 ![] bcast_S_S1x32x1024x8x2x64 main_cst_12
  let main_v36 : IVec S1x32x1024x8x2x64 1 := cmpf .olt main_v34 main_v35
  let main_c_13 : IVec S_ 1 := constantI S_ 1 1#1
  let main_v37 : IVec S_ 1 := (fun x v => Host.reduce IntOp.andi x v reducesTo_S1x32x1024x8x2x64_S_d0_1_2_3_4_5 h_S_) main_v36 main_c_13
  let main_v38 : IVec S_ 1 := andi main_v33 main_v37
  let main_v39 : FVec F S1x32x1024x8x128 .f32 := Host.absf main_arg9
  let main_cst_14 : FVec F S_ .f32 := constant S_ .f32 0x7F800000#32
  let main_v40 : FVec F S1x32x1024x8x128 .f32 := broadcastInDim S1x32x1024x8x128 ![] bcast_S_S1x32x1024x8x128 main_cst_14
  let main_v41 : IVec S1x32x1024x8x128 1 := cmpf .olt main_v39 main_v40
  let main_c_15 : IVec S_ 1 := constantI S_ 1 1#1
  let main_v42 : IVec S_ 1 := (fun x v => Host.reduce IntOp.andi x v reducesTo_S1x32x1024x8x128_S_d0_1_2_3_4 h_S_) main_v41 main_c_15
  let main_v43 : IVec S_ 1 := andi main_v38 main_v42
  main_v43

def fn_part1 {F : FTy → Type} [FloatOps F] (main_arg5 : FVec F S32x64x8x2x64 .f32) (main_arg6 : FVec F S32x64x8x2x64 .f32) (main_arg7 : FVec F S32x64x8x128 .f32) (main_arg8 : FVec F S1x32x1024x8x2x64 .f32) (main_arg9 : FVec F S1x32x1024x8x128 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S32x64x8x2x64 .f32 := Host.absf main_arg5
  let main_cst_6 : FVec F S_ .f32 := constant S_ .f32 0x7F800000#32
  let main_v20 : FVec F S32x64x8x2x64 .f32 := broadcastInDim S32x64x8x2x64 ![] bcast_S_S32x64x8x2x64 main_cst_6
  let main_v21 : IVec S32x64x8x2x64 1 := cmpf .olt main_v19 main_v20
  let main_c_7 : IVec S_ 1 := constantI S_ 1 1#1
  let main_v22 : IVec S_ 1 := (fun x v => Host.reduce IntOp.andi x v reducesTo_S32x64x8x2x64_S_d0_1_2_3_4 h_S_) main_v21 main_c_7
  let main_v23 : IVec S_ 1 := andi main_v18 main_v22
  let main_v24 : FVec F S32x64x8x2x64 .f32 := Host.absf main_arg6
  let main_cst_8 : FVec F S_ .f32 := constant S_ .f32 0x7F800000#32
  let main_v25 : FVec F S32x64x8x2x64 .f32 := broadcastInDim S32x64x8x2x64 ![] bcast_S_S32x64x8x2x64 main_cst_8
  let main_v26 : IVec S32x64x8x2x64 1 := cmpf .olt main_v24 main_v25
  let main_c_9 : IVec S_ 1 := constantI S_ 1 1#1
  let main_v27 : IVec S_ 1 := (fun x v => Host.reduce IntOp.andi x v reducesTo_S32x64x8x2x64_S_d0_1_2_3_4 h_S_) main_v26 main_c_9
  let main_v28 : IVec S_ 1 := andi main_v23 main_v27
  let main_v29 : FVec F S32x64x8x128 .f32 := Host.absf main_arg7
  let main_cst_10 : FVec F S_ .f32 := constant S_ .f32 0x7F800000#32
  let main_v30 : FVec F S32x64x8x128 .f32 := broadcastInDim S32x64x8x128 ![] bcast_S_S32x64x8x128 main_cst_10
  let main_v31 : IVec S32x64x8x128 1 := cmpf .olt main_v29 main_v30
  let main_c_11 : IVec S_ 1 := constantI S_ 1 1#1
  let main_v32 : IVec S_ 1 := (fun x v => Host.reduce IntOp.andi x v reducesTo_S32x64x8x128_S_d0_1_2_3 h_S_) main_v31 main_c_11
  let main_v33 : IVec S_ 1 := andi main_v28 main_v32
  fn_part2 (F := F) main_arg8 main_arg9 main_v33

def fn {F : FTy → Type} [FloatOps F] (main_arg0 : FVec F S1x64 .f32) (main_arg1 : FVec F S1x64 .f32) (main_arg2 : FVec F S1x64 .f32) (main_arg3 : FVec F S1x64 .f32) (main_arg4 : FVec F S1x128 .f32) (main_arg5 : FVec F S32x64x8x2x64 .f32) (main_arg6 : FVec F S32x64x8x2x64 .f32) (main_arg7 : FVec F S32x64x8x128 .f32) (main_arg8 : FVec F S1x32x1024x8x2x64 .f32) (main_arg9 : FVec F S1x32x1024x8x128 .f32) : IVec S_ 1 :=
  let main_v0 : FVec F S1x64 .f32 := Host.absf main_arg0
  let main_cst : FVec F S_ .f32 := constant S_ .f32 0x7F800000#32
  let main_v1 : FVec F S1x64 .f32 := broadcastInDim S1x64 ![] bcast_S_S1x64 main_cst
  let main_v2 : IVec S1x64 1 := cmpf .olt main_v0 main_v1
  let main_c : IVec S_ 1 := constantI S_ 1 1#1
  let main_v3 : IVec S_ 1 := (fun x v => Host.reduce IntOp.andi x v reducesTo_S1x64_S_d0_1 h_S_) main_v2 main_c
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg5 main_arg6 main_arg7 main_arg8 main_arg9 main_v13 main_v16
-- ==== Kernel.lean ====
abbrev S1x64 : Shape := ⟨2, ![1, 64]⟩
abbrev S1x128 : Shape := ⟨2, ![1, 128]⟩
abbrev S32x64x8x2x64 : Shape := ⟨5, ![32, 64, 8, 2, 64]⟩
abbrev S32x64x8x128 : Shape := ⟨4, ![32, 64, 8, 128]⟩
abbrev S1x32x1024x8x2x64 : Shape := ⟨6, ![1, 32, 1024, 8, 2, 64]⟩
abbrev S1x32x1024x8x128 : Shape := ⟨5, ![1, 32, 1024, 8, 128]⟩
abbrev S64 : Shape := ⟨1, ![64]⟩
abbrev S128 : Shape := ⟨1, ![128]⟩
abbrev S2048x1024 : Shape := ⟨2, ![2048, 1024]⟩
abbrev S32x1024x8x2x64 : Shape := ⟨5, ![32, 1024, 8, 2, 64]⟩
abbrev S32x8x2x64x1024 : Shape := ⟨5, ![32, 8, 2, 64, 1024]⟩
abbrev S32x1024x1024 : Shape := ⟨3, ![32, 1024, 1024]⟩
abbrev S32x1024x8x128 : Shape := ⟨4, ![32, 1024, 8, 128]⟩
abbrev S32x8192x128 : Shape := ⟨3, ![32, 8192, 128]⟩
abbrev S64x1024 : Shape := ⟨2, ![64, 1024]⟩
abbrev S1x1024x1024 : Shape := ⟨3, ![1, 1024, 1024]⟩
abbrev S1x8192x128 : Shape := ⟨3, ![1, 8192, 128]⟩
abbrev S1 : Shape := ⟨1, ![1]⟩
abbrev S1x1 : Shape := ⟨2, ![1, 1]⟩
abbrev S64x128 : Shape := ⟨2, ![64, 128]⟩
abbrev S128x128 : Shape := ⟨2, ![128, 128]⟩
abbrev S128x64 : Shape := ⟨2, ![128, 64]⟩
abbrev S1x128x128 : Shape := ⟨3, ![1, 128, 128]⟩
abbrev S128x1 : Shape := ⟨2, ![128, 1]⟩
abbrev S64x1 : Shape := ⟨2, ![64, 1]⟩

abbrev nBuf : Space → Nat
  | .hbm => 29
  | .vmem => 17
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x128, .f32⟩
  | .hbm, ⟨5, _⟩ => ⟨S32x64x8x2x64, .f32⟩
  | .hbm, ⟨6, _⟩ => ⟨S32x64x8x2x64, .f32⟩
  | .hbm, ⟨7, _⟩ => ⟨S32x64x8x128, .f32⟩
  | .hbm, ⟨8, _⟩ => ⟨S1x32x1024x8x2x64, .f32⟩
  | .hbm, ⟨9, _⟩ => ⟨S1x32x1024x8x128, .f32⟩
  | .hbm, ⟨10, _⟩ => ⟨S64, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S128, .f32⟩
  | .hbm, ⟨19, _⟩ => ⟨S1x128, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S32x1024x8x2x64, .f32⟩
  | .hbm, ⟨24, _⟩ => ⟨S32x8x2x64x1024, .f32⟩
  | .hbm, ⟨25, _⟩ => ⟨S32x1024x1024, .f32⟩
  | .hbm, ⟨26, _⟩ => ⟨S32x1024x8x128, .f32⟩
  | .hbm, ⟨27, _⟩ => ⟨S32x8192x128, .f32⟩
  | .hbm, ⟨28, _⟩ => ⟨S2048x1024, .bf16⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x128, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S1x1024x1024, .f32⟩
  | .local _ .vmem, ⟨12, _⟩ => ⟨S1x1024x1024, .f32⟩
  | .local _ .vmem, ⟨13, _⟩ => ⟨S1x8192x128, .f32⟩
  | .local _ .vmem, ⟨14, _⟩ => ⟨S1x8192x128, .f32⟩
  | .local _ .vmem, ⟨15, _⟩ => ⟨S64x1024, .bf16⟩
  | .local _ .vmem, ⟨16, _⟩ => ⟨S64x1024, .bf16⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "q_scale" => some (((1 / 8) * (Real.log 2)⁻¹ : ℝ) : EReal)
  | _ => none
-- ==== ReferenceIdeal.lean ====
abbrev S1x64 : Shape := ⟨2, ![1, 64]⟩
abbrev S1x128 : Shape := ⟨2, ![1, 128]⟩
abbrev S32x64x8x2x64 : Shape := ⟨5, ![32, 64, 8, 2, 64]⟩
abbrev S32x64x8x128 : Shape := ⟨4, ![32, 64, 8, 128]⟩
abbrev S1x32x1024x8x2x64 : Shape := ⟨6, ![1, 32, 1024, 8, 2, 64]⟩
abbrev S1x32x1024x8x128 : Shape := ⟨5, ![1, 32, 1024, 8, 128]⟩
abbrev S64 : Shape := ⟨1, ![64]⟩
abbrev S128 : Shape := ⟨1, ![128]⟩
abbrev S32x1024x8x2x64 : Shape := ⟨5, ![32, 1024, 8, 2, 64]⟩
abbrev S32x1024x8x128 : Shape := ⟨4, ![32, 1024, 8, 128]⟩
abbrev S_ : Shape := ⟨0, ![]⟩
abbrev S32x1088x8x2x64 : Shape := ⟨5, ![32, 1088, 8, 2, 64]⟩
abbrev S32x1088x8x128 : Shape := ⟨4, ![32, 1088, 8, 128]⟩
abbrev S32x8x2x64x1088 : Shape := ⟨5, ![32, 8, 2, 64, 1088]⟩
abbrev S32x8x2x64 : Shape := ⟨4, ![32, 8, 2, 64]⟩
abbrev S32x8x2x64x1 : Shape := ⟨5, ![32, 8, 2, 64, 1]⟩
abbrev S32x8x1x64x1088 : Shape := ⟨5, ![32, 8, 1, 64, 1088]⟩
abbrev S32x8x64x1088 : Shape := ⟨4, ![32, 8, 64, 1088]⟩
abbrev S32x8x128x64 : Shape := ⟨4, ![32, 8, 128, 64]⟩
abbrev S32x64x8 : Shape := ⟨3, ![32, 64, 8]⟩
abbrev S32x64x8x1 : Shape := ⟨4, ![32, 64, 8, 1]⟩
abbrev S1x1x1x128 : Shape := ⟨4, ![1, 1, 1, 128]⟩
abbrev S2048x1024 : Shape := ⟨2, ![2048, 1024]⟩

abbrev nBuf : Space → Nat
  | .hbm => 78
  | .vmem => 0
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x128, .f32⟩
  | .hbm, ⟨5, _⟩ => ⟨S32x64x8x2x64, .f32⟩
  | .hbm, ⟨6, _⟩ => ⟨S32x64x8x2x64, .f32⟩
  | .hbm, ⟨7, _⟩ => ⟨S32x64x8x128, .f32⟩
  | .hbm, ⟨8, _⟩ => ⟨S1x32x1024x8x2x64, .f32⟩
  | .hbm, ⟨9, _⟩ => ⟨S1x32x1024x8x128, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S128, .f32⟩
  | .hbm, ⟨15, _⟩ => ⟨S32x1024x8x2x64, .f32⟩
  | .hbm, ⟨16, _⟩ => ⟨S32x1024x8x128, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S32x1088x8x2x64, .f32⟩
  | .hbm, ⟨29, _⟩ => ⟨S32x1088x8x128, .f32⟩
  | .hbm, ⟨30, _⟩ => ⟨S32x8x2x64x1088, .f32⟩
  | .hbm, ⟨31, _⟩ => ⟨S_, .f32⟩
  | .hbm, ⟨32, _⟩ => ⟨S32x8x2x64x1088, .f32⟩
  | .hbm, ⟨33, _⟩ => ⟨S32x8x2x64x1088, .f32⟩
  | .hbm, ⟨34, _⟩ => ⟨S_, .f32⟩
  | .hbm, ⟨35, _⟩ => ⟨S32x8x2x64, .f32⟩
  | .hbm, ⟨36, _⟩ => ⟨S_, .f32⟩
  | .hbm, ⟨37, _⟩ => ⟨S32x8x2x64, .f32⟩
  | .hbm, ⟨38, _⟩ => ⟨S32x8x2x64, .f32⟩
  | .hbm, ⟨39, _⟩ => ⟨S32x8x2x64x1, .f32⟩
  | .hbm, ⟨40, _⟩ => ⟨S32x8x2x64x1088, .f32⟩
  | .hbm, ⟨41, _⟩ => ⟨S32x8x2x64x1088, .f32⟩
  | .hbm, ⟨42, _⟩ => ⟨S32x8x2x64x1088, .f32⟩
  | .hbm, ⟨43, _⟩ => ⟨S_, .f32⟩
  | .hbm, ⟨44, _⟩ => ⟨S32x8x2x64, .f32⟩
  | .hbm, ⟨45, _⟩ => ⟨S32x8x2x64x1, .f32⟩
  | .hbm, ⟨46, _⟩ => ⟨S32x8x2x64x1088, .f32⟩
  | .hbm, ⟨47, _⟩ => ⟨S32x8x2x64x1088, .f32⟩
  | .hbm, ⟨48, _⟩ => ⟨S32x8x1x64x1088, .f32⟩
  | .hbm, ⟨49, _⟩ => ⟨S32x8x64x1088, .f32⟩
  | .hbm, ⟨50, _⟩ => ⟨S32x8x1x64x1088, .f32⟩
  | .hbm, ⟨51, _⟩ => ⟨S32x8x64x1088, .f32⟩
  | .hbm, ⟨52, _⟩ => ⟨S32x8x64x1088, .f32⟩
  | .hbm, ⟨53, _⟩ => ⟨S32x8x64x1088, .f32⟩
  | .hbm, ⟨54, _⟩ => ⟨S32x8x64x1088, .f32⟩
  | .hbm, ⟨55, _⟩ => ⟨S32x8x128x64, .f32⟩
  | .hbm, ⟨56, _⟩ => ⟨S32x64x8x128, .f32⟩
  | .hbm, ⟨57, _⟩ => ⟨S32x64x8x128, .f32⟩
  | .hbm, ⟨58, _⟩ => ⟨S_, .f32⟩
  | .hbm, ⟨59, _⟩ => ⟨S32x64x8, .f32⟩
  | .hbm, ⟨60, _⟩ => ⟨S32x64x8x1, .f32⟩
  | .hbm, ⟨61, _⟩ => ⟨S_, .f32⟩
  | .hbm, ⟨62, _⟩ => ⟨S32x64x8x1, .f32⟩
  | .hbm, ⟨63, _⟩ => ⟨S32x64x8x1, .f32⟩
  | .hbm, ⟨64, _⟩ => ⟨S_, .f32⟩
  | .hbm, ⟨65, _⟩ => ⟨S32x64x8x1, .f32⟩
  | .hbm, ⟨66, _⟩ => ⟨S32x64x8x1, .f32⟩
  | .hbm, ⟨67, _⟩ => ⟨S32x64x8x1, .f32⟩
  | .hbm, ⟨68, _⟩ => ⟨S32x64x8x128, .f32⟩
  | .hbm, ⟨69, _⟩ => ⟨S32x64x8x128, .f32⟩
  | .hbm, ⟨70, _⟩ => ⟨S1x1x1x128, .f32⟩
  | .hbm, ⟨71, _⟩ => ⟨S32x64x8x128, .f32⟩
  | .hbm, ⟨72, _⟩ => ⟨S32x64x8x128, .f32⟩
  | .hbm, ⟨73, _⟩ => ⟨S_, .f32⟩
  | .hbm, ⟨74, _⟩ => ⟨S32x64x8x128, .f32⟩
  | .hbm, ⟨75, _⟩ => ⟨S32x64x8x128, .f32⟩
  | .hbm, ⟨76, _⟩ => ⟨S2048x1024, .f32⟩
  | .hbm, ⟨77, _⟩ => ⟨S2048x1024, .bf16⟩
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== Kernel2.lean ====
abbrev S4x8192x1024 : Shape := ⟨3, ![4, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 18
  | .vmem => 10
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S32768x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1024x2816, .f32⟩
  | .hbm, ⟨12, _⟩ => ⟨S1024x2816, .bf16⟩
  | .hbm, ⟨13, _⟩ => ⟨S1024x2816, .f32⟩
  | .hbm, ⟨14, _⟩ => ⟨S1024x2816, .bf16⟩
  | .hbm, ⟨15, _⟩ => ⟨S2816x1024, .f32⟩
  | .hbm, ⟨16, _⟩ => ⟨S2816x1024, .bf16⟩
  | .hbm, ⟨17, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | .local _ .vmem, ⟨9, _⟩ => ⟨S512x2816, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S4x8192x1024 : Shape := ⟨3, ![4, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x2816 : Shape := ⟨2, ![1024, 2816]⟩
abbrev S2816x1024 : Shape := ⟨2, ![2816, 1024]⟩
abbrev S4x8192x2816 : Shape := ⟨3, ![4, 8192, 2816]⟩
abbrev S32768x1024 : Shape := ⟨2, ![32768, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1024, .f32⟩
  | .hbm, ⟨7, _⟩ => ⟨S4x8192x1024, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S1024x2816, .f32⟩
  | .hbm, ⟨24, _⟩ => ⟨S1024x2816, .f32⟩
  | .hbm, ⟨25, _⟩ => ⟨S2816x1024, .f32⟩
  | .hbm, ⟨26, _⟩ => ⟨S4x8192x2816, .f32⟩
  | .hbm, ⟨27, _⟩ => ⟨S4x8192x2816, .f32⟩
  | .hbm, ⟨28, _⟩ => ⟨S4x8192x2816, .f32⟩
  | .hbm, ⟨29, _⟩ => ⟨S_, .f32⟩
  | .hbm, ⟨30, _⟩ => ⟨S4x8192x2816, .f32⟩
  | .hbm, ⟨31, _⟩ => ⟨S4x8192x2816, .f32⟩
  | .hbm, ⟨32, _⟩ => ⟨S_, .f32⟩
  | .hbm, ⟨33, _⟩ => ⟨S4x8192x2816, .f32⟩
  | .hbm, ⟨34, _⟩ => ⟨S4x8192x2816, .f32⟩
  | .hbm, ⟨35, _⟩ => ⟨S4x8192x2816, .f32⟩
  | .hbm, ⟨36, _⟩ => ⟨S4x8192x2816, .f32⟩
  | .hbm, ⟨37, _⟩ => ⟨S4x8192x2816, .f32⟩
  | .hbm, ⟨38, _⟩ => ⟨S4x8192x1024, .f32⟩
  | .hbm, ⟨39, _⟩ => ⟨S1024, .f32⟩
  | .hbm, ⟨40, _⟩ => ⟨S4x8192x1024, .f32⟩
  | .hbm, ⟨41, _⟩ => ⟨S_, .f32⟩
  | .hbm, ⟨42, _⟩ => ⟨S4x8192, .f32⟩
  | .hbm, ⟨43, _⟩ => ⟨S4x8192x1, .f32⟩
  | .hbm, ⟨44, _⟩ => ⟨S_, .f32⟩
  | .hbm, ⟨45, _⟩ => ⟨S4x8192x1, .f32⟩
  | .hbm, ⟨46, _⟩ => ⟨S4x8192x1, .f32⟩
  | .hbm, ⟨47, _⟩ => ⟨S_, .f32⟩
  | .hbm, ⟨48, _⟩ => ⟨S4x8192x1, .f32⟩
  | .hbm, ⟨49, _⟩ => ⟨S4x8192x1, .f32⟩
  | .hbm, ⟨50, _⟩ => ⟨S4x8192x1, .f32⟩
  | .hbm, ⟨51, _⟩ => ⟨S4x8192x1024, .f32⟩
  | .hbm, ⟨52, _⟩ => ⟨S4x8192x1024, .f32⟩
  | .hbm, ⟨53, _⟩ => ⟨S1x1x1024, .f32⟩
  | .hbm, ⟨54, _⟩ => ⟨S4x8192x1024, .f32⟩
  | .hbm, ⟨55, _⟩ => ⟨S4x8192x1024, .f32⟩
  | .hbm, ⟨56, _⟩ => ⟨S_, .f32⟩
  | .hbm, ⟨57, _⟩ => ⟨S4x8192x1024, .f32⟩
  | .hbm, ⟨58, _⟩ => ⟨S4x8192x1024, .f32⟩
  | .hbm, ⟨59, _⟩ => ⟨S4x8192x1024, .f32⟩
  | .hbm, ⟨60, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== Kernel3.lean ====
abbrev S4x8192x1024 : Shape := ⟨3, ![4, 8192, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S32768x1024 : Shape := ⟨2, ![32768, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 36
  | .vmem => 19
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S4x8192x1024, .f32⟩
  | .hbm, ⟨4, _⟩ => ⟨S1x1024x1024, .f32⟩
  | .hbm, ⟨5, _⟩ => ⟨S1x1024x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024x2816, .f32⟩
  | .hbm, ⟨10, _⟩ => ⟨S1x1024x2816, .f32⟩
  | .hbm, ⟨11, _⟩ => ⟨S1x2816x1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1024x2816, .f32⟩
  | .hbm, ⟨17, _⟩ => ⟨S1024x2816, .bf16⟩
  | .hbm, ⟨18, _⟩ => ⟨S1024x2816, .f32⟩
  | .hbm, ⟨19, _⟩ => ⟨S1024x2816, .bf16⟩
  | .hbm, ⟨20, _⟩ => ⟨S2816x1024, .f32⟩
  | .hbm, ⟨21, _⟩ => ⟨S2816x1024, .bf16⟩
  | .hbm, ⟨22, _⟩ => ⟨S1024x1024, .f32⟩
  | .hbm, ⟨23, _⟩ => ⟨S1024x1024, .bf16⟩
  | .hbm, ⟨24, _⟩ => ⟨S1024x1024, .f32⟩
  | .hbm, ⟨25, _⟩ => ⟨S1024x1024, .bf16⟩
  | .hbm, ⟨26, _⟩ => ⟨S1024, .f32⟩
  | .hbm, ⟨27, _⟩ => ⟨S1x1024, .f32⟩
  | .hbm, ⟨28, _⟩ => ⟨S32768x1024, .f32⟩
  | .hbm, ⟨29, _⟩ => ⟨S32768x1024, .bf16⟩
  | .hbm, ⟨30, _⟩ => ⟨S32768x1024, .f32⟩
  | .hbm, ⟨31, _⟩ => ⟨S32768x1024, .bf16⟩
  | .hbm, ⟨32, _⟩ => ⟨S32768x1024, .f32⟩
  | .hbm, ⟨33, _⟩ => ⟨S32768x1024, .bf16⟩
  | .hbm, ⟨34, _⟩ => ⟨S32768x1024, .f32⟩
  | .hbm, ⟨35, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1024x2816, .bf16⟩
  | .local _ .vmem, ⟨14, _⟩ => ⟨S1024x2816, .bf16⟩
  | .local _ .vmem, ⟨15, _⟩ => ⟨S2816x1024, .bf16⟩
  | .local _ .vmem, ⟨16, _⟩ => ⟨S512x1024, .f32⟩
  | .local _ .vmem, ⟨17, _⟩ => ⟨S512x1024, .f32⟩
  | .local _ .vmem, ⟨18, _⟩ => ⟨S512x2816, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S4x8192x1024 : Shape := ⟨3, ![4, 8192, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x2816 : Shape := ⟨2, ![1024, 2816]⟩
abbrev S2816x1024 : Shape := ⟨2, ![2816, 1024]⟩
abbrev S4x8192x2816 : Shape := ⟨3, ![4, 8192, 2816]⟩
abbrev S32768x1024 : Shape := ⟨2, ![32768, 1024]⟩

abbrev nBuf : Space → Nat
  | .hbm => 91
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S4x8192x1024, .f32⟩
  | .hbm, ⟨4, _⟩ => ⟨S1x1024x1024, .f32⟩
  | .hbm, ⟨5, _⟩ => ⟨S1x1024x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024x2816, .f32⟩
  | .hbm, ⟨10, _⟩ => ⟨S1x1024x2816, .f32⟩
  | .hbm, ⟨11, _⟩ => ⟨S1x2816x1024, .f32⟩
  | .hbm, ⟨12, _⟩ => ⟨S1024x1024, .f32⟩
  | .hbm, ⟨13, _⟩ => ⟨S4x8192x1024, .f32⟩
  | .hbm, ⟨14, _⟩ => ⟨S4x8192x1024, .f32⟩
  | .hbm, ⟨15, _⟩ => ⟨S4x8192x1024, .f32⟩
  | .hbm, ⟨16, _⟩ => ⟨S1024x1024, .f32⟩
  | .hbm, ⟨17, _⟩ => ⟨S4x8192x1024, .f32⟩
  | .hbm, ⟨18, _⟩ => ⟨S1024, .f32⟩
  | .hbm, ⟨19, _⟩ => ⟨S4x8192x1024, .f32⟩
  | .hbm, ⟨20, _⟩ => ⟨S_, .f32⟩
  | .hbm, ⟨21, _⟩ => ⟨S4x8192, .f32⟩
  | .hbm, ⟨22, _⟩ => ⟨S4x8192x1, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S_, .f32⟩
  | .hbm, ⟨27, _⟩ => ⟨S4x8192x1, .f32⟩
  | .hbm, ⟨28, _⟩ => ⟨S4x8192x1, .f32⟩
  | .hbm, ⟨29, _⟩ => ⟨S4x8192x1, .f32⟩
  | .hbm, ⟨30, _⟩ => ⟨S4x8192x1024, .f32⟩
  | .hbm, ⟨31, _⟩ => ⟨S4x8192x1024, .f32⟩
  | .hbm, ⟨32, _⟩ => ⟨S1x1x1024, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S1024, .f32⟩
  | .hbm, ⟨37, _⟩ => ⟨S4x8192x1024, .f32⟩
  | .hbm, ⟨38, _⟩ => ⟨S_, .f32⟩
  | .hbm, ⟨39, _⟩ => ⟨S4x8192, .f32⟩
  | .hbm, ⟨40, _⟩ => ⟨S4x8192x1, .f32⟩
  | .hbm, ⟨41, _⟩ => ⟨S_, .f32⟩
  | .hbm, ⟨42, _⟩ => ⟨S4x8192x1, .f32⟩
  | .hbm, ⟨43, _⟩ => ⟨S4x8192x1, .f32⟩
  | .hbm, ⟨44, _⟩ => ⟨S_, .f32⟩
  | .hbm, ⟨45, _⟩ => ⟨S4x8192x1, .f32⟩
  | .hbm, ⟨46, _⟩ => ⟨S4x8192x1, .f32⟩
  | .hbm, ⟨47, _⟩ => ⟨S4x8192x1, .f32⟩
  | .hbm, ⟨48, _⟩ => ⟨S4x8192x1024, .f32⟩
  | .hbm, ⟨49, _⟩ => ⟨S4x8192x1024, .f32⟩
  | .hbm, ⟨50, _⟩ => ⟨S1x1x1024, .f32⟩
  | .hbm, ⟨51, _⟩ => ⟨S4x8192x1024, .f32⟩
  | .hbm, ⟨52, _⟩ => ⟨S4x8192x1024, .f32⟩
  | .hbm, ⟨53, _⟩ => ⟨S1024x2816, .f32⟩
  | .hbm, ⟨54, _⟩ => ⟨S1024x2816, .f32⟩
  | .hbm, ⟨55, _⟩ => ⟨S2816x1024, .f32⟩
  | .hbm, ⟨56, _⟩ => ⟨S4x8192x2816, .f32⟩
  | .hbm, ⟨57, _⟩ => ⟨S4x8192x2816, .f32⟩
  | .hbm, ⟨58, _⟩ => ⟨S4x8192x2816, .f32⟩
  | .hbm, ⟨59, _⟩ => ⟨S_, .f32⟩
  | .hbm, ⟨60, _⟩ => ⟨S4x8192x2816, .f32⟩
  | .hbm, ⟨61, _⟩ => ⟨S4x8192x2816, .f32⟩
  | .hbm, ⟨62, _⟩ => ⟨S_, .f32⟩
  | .hbm, ⟨63, _⟩ => ⟨S4x8192x2816, .f32⟩
  | .hbm, ⟨64, _⟩ => ⟨S4x8192x2816, .f32⟩
  | .hbm, ⟨65, _⟩ => ⟨S4x8192x2816, .f32⟩
  | .hbm, ⟨66, _⟩ => ⟨S4x8192x2816, .f32⟩
  | .hbm, ⟨67, _⟩ => ⟨S4x8192x2816, .f32⟩
  | .hbm, ⟨68, _⟩ => ⟨S4x8192x1024, .f32⟩
  | .hbm, ⟨69, _⟩ => ⟨S1024, .f32⟩
  | .hbm, ⟨70, _⟩ => ⟨S4x8192x1024, .f32⟩
  | .hbm, ⟨71, _⟩ => ⟨S_, .f32⟩
  | .hbm, ⟨72, _⟩ => ⟨S4x8192, .f32⟩
  | .hbm, ⟨73, _⟩ => ⟨S4x8192x1, .f32⟩
  | .hbm, ⟨74, _⟩ => ⟨S_, .f32⟩
  | .hbm, ⟨75, _⟩ => ⟨S4x8192x1, .f32⟩
  | .hbm, ⟨76, _⟩ => ⟨S4x8192x1, .f32⟩
  | .hbm, ⟨77, _⟩ => ⟨S_, .f32⟩
  | .hbm, ⟨78, _⟩ => ⟨S4x8192x1, .f32⟩
  | .hbm, ⟨79, _⟩ => ⟨S4x8192x1, .f32⟩
  | .hbm, ⟨80, _⟩ => ⟨S4x8192x1, .f32⟩
  | .hbm, ⟨81, _⟩ => ⟨S4x8192x1024, .f32⟩
  | .hbm, ⟨82, _⟩ => ⟨S4x8192x1024, .f32⟩
  | .hbm, ⟨83, _⟩ => ⟨S1x1x1024, .f32⟩
  | .hbm, ⟨84, _⟩ => ⟨S4x8192x1024, .f32⟩
  | .hbm, ⟨85, _⟩ => ⟨S4x8192x1024, .f32⟩
  | .hbm, ⟨86, _⟩ => ⟨S_, .f32⟩
  | .hbm, ⟨87, _⟩ => ⟨S4x8192x1024, .f32⟩
  | .hbm, ⟨88, _⟩ => ⟨S4x8192x1024, .f32⟩
  | .hbm, ⟨89, _⟩ => ⟨S4x8192x1024, .f32⟩
  | .hbm, ⟨90, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_5 : Ref sig .tc := ⟨.hbm, 71, rfl⟩
abbrev main_v45 : Ref sig .tc := ⟨.hbm, 72, rfl⟩
abbrev main_v46 : Ref sig .tc := ⟨.hbm, 73, rfl⟩
abbrev main_cst_6 : Ref sig .tc := ⟨.hbm, 74, rfl⟩
abbrev main_v47 : Ref sig .tc := ⟨.hbm, 75, rfl⟩
abbrev main_v48 : Ref sig .tc := ⟨.hbm, 76, rfl⟩
abbrev main_cst_7 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_8 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩

abbrev nD : Nat := 1
abbrev τ : Topo := Topo.v7x

variable {F : FTy → Type} [FloatOps F]
-- ==== Kernel4.lean ====
abbrev S4x8192x1024 : Shape := ⟨3, ![4, 8192, 1024]⟩
abbrev S1x1024 : Shape := ⟨2, ![1, 1024]⟩
abbrev S1x1024x8192 : Shape := ⟨3, ![1, 1024, 8192]⟩
abbrev S1x2048 : Shape := ⟨2, ![1, 2048]⟩
abbrev S1x3x1024 : Shape := ⟨3, ![1, 3, 1024]⟩
abbrev S1x1024x1024 : Shape := ⟨3, ![1, 1024, 1024]⟩
abbrev S1024 : Shape := ⟨1, ![1024]⟩
abbrev S1024x8192 : Shape := ⟨2, ![1024, 8192]⟩
abbrev S2048 : Shape := ⟨1, ![2048]⟩
abbrev S3x1024 : Shape := ⟨2, ![3, 1024]⟩
abbrev S1024x1024 : Shape := ⟨2, ![1024, 1024]⟩
abbrev S_ : Shape := ⟨0, ![]⟩
abbrev S4x2x1024 : Shape := ⟨3, ![4, 2, 1024]⟩
abbrev S32768x1024 : Shape := ⟨2, ![32768, 1024]⟩
abbrev S4x8x16x128x512 : Shape := ⟨5, ![4, 8, 16, 128, 512]⟩
abbrev S4x1024x8192 : Shape := ⟨3, ![4, 1024, 8192]⟩
abbrev S4x8x32x144x256 : Shape := ⟨5, ![4, 8, 32, 144, 256]⟩
abbrev S512x1024 : Shape := ⟨2, ![512, 1024]⟩
abbrev S1x2x1024 : Shape := ⟨3, ![1, 2, 1024]⟩
abbrev S1x8x1x128x512 : Shape := ⟨5, ![1, 8, 1, 128, 512]⟩
abbrev S1x1024x512 : Shape := ⟨3, ![1, 1024, 512]⟩
abbrev S1x8x2x144x256 : Shape := ⟨5, ![1, 8, 2, 144, 256]⟩
abbrev S512 : Shape := ⟨1, ![512]⟩
abbrev S512x1 : Shape := ⟨2, ![512, 1]⟩
abbrev S512x128 : Shape := ⟨2, ![512, 128]⟩
abbrev S128x512 : Shape := ⟨2, ![128, 512]⟩
abbrev S1x1x1x128x512 : Shape := ⟨5, ![1, 1, 1, 128, 512]⟩
abbrev S1024x512 : Shape := ⟨2, ![1024, 512]⟩
abbrev S256x128 : Shape := ⟨2, ![256, 128]⟩
abbrev S128x256 : Shape := ⟨2, ![128, 256]⟩
abbrev S1x1x1x128x256 : Shape := ⟨5, ![1, 1, 1, 128, 256]⟩
abbrev S16x256 : Shape := ⟨2, ![16, 256]⟩
abbrev S1x1x1x16x256 : Shape := ⟨5, ![1, 1, 1, 16, 256]⟩
abbrev S1x512x1024 : Shape := ⟨3, ![1, 512, 1024]⟩
abbrev S1x1x1024 : Shape := ⟨3, ![1, 1, 1024]⟩

abbrev nBuf : Space → Nat
  | .hbm => 29
  | .vmem => 27
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x8192, .f32⟩
  | .hbm, ⟨3, _⟩ => ⟨S1x2048, .f32⟩
  | .hbm, ⟨4, _⟩ => ⟨S1x3x1024, .f32⟩
  | .hbm, ⟨5, _⟩ => ⟨S1x1024, .f32⟩
  | .hbm, ⟨6, _⟩ => ⟨S1x1024x1024, .f32⟩
  | .hbm, ⟨7, _⟩ => ⟨S1024, .f32⟩
  | .hbm, ⟨8, _⟩ => ⟨S1x1024, .f32⟩
  | .hbm, ⟨9, _⟩ => ⟨S1024x8192, .f32⟩
  | .hbm, ⟨10, _⟩ => ⟨S1024x8192, .bf16⟩
  | .hbm, ⟨11, _⟩ => ⟨S2048, .f32⟩
  | .hbm, ⟨12, _⟩ => ⟨S1x2048, .f32⟩
  | .hbm, ⟨13, _⟩ => ⟨S3x1024, .f32⟩
  | .hbm, ⟨14, _⟩ => ⟨S1024, .f32⟩
  | .hbm, ⟨15, _⟩ => ⟨S1x1024, .f32⟩
  | .hbm, ⟨16, _⟩ => ⟨S1024x1024, .f32⟩
  | .hbm, ⟨17, _⟩ => ⟨S1024x1024, .bf16⟩
  | .hbm, ⟨18, _⟩ => ⟨S_, .f32⟩
  | .hbm, ⟨19, _⟩ => ⟨S4x2x1024, .f32⟩
  | .hbm, ⟨20, _⟩ => ⟨S32768x1024, .f32⟩
  | .hbm, ⟨21, _⟩ => ⟨S4x8x16x128x512, .bf16⟩
  | .hbm, ⟨22, _⟩ => ⟨S4x1024x8192, .f32⟩
  | .hbm, ⟨23, _⟩ => ⟨S32768x1024, .f32⟩
  | .hbm, ⟨24, _⟩ => ⟨S32768x1024, .bf16⟩
  | .hbm, ⟨25, _⟩ => ⟨S4x8x32x144x256, .bf16⟩
  | .hbm, ⟨26, _⟩ => ⟨S32768x1024, .bf16⟩
  | .hbm, ⟨27, _⟩ => ⟨S32768x1024, .bf16⟩
  | .hbm, ⟨28, _⟩ => ⟨S4x2x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x8192, .bf16⟩
  | .local _ .vmem, ⟨4, _⟩ => ⟨S1x2048, .f32⟩
  | .local _ .vmem, ⟨5, _⟩ => ⟨S3x1024, .f32⟩
  | .local _ .vmem, ⟨6, _⟩ => ⟨S1x1024, .f32⟩
  | .local _ .vmem, ⟨7, _⟩ => ⟨S1024x1024, .bf16⟩
  | .local _ .vmem, ⟨8, _⟩ => ⟨S1x2x1024, .f32⟩
  | .local _ .vmem, ⟨9, _⟩ => ⟨S1x2x1024, .f32⟩
  | .local _ .vmem, ⟨10, _⟩ => ⟨S1x8x1x128x512, .bf16⟩
  | .local _ .vmem, ⟨11, _⟩ => ⟨S1x8x1x128x512, .bf16⟩
  | .local _ .vmem, ⟨12, _⟩ => ⟨S1x1024x512, .f32⟩
  | .local _ .vmem, ⟨13, _⟩ => ⟨S1x1024x512, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x8x2x144x256, .bf16⟩
  | .local _ .vmem, ⟨19, _⟩ => ⟨S1x8x2x144x256, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S1x2x1024, .f32⟩
  | .local _ .vmem, ⟨25, _⟩ => ⟨S1x2x1024, .f32⟩
  | .local _ .vmem, ⟨26, _⟩ => ⟨S1x2x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev main_v13_4 : Ref sig .tc := ⟨.hbm, 25, rfl⟩
abbrev main_v13_5 : Ref sig .tc := ⟨.hbm, 26, rfl⟩
abbrev main_v13_6 : Ref sig .tc := ⟨.hbm, 27, rfl⟩
abbrev main_v13_7 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_9 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x2x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x1x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x2x144x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x2x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel4Ideal.lean ====
variable {F : FTy → Type} [FloatOps F] [Named F]
def κ : String → Option EReal := fun
  | "q_scale" => some (((1 / 8) * (Real.log 2)⁻¹ : ℝ) : EReal)
  | _ => none
-- ==== Reference4Ideal.lean ====
abbrev S4x8192x1024 : Shape := ⟨3, ![4, 8192, 1024]⟩
abbrev S1x1024 : Shape := ⟨2, ![1, 1024]⟩
abbrev S1x1024x8192 : Shape := ⟨3, ![1, 1024, 8192]⟩
abbrev S1x2048 : Shape := ⟨2, ![1, 2048]⟩
abbrev S1x3x1024 : Shape := ⟨3, ![1, 3, 1024]⟩
abbrev S1x1024x1024 : Shape := ⟨3, ![1, 1024, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x8192 : Shape := ⟨2, ![1024, 8192]⟩
abbrev S4x8192x8192 : Shape := ⟨3, ![4, 8192, 8192]⟩
abbrev S4x2x1024 : Shape := ⟨3, ![4, 2, 1024]⟩
abbrev S4x8194x1024 : Shape := ⟨3, ![4, 8194, 1024]⟩
abbrev S1024x1024 : Shape := ⟨2, ![1024, 1024]⟩
abbrev S4x8192x2048 : Shape := ⟨3, ![4, 8192, 2048]⟩
abbrev S2048 : Shape := ⟨1, ![2048]⟩
abbrev S1x1x2048 : Shape := ⟨3, ![1, 1, 2048]⟩
abbrev S4x1024x8192 : Shape := ⟨3, ![4, 1024, 8192]⟩
abbrev S32768x1024 : Shape := ⟨2, ![32768, 1024]⟩
abbrev S4x16x512x8x128 : Shape := ⟨5, ![4, 16, 512, 8, 128]⟩
abbrev S4x8x16x128x512 : Shape := ⟨5, ![4, 8, 16, 128, 512]⟩

abbrev nBuf : Space → Nat
  | .hbm => 99
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x8192, .f32⟩
  | .hbm, ⟨3, _⟩ => ⟨S1x2048, .f32⟩
  | .hbm, ⟨4, _⟩ => ⟨S1x3x1024, .f32⟩
  | .hbm, ⟨5, _⟩ => ⟨S1x1024, .f32⟩
  | .hbm, ⟨6, _⟩ => ⟨S1x1024x1024, .f32⟩
  | .hbm, ⟨7, _⟩ => ⟨S1024, .f32⟩
  | .hbm, ⟨8, _⟩ => ⟨S4x8192x1024, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x1024, .f32⟩
  | .hbm, ⟨20, _⟩ => ⟨S4x8192x1024, .f32⟩
  | .hbm, ⟨21, _⟩ => ⟨S1x1x1024, .f32⟩
  | .hbm, ⟨22, _⟩ => ⟨S4x8192x1024, .f32⟩
  | .hbm, ⟨23, _⟩ => ⟨S4x8192x1024, .f32⟩
  | .hbm, ⟨24, _⟩ => ⟨S1024x8192, .f32⟩
  | .hbm, ⟨25, _⟩ => ⟨S4x8192x8192, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S_, .f32⟩
  | .hbm, ⟨36, _⟩ => ⟨S4x2x1024, .f32⟩
  | .hbm, ⟨37, _⟩ => ⟨S4x8194x1024, .f32⟩
  | .hbm, ⟨38, _⟩ => ⟨S1024, .f32⟩
  | .hbm, ⟨39, _⟩ => ⟨S1x1x1024, .f32⟩
  | .hbm, ⟨40, _⟩ => ⟨S1024, .f32⟩
  | .hbm, ⟨41, _⟩ => ⟨S4x8192x1024, .f32⟩
  | .hbm, ⟨42, _⟩ => ⟨S1x1x1024, .f32⟩
  | .hbm, ⟨43, _⟩ => ⟨S4x8192x1024, .f32⟩
  | .hbm, ⟨44, _⟩ => ⟨S4x8192x1024, .f32⟩
  | .hbm, ⟨45, _⟩ => ⟨S1x1x1024, .f32⟩
  | .hbm, ⟨46, _⟩ => ⟨S4x8192x1024, .f32⟩
  | .hbm, ⟨47, _⟩ => ⟨S4x8192x1024, .f32⟩
  | .hbm, ⟨48, _⟩ => ⟨S1x1x1024, .f32⟩
  | .hbm, ⟨49, _⟩ => ⟨S1024, .f32⟩
  | .hbm, ⟨50, _⟩ => ⟨S4x8192x1024, .f32⟩
  | .hbm, ⟨51, _⟩ => ⟨S1x1x1024, .f32⟩
  | .hbm, ⟨52, _⟩ => ⟨S4x8192x1024, .f32⟩
  | .hbm, ⟨53, _⟩ => ⟨S4x8192x1024, .f32⟩
  | .hbm, ⟨54, _⟩ => ⟨S4x8192x1024, .f32⟩
  | .hbm, ⟨55, _⟩ => ⟨S1x1x1024, .f32⟩
  | .hbm, ⟨56, _⟩ => ⟨S1024, .f32⟩
  | .hbm, ⟨57, _⟩ => ⟨S4x8192x1024, .f32⟩
  | .hbm, ⟨58, _⟩ => ⟨S1x1x1024, .f32⟩
  | .hbm, ⟨59, _⟩ => ⟨S4x8192x1024, .f32⟩
  | .hbm, ⟨60, _⟩ => ⟨S4x8192x1024, .f32⟩
  | .hbm, ⟨61, _⟩ => ⟨S4x8192x1024, .f32⟩
  | .hbm, ⟨62, _⟩ => ⟨S4x8192x1024, .f32⟩
  | .hbm, ⟨63, _⟩ => ⟨S1024x1024, .f32⟩
  | .hbm, ⟨64, _⟩ => ⟨S4x8192x1024, .f32⟩
  | .hbm, ⟨65, _⟩ => ⟨S4x2x1024, .f32⟩
  | .hbm, ⟨66, _⟩ => ⟨S4x8192x2048, .f32⟩
  | .hbm, ⟨67, _⟩ => ⟨S2048, .f32⟩
  | .hbm, ⟨68, _⟩ => ⟨S1x1x2048, .f32⟩
  | .hbm, ⟨69, _⟩ => ⟨S4x8192x2048, .f32⟩
  | .hbm, ⟨70, _⟩ => ⟨S4x8192x2048, .f32⟩
  | .hbm, ⟨71, _⟩ => ⟨S4x8192x2048, .f32⟩
  | .hbm, ⟨72, _⟩ => ⟨S4x8192x2048, .f32⟩
  | .hbm, ⟨73, _⟩ => ⟨S_, .f32⟩
  | .hbm, ⟨74, _⟩ => ⟨S4x8192x2048, .f32⟩
  | .hbm, ⟨75, _⟩ => ⟨S4x8192x2048, .f32⟩
  | .hbm, ⟨76, _⟩ => ⟨S_, .f32⟩
  | .hbm, ⟨77, _⟩ => ⟨S4x8192x2048, .f32⟩
  | .hbm, ⟨78, _⟩ => ⟨S4x8192x2048, .f32⟩
  | .hbm, ⟨79, _⟩ => ⟨S4x8192x1024, .f32⟩
  | .hbm, ⟨80, _⟩ => ⟨S4x8192x1024, .f32⟩
  | .hbm, ⟨81, _⟩ => ⟨S4x1024x8192, .f32⟩
  | .hbm, ⟨82, _⟩ => ⟨S32768x1024, .f32⟩
  | .hbm, ⟨83, _⟩ => ⟨S32768x1024, .f32⟩
  | .hbm, ⟨84, _⟩ => ⟨S32768x1024, .bf16⟩
  | .hbm, ⟨85, _⟩ => ⟨S4x8192x1024, .f32⟩
  | .hbm, ⟨86, _⟩ => ⟨S32768x1024, .f32⟩
  | .hbm, ⟨87, _⟩ => ⟨S32768x1024, .bf16⟩
  | .hbm, ⟨88, _⟩ => ⟨S_, .f32⟩
  | .hbm, ⟨89, _⟩ => ⟨S4x8192x1024, .f32⟩
  | .hbm, ⟨90, _⟩ => ⟨S4x8192x1024, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S4x8192x1024, .f32⟩
  | .hbm, ⟨95, _⟩ => ⟨S4x8192x1024, .f32⟩
  | .hbm, ⟨96, _⟩ => ⟨S4x16x512x8x128, .f32⟩
  | .hbm, ⟨97, _⟩ => ⟨S4x8x16x128x512, .f32⟩
  | .hbm, ⟨98, _⟩ => ⟨S4x8x16x128x512, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_cst_3 : Ref sig .tc := ⟨.hbm, 73, rfl⟩
abbrev main_v62 : Ref sig .tc := ⟨.hbm, 74, rfl⟩
abbrev main_v63 : Ref sig .tc := ⟨.hbm, 75, rfl⟩
abbrev main_cst_4 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_cst_5 : Ref sig .tc := ⟨.hbm, 88, rfl⟩
abbrev main_v75 : Ref sig .tc := ⟨.hbm, 89, rfl⟩
abbrev main_v76 : Ref sig .tc := ⟨.hbm, 90, rfl⟩
abbrev main_cst_6 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩

abbrev nD : Nat := 1
abbrev τ : Topo := Topo.v7x

variable {F : FTy → Type} [FloatOps F]
-- ==== Kernel5.lean ====
abbrev S32x64x1024 : Shape := ⟨3, ![32, 64, 1024]⟩
abbrev S1x32x2x1024 : Shape := ⟨4, ![1, 32, 2, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x8192 : Shape := ⟨3, ![1, 1024, 8192]⟩
abbrev S1x2048 : Shape := ⟨2, ![1, 2048]⟩
abbrev S1x3x1024 : Shape := ⟨3, ![1, 3, 1024]⟩
abbrev S1x1024x1024 : Shape := ⟨3, ![1, 1024, 1024]⟩
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S1024x8192 : Shape := ⟨2, ![1024, 8192]⟩
abbrev S2048 : Shape := ⟨1, ![2048]⟩
abbrev S3x1024 : Shape := ⟨2, ![3, 1024]⟩
abbrev S1024x1024 : Shape := ⟨2, ![1024, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S32x2x1024 : Shape := ⟨3, ![32, 2, 1024]⟩
abbrev S8x2x1024 : Shape := ⟨3, ![8, 2, 1024]⟩
abbrev S8x64x1024 : Shape := ⟨3, ![8, 64, 1024]⟩
abbrev S8x1x1024 : Shape := ⟨3, ![8, 1, 1024]⟩
abbrev S1x1x1024 : Shape := ⟨3, ![1, 1, 1024]⟩

abbrev nBuf : Space → Nat
  | .hbm => 43
  | .vmem => 33
  | .smem => 0
  | _ => 0

abbrev bufTy : (tb : Table) → Fin (tcTables nBuf tb) → BufTy
  | .hbm, ⟨0, _⟩ => ⟨S32x64x1024, .f32⟩
  | .hbm, ⟨1, _⟩ => ⟨S1x32x2x1024, .f32⟩
  | .hbm, ⟨2, _⟩ => ⟨S1x1024, .f32⟩
  | .hbm, ⟨3, _⟩ => ⟨S1x1024, .f32⟩
  | .hbm, ⟨4, _⟩ => ⟨S1x1024x2816, .f32⟩
  | .hbm, ⟨5, _⟩ => ⟨S1x1024x2816, .f32⟩
  | .hbm, ⟨6, _⟩ => ⟨S1x2816x1024, .f32⟩
  | .hbm, ⟨7, _⟩ => ⟨S1x1024, .f32⟩
  | .hbm, ⟨8, _⟩ => ⟨S1x1024x8192, .f32⟩
  | .hbm, ⟨9, _⟩ => ⟨S1x2048, .f32⟩
  | .hbm, ⟨10, _⟩ => ⟨S1x3x1024, .f32⟩
  | .hbm, ⟨11, _⟩ => ⟨S1x1024, .f32⟩
  | .hbm, ⟨12, _⟩ => ⟨S1x1024x1024, .f32⟩
  | .hbm, ⟨13, _⟩ => ⟨S2048x1024, .f32⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024x2816, .f32⟩
  | .hbm, ⟨19, _⟩ => ⟨S1024x2816, .bf16⟩
  | .hbm, ⟨20, _⟩ => ⟨S1024x2816, .f32⟩
  | .hbm, ⟨21, _⟩ => ⟨S1024x2816, .bf16⟩
  | .hbm, ⟨22, _⟩ => ⟨S2816x1024, .f32⟩
  | .hbm, ⟨23, _⟩ => ⟨S2816x1024, .bf16⟩
  | .hbm, ⟨24, _⟩ => ⟨S1024, .f32⟩
  | .hbm, ⟨25, _⟩ => ⟨S1x1024, .f32⟩
  | .hbm, ⟨26, _⟩ => ⟨S1024x8192, .f32⟩
  | .hbm, ⟨27, _⟩ => ⟨S1024x8192, .bf16⟩
  | .hbm, ⟨28, _⟩ => ⟨S2048, .f32⟩
  | .hbm, ⟨29, _⟩ => ⟨S1x2048, .f32⟩
  | .hbm, ⟨30, _⟩ => ⟨S3x1024, .f32⟩
  | .hbm, ⟨31, _⟩ => ⟨S1024, .f32⟩
  | .hbm, ⟨32, _⟩ => ⟨S1x1024, .f32⟩
  | .hbm, ⟨33, _⟩ => ⟨S1024x1024, .f32⟩
  | .hbm, ⟨34, _⟩ => ⟨S1024x1024, .bf16⟩
  | .hbm, ⟨35, _⟩ => ⟨S2048x1024, .f32⟩
  | .hbm, ⟨36, _⟩ => ⟨S32x2x1024, .f32⟩
  | .hbm, ⟨37, _⟩ => ⟨S2048x1024, .bf16⟩
  | .hbm, ⟨38, _⟩ => ⟨S2048x1024, .f32⟩
  | .hbm, ⟨39, _⟩ => ⟨S2048x1024, .f32⟩
  | .hbm, ⟨40, _⟩ => ⟨S2048x1024, .bf16⟩
  | .hbm, ⟨41, _⟩ => ⟨S2048x1024, .bf16⟩
  | .hbm, ⟨42, _⟩ => ⟨S32x2x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | .local _ .vmem, ⟨9, _⟩ => ⟨S512x2816, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1024x8192, .bf16⟩
  | .local _ .vmem, ⟨14, _⟩ => ⟨S1x2048, .f32⟩
  | .local _ .vmem, ⟨15, _⟩ => ⟨S3x1024, .f32⟩
  | .local _ .vmem, ⟨16, _⟩ => ⟨S1x1024, .f32⟩
  | .local _ .vmem, ⟨17, _⟩ => ⟨S1024x1024, .bf16⟩
  | .local _ .vmem, ⟨18, _⟩ => ⟨S8x2x1024, .f32⟩
  | .local _ .vmem, ⟨19, _⟩ => ⟨S8x2x1024, .f32⟩
  | .local _ .vmem, ⟨20, _⟩ => ⟨S512x1024, .bf16⟩
  | .local _ .vmem, ⟨21, _⟩ => ⟨S512x1024, .bf16⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S8x2x1024, .f32⟩
  | .local _ .vmem, ⟨31, _⟩ => ⟨S8x2x1024, .f32⟩
  | .local _ .vmem, ⟨32, _⟩ => ⟨S8x2x1024, .f32⟩
  | _, _ => ⟨S32x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24_0 : Ref sig .tc := ⟨.hbm, 37, rfl⟩
abbrev main_v24_1 : Ref sig .tc := ⟨.hbm, 38, rfl⟩
abbrev main_v24_2 : Ref sig .tc := ⟨.hbm, 39, rfl⟩
abbrev main_v24_3 : Ref sig .tc := ⟨.hbm, 40, rfl⟩
abbrev main_v24_4 : Ref sig .tc := ⟨.hbm, 41, rfl⟩
abbrev main_v24_5 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc1_stg10_0 : Ref sig .tc := ⟨.vmem, 24, rfl⟩
abbrev cc1_stg10_1 : Ref sig .tc := ⟨.vmem, 25, rfl⟩
abbrev cc1_stg11_0 : Ref sig .tc := ⟨.vmem, 26, rfl⟩
abbrev cc1_stg11_1 : Ref sig .tc := ⟨.vmem, 27, rfl⟩
abbrev cc1_stg12_0 : Ref sig .tc := ⟨.vmem, 28, rfl⟩
abbrev cc1_stg12_1 : Ref sig .tc := ⟨.vmem, 29, rfl⟩
abbrev cc1_stg13_0 : Ref sig .tc := ⟨.vmem, 30, rfl⟩
abbrev cc1_stg13_1 : Ref sig .tc := ⟨.vmem, 31, rfl⟩
abbrev cc1_scratch0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18
abbrev cc1_sem8_0 : DmaSem sig := 19
abbrev cc1_sem8_1 : DmaSem sig := 20
abbrev cc1_sem9_0 : DmaSem sig := 21
abbrev cc1_sem9_1 : DmaSem sig := 22
abbrev cc1_sem10_0 : DmaSem sig := 23
abbrev cc1_sem10_1 : DmaSem sig := 24
abbrev cc1_sem11_0 : DmaSem sig := 25
abbrev cc1_sem11_1 : DmaSem sig := 26
abbrev cc1_sem12_0 : DmaSem sig := 27
abbrev cc1_sem12_1 : DmaSem sig := 28
abbrev cc1_sem13_0 : DmaSem sig := 29
abbrev cc1_sem13_1 : DmaSem sig := 30

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x8192 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S8x2x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S8x2x1024 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== Kernel5Ideal.lean ====
variable {F : FTy → Type} [FloatOps F] [Named F]
def κ : String → Option EReal := fun
  | "q_scale" => some (((1 / 8) * (Real.log 2)⁻¹ : ℝ) : EReal)
  | _ => none
-- ==== Reference5Ideal.lean ====
abbrev S32x64x1024 : Shape := ⟨3, ![32, 64, 1024]⟩
abbrev S1x32x2x1024 : Shape := ⟨4, ![1, 32, 2, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x8192 : Shape := ⟨3, ![1, 1024, 8192]⟩
abbrev S1x2048 : Shape := ⟨2, ![1, 2048]⟩
abbrev S1x3x1024 : Shape := ⟨3, ![1, 3, 1024]⟩
abbrev S1x1024x1024 : Shape := ⟨3, ![1, 1024, 1024]⟩
abbrev S1024 : Shape := ⟨1, ![1024]⟩
abbrev S_ : Shape := ⟨0, ![]⟩
abbrev S32x64 : Shape := ⟨2, ![32, 64]⟩
abbrev S32x64x1 : Shape := ⟨3, ![32, 64, 1]⟩
abbrev S1x1x1024 : Shape := ⟨3, ![1, 1, 1024]⟩
abbrev S1024x2816 : Shape := ⟨2, ![1024, 2816]⟩
abbrev S2816x1024 : Shape := ⟨2, ![2816, 1024]⟩
abbrev S32x64x2816 : Shape := ⟨3, ![32, 64, 2816]⟩
abbrev S1024x8192 : Shape := ⟨2, ![1024, 8192]⟩
abbrev S32x64x8192 : Shape := ⟨3, ![32, 64, 8192]⟩
abbrev S32x2x1024 : Shape := ⟨3, ![32, 2, 1024]⟩
abbrev S32x66x1024 : Shape := ⟨3, ![32, 66, 1024]⟩
abbrev S1024x1024 : Shape := ⟨2, ![1024, 1024]⟩
abbrev S32x64x2048 : Shape := ⟨3, ![32, 64, 2048]⟩
abbrev S2048 : Shape := ⟨1, ![2048]⟩
abbrev S1x1x2048 : Shape := ⟨3, ![1, 1, 2048]⟩
abbrev S2048x1024 : Shape := ⟨2, ![2048, 1024]⟩

abbrev nBuf : Space → Nat
  | .hbm => 158
  | .vmem => 0
  | .smem => 0
  | _ => 0

abbrev hbmTy0_0 (i : Nat) : BufTy := match i % 128 with
  | 0 => ⟨S32x64x1024, .f32⟩
  | 1 => ⟨S1x32x2x1024, .f32⟩
  | 2 => ⟨S1x1024, .f32⟩
  | 3 => ⟨S1x1024, .f32⟩
  | 4 => ⟨S1x1024x2816, .f32⟩
  | 5 => ⟨S1x1024x2816, .f32⟩
  | 6 => ⟨S1x2816x1024, .f32⟩
  | 7 => ⟨S1x1024, .f32⟩
  | 8 => ⟨S1x1024x8192, .f32⟩
  | 9 => ⟨S1x2048, .f32⟩
  | 10 => ⟨S1x3x1024, .f32⟩
  | 11 => ⟨S1x1024, .f32⟩
  | 12 => ⟨S1x1024x1024, .f32⟩
  | 13 => ⟨S1024, .f32⟩
  | 14 => ⟨S32x64x1024, .f32⟩
  | 15 => ⟨S_, .f32⟩
  | 16 => ⟨S32x64, .f32⟩
  | 17 => ⟨S32x64x1, .f32⟩
  | 18 => ⟨S_, .f32⟩
  | 19 => ⟨S32x64x1, .f32⟩
  | 20 => ⟨S32x64x1, .f32⟩
  | 21 => ⟨S_, .f32⟩
  | 22 => ⟨S32x64x1, .f32⟩
  | 23 => ⟨S32x64x1, .f32⟩
  | 24 => ⟨S32x64x1, .f32⟩
  | 25 => ⟨S32x64x1024, .f32⟩
  | 26 => ⟨S32x64x1024, .f32⟩
  | 27 => ⟨S1x1x1024, .f32⟩
  | 28 => ⟨S32x64x1024, .f32⟩
  | 29 => ⟨S32x64x1024, .f32⟩
  | 30 => ⟨S1024x2816, .f32⟩
  | 31 => ⟨S1024x2816, .f32⟩
  | 32 => ⟨S2816x1024, .f32⟩
  | 33 => ⟨S32x64x2816, .f32⟩
  | 34 => ⟨S32x64x2816, .f32⟩
  | 35 => ⟨S32x64x2816, .f32⟩
  | 36 => ⟨S_, .f32⟩
  | 37 => ⟨S32x64x2816, .f32⟩
  | 38 => ⟨S32x64x2816, .f32⟩
  | 39 => ⟨S_, .f32⟩
  | 40 => ⟨S32x64x2816, .f32⟩
  | 41 => ⟨S32x64x2816, .f32⟩
  | 42 => ⟨S32x64x2816, .f32⟩
  | 43 => ⟨S32x64x2816, .f32⟩
  | 44 => ⟨S32x64x2816, .f32⟩
  | 45 => ⟨S32x64x1024, .f32⟩
  | 46 => ⟨S1024, .f32⟩
  | 47 => ⟨S32x64x1024, .f32⟩
  | 48 => ⟨S_, .f32⟩
  | 49 => ⟨S32x64, .f32⟩
  | 50 => ⟨S32x64x1, .f32⟩
  | 51 => ⟨S_, .f32⟩
  | 52 => ⟨S32x64x1, .f32⟩
  | 53 => ⟨S32x64x1, .f32⟩
  | 54 => ⟨S_, .f32⟩
  | 55 => ⟨S32x64x1, .f32⟩
  | 56 => ⟨S32x64x1, .f32⟩
  | 57 => ⟨S32x64x1, .f32⟩
  | 58 => ⟨S32x64x1024, .f32⟩
  | 59 => ⟨S32x64x1024, .f32⟩
  | 60 => ⟨S1x1x1024, .f32⟩
  | 61 => ⟨S32x64x1024, .f32⟩
  | 62 => ⟨S32x64x1024, .f32⟩
  | 63 => ⟨S_, .f32⟩
  | 64 => ⟨S32x64x1024, .f32⟩
  | 65 => ⟨S32x64x1024, .f32⟩
  | 66 => ⟨S32x64x1024, .f32⟩
  | 67 => ⟨S1024, .f32⟩
  | 68 => ⟨S32x64x1024, .f32⟩
  | 69 => ⟨S_, .f32⟩
  | 70 => ⟨S32x64, .f32⟩
  | 71 => ⟨S32x64x1, .f32⟩
  | 72 => ⟨S_, .f32⟩
  | 73 => ⟨S32x64x1, .f32⟩
  | 74 => ⟨S32x64x1, .f32⟩
  | 75 => ⟨S_, .f32⟩
  | 76 => ⟨S32x64x1, .f32⟩
  | 77 => ⟨S32x64x1, .f32⟩
  | 78 => ⟨S32x64x1, .f32⟩
  | 79 => ⟨S32x64x1024, .f32⟩
  | 80 => ⟨S32x64x1024, .f32⟩
  | 81 => ⟨S1x1x1024, .f32⟩
  | 82 => ⟨S32x64x1024, .f32⟩
  | 83 => ⟨S32x64x1024, .f32⟩
  | 84 => ⟨S1024x8192, .f32⟩
  | 85 => ⟨S32x64x8192, .f32⟩
  | 86 => ⟨S32x64x1024, .f32⟩
  | 87 => ⟨S32x64x1024, .f32⟩
  | 88 => ⟨S32x64x1024, .f32⟩
  | 89 => ⟨S32x64x1024, .f32⟩
  | 90 => ⟨S32x64x1024, .f32⟩
  | 91 => ⟨S32x64x1024, .f32⟩
  | 92 => ⟨S32x64x1024, .f32⟩
  | 93 => ⟨S32x64x1024, .f32⟩
  | 94 => ⟨S32x64x1024, .f32⟩
  | 95 => ⟨S32x2x1024, .f32⟩
  | 96 => ⟨S32x66x1024, .f32⟩
  | 97 => ⟨S1024, .f32⟩
  | 98 => ⟨S1x1x1024, .f32⟩
  | 99 => ⟨S1024, .f32⟩
  | 100 => ⟨S32x64x1024, .f32⟩
  | 101 => ⟨S1x1x1024, .f32⟩
  | 102 => ⟨S32x64x1024, .f32⟩
  | 103 => ⟨S32x64x1024, .f32⟩
  | 104 => ⟨S1x1x1024, .f32⟩
  | 105 => ⟨S32x64x1024, .f32⟩
  | 106 => ⟨S32x64x1024, .f32⟩
  | 107 => ⟨S1x1x1024, .f32⟩
  | 108 => ⟨S1024, .f32⟩
  | 109 => ⟨S32x64x1024, .f32⟩
  | 110 => ⟨S1x1x1024, .f32⟩
  | 111 => ⟨S32x64x1024, .f32⟩
  | 112 => ⟨S32x64x1024, .f32⟩
  | 113 => ⟨S32x64x1024, .f32⟩
  | 114 => ⟨S1x1x1024, .f32⟩
  | 115 => ⟨S1024, .f32⟩
  | 116 => ⟨S32x64x1024, .f32⟩
  | 117 => ⟨S1x1x1024, .f32⟩
  | 118 => ⟨S32x64x1024, .f32⟩
  | 119 => ⟨S32x64x1024, .f32⟩
  | 120 => ⟨S32x64x1024, .f32⟩
  | 121 => ⟨S32x64x1024, .f32⟩
  | 122 => ⟨S1024x1024, .f32⟩
  | 123 => ⟨S32x64x1024, .f32⟩
  | 124 => ⟨S32x2x1024, .f32⟩
  | 125 => ⟨S32x64x2048, .f32⟩
  | 126 => ⟨S2048, .f32⟩
  | 127 => ⟨S1x1x2048, .f32⟩
  | _ => ⟨S32x64x1024, .f32⟩

abbrev hbmTy0_1 (i : Nat) : BufTy := match i % 128 with
  | 0 => ⟨S32x64x2048, .f32⟩
  | 1 => ⟨S32x64x2048, .f32⟩
  | 2 => ⟨S32x64x2048, .f32⟩
  | 3 => ⟨S32x64x2048, .f32⟩
  | 4 => ⟨S_, .f32⟩
  | 5 => ⟨S32x64x2048, .f32⟩
  | 6 => ⟨S32x64x2048, .f32⟩
  | 7 => ⟨S_, .f32⟩
  | 8 => ⟨S32x64x2048, .f32⟩
  | 9 => ⟨S32x64x2048, .f32⟩
  | 10 => ⟨S32x64x1024, .f32⟩
  | 11 => ⟨S32x64x1024, .f32⟩
  | 12 => ⟨S2048x1024, .f32⟩
  | 13 => ⟨S_, .f32⟩
  | 14 => ⟨S32x64x1024, .f32⟩
  | 15 => ⟨S32x64x1024, .f32⟩
  | 16 => ⟨S_, .f32⟩
  | 17 => ⟨S_, .f32⟩
  | 18 => ⟨S_, .f32⟩
  | 19 => ⟨S32x64x1024, .f32⟩
  | 20 => ⟨S32x64x1024, .f32⟩
  | 21 => ⟨S2048x1024, .f32⟩
  | 22 => ⟨S2048x1024, .bf16⟩
  | 23 => ⟨S2048x1024, .f32⟩
  | 24 => ⟨S2048x1024, .f32⟩
  | 25 => ⟨S2048x1024, .f32⟩
  | 26 => ⟨S2048x1024, .bf16⟩
  | 27 => ⟨S32x64x1024, .f32⟩
  | 28 => ⟨S2048x1024, .f32⟩
  | 29 => ⟨S2048x1024, .bf16⟩
  | _ => ⟨S32x64x1024, .f32⟩

abbrev hbmTy (i : Nat) : BufTy := match i / 128 with
  | 0 => hbmTy0_0 i
  | 1 => hbmTy0_1 i
  | _ => ⟨S32x64x1024, .f32⟩

abbrev bufTy : (tb : Table) → Fin (tcTables nBuf tb) → BufTy
  | .hbm, ⟨i, _⟩ => hbmTy i
  | _, _ => ⟨S32x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_2 : Ref sig .tc := ⟨.hbm, 48, rfl⟩
abbrev main_v24 : Ref sig .tc := ⟨.hbm, 49, rfl⟩
abbrev main_v25 : Ref sig .tc := ⟨.hbm, 50, rfl⟩
abbrev main_cst_3 : Ref sig .tc := ⟨.hbm, 51, rfl⟩
abbrev main_v26 : Ref sig .tc := ⟨.hbm, 52, rfl⟩
abbrev main_v27 : Ref sig .tc := ⟨.hbm, 53, rfl⟩
abbrev main_cst_4 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_5 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_6 : Ref sig .tc := ⟨.hbm, 69, rfl⟩
abbrev main_v41 : Ref sig .tc := ⟨.hbm, 70, rfl⟩
abbrev main_v42 : Ref sig .tc := ⟨.hbm, 71, rfl⟩
abbrev main_cst_7 : Ref sig .tc := ⟨.hbm, 72, rfl⟩
abbrev main_v43 : Ref sig .tc := ⟨.hbm, 73, rfl⟩
abbrev main_v44 : Ref sig .tc := ⟨.hbm, 74, rfl⟩
abbrev main_cst_8 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_9 : Ref sig .tc := ⟨.hbm, 132, rfl⟩
abbrev main_v101 : Ref sig .tc := ⟨.hbm, 133, rfl⟩
abbrev main_v102 : Ref sig .tc := ⟨.hbm, 134, rfl⟩
abbrev main_cst_10 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_11 : Ref sig .tc := ⟨.hbm, 141, rfl⟩
abbrev main_v108 : Ref sig .tc := ⟨.hbm, 142, rfl⟩
abbrev main_v109 : Ref sig .tc := ⟨.hbm, 143, rfl⟩
abbrev main_cst_12 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩

abbrev nD : Nat := 1
abbrev τ : Topo := Topo.v7x

variable {F : FTy → Type} [FloatOps F]
-- ==== Kernel6.lean ====
abbrev S32x64x1024 : Shape := ⟨3, ![32, 64, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S2048x1024 : Shape := ⟨2, ![2048, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 36
  | .vmem => 19
  | .smem => 0
  | _ => 0

abbrev bufTy : (tb : Table) → Fin (tcTables nBuf tb) → BufTy
  | .hbm, ⟨0, _⟩ => ⟨S32x64x1024, .f32⟩
  | .hbm, ⟨1, _⟩ => ⟨S32x64x1024, .f32⟩
  | .hbm, ⟨2, _⟩ => ⟨S32x64x1024, .f32⟩
  | .hbm, ⟨3, _⟩ => ⟨S32x64x1024, .f32⟩
  | .hbm, ⟨4, _⟩ => ⟨S1x1024x1024, .f32⟩
  | .hbm, ⟨5, _⟩ => ⟨S1x1024x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024x2816, .f32⟩
  | .hbm, ⟨10, _⟩ => ⟨S1x1024x2816, .f32⟩
  | .hbm, ⟨11, _⟩ => ⟨S1x2816x1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1024x2816, .f32⟩
  | .hbm, ⟨17, _⟩ => ⟨S1024x2816, .bf16⟩
  | .hbm, ⟨18, _⟩ => ⟨S1024x2816, .f32⟩
  | .hbm, ⟨19, _⟩ => ⟨S1024x2816, .bf16⟩
  | .hbm, ⟨20, _⟩ => ⟨S2816x1024, .f32⟩
  | .hbm, ⟨21, _⟩ => ⟨S2816x1024, .bf16⟩
  | .hbm, ⟨22, _⟩ => ⟨S1024x1024, .f32⟩
  | .hbm, ⟨23, _⟩ => ⟨S1024x1024, .bf16⟩
  | .hbm, ⟨24, _⟩ => ⟨S1024x1024, .f32⟩
  | .hbm, ⟨25, _⟩ => ⟨S1024x1024, .bf16⟩
  | .hbm, ⟨26, _⟩ => ⟨S1024, .f32⟩
  | .hbm, ⟨27, _⟩ => ⟨S1x1024, .f32⟩
  | .hbm, ⟨28, _⟩ => ⟨S2048x1024, .f32⟩
  | .hbm, ⟨29, _⟩ => ⟨S2048x1024, .bf16⟩
  | .hbm, ⟨30, _⟩ => ⟨S2048x1024, .f32⟩
  | .hbm, ⟨31, _⟩ => ⟨S2048x1024, .bf16⟩
  | .hbm, ⟨32, _⟩ => ⟨S2048x1024, .f32⟩
  | .hbm, ⟨33, _⟩ => ⟨S2048x1024, .bf16⟩
  | .hbm, ⟨34, _⟩ => ⟨S2048x1024, .f32⟩
  | .hbm, ⟨35, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1024x2816, .bf16⟩
  | .local _ .vmem, ⟨14, _⟩ => ⟨S1024x2816, .bf16⟩
  | .local _ .vmem, ⟨15, _⟩ => ⟨S2816x1024, .bf16⟩
  | .local _ .vmem, ⟨16, _⟩ => ⟨S512x1024, .f32⟩
  | .local _ .vmem, ⟨17, _⟩ => ⟨S512x1024, .f32⟩
  | .local _ .vmem, ⟨18, _⟩ => ⟨S512x2816, .bf16⟩
  | _, _ => ⟨S32x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference6Ideal.lean ====
abbrev S32x64x1024 : Shape := ⟨3, ![32, 64, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024 : Shape := ⟨1, ![1024]⟩
abbrev S_ : Shape := ⟨0, ![]⟩
abbrev S32x64 : Shape := ⟨2, ![32, 64]⟩
abbrev S32x64x1 : Shape := ⟨3, ![32, 64, 1]⟩
abbrev S1x1x1024 : Shape := ⟨3, ![1, 1, 1024]⟩
abbrev S1024x2816 : Shape := ⟨2, ![1024, 2816]⟩
abbrev S2816x1024 : Shape := ⟨2, ![2816, 1024]⟩
abbrev S32x64x2816 : Shape := ⟨3, ![32, 64, 2816]⟩
abbrev S2048x1024 : Shape := ⟨2, ![2048, 1024]⟩

abbrev nBuf : Space → Nat
  | .hbm => 91
  | .vmem => 0
  | .smem => 0
  | _ => 0

abbrev bufTy : (tb : Table) → Fin (tcTables nBuf tb) → BufTy
  | .hbm, ⟨0, _⟩ => ⟨S32x64x1024, .f32⟩
  | .hbm, ⟨1, _⟩ => ⟨S32x64x1024, .f32⟩
  | .hbm, ⟨2, _⟩ => ⟨S32x64x1024, .f32⟩
  | .hbm, ⟨3, _⟩ => ⟨S32x64x1024, .f32⟩
  | .hbm, ⟨4, _⟩ => ⟨S1x1024x1024, .f32⟩
  | .hbm, ⟨5, _⟩ => ⟨S1x1024x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024x2816, .f32⟩
  | .hbm, ⟨10, _⟩ => ⟨S1x1024x2816, .f32⟩
  | .hbm, ⟨11, _⟩ => ⟨S1x2816x1024, .f32⟩
  | .hbm, ⟨12, _⟩ => ⟨S1024x1024, .f32⟩
  | .hbm, ⟨13, _⟩ => ⟨S32x64x1024, .f32⟩
  | .hbm, ⟨14, _⟩ => ⟨S32x64x1024, .f32⟩
  | .hbm, ⟨15, _⟩ => ⟨S32x64x1024, .f32⟩
  | .hbm, ⟨16, _⟩ => ⟨S1024x1024, .f32⟩
  | .hbm, ⟨17, _⟩ => ⟨S32x64x1024, .f32⟩
  | .hbm, ⟨18, _⟩ => ⟨S1024, .f32⟩
  | .hbm, ⟨19, _⟩ => ⟨S32x64x1024, .f32⟩
  | .hbm, ⟨20, _⟩ => ⟨S_, .f32⟩
  | .hbm, ⟨21, _⟩ => ⟨S32x64, .f32⟩
  | .hbm, ⟨22, _⟩ => ⟨S32x64x1, .f32⟩
  | .hbm, ⟨23, _⟩ => ⟨S_, .f32⟩
  | .hbm, ⟨24, _⟩ => ⟨S32x64x1, .f32⟩
  | .hbm, ⟨25, _⟩ => ⟨S32x64x1, .f32⟩
  | .hbm, ⟨26, _⟩ => ⟨S_, .f32⟩
  | .hbm, ⟨27, _⟩ => ⟨S32x64x1, .f32⟩
  | .hbm, ⟨28, _⟩ => ⟨S32x64x1, .f32⟩
  | .hbm, ⟨29, _⟩ => ⟨S32x64x1, .f32⟩
  | .hbm, ⟨30, _⟩ => ⟨S32x64x1024, .f32⟩
  | .hbm, ⟨31, _⟩ => ⟨S32x64x1024, .f32⟩
  | .hbm, ⟨32, _⟩ => ⟨S1x1x1024, .f32⟩
  | .hbm, ⟨33, _⟩ => ⟨S32x64x1024, .f32⟩
  | .hbm, ⟨34, _⟩ => ⟨S32x64x1024, .f32⟩
  | .hbm, ⟨35, _⟩ => ⟨S32x64x1024, .f32⟩
  | .hbm, ⟨36, _⟩ => ⟨S1024, .f32⟩
  | .hbm, ⟨37, _⟩ => ⟨S32x64x1024, .f32⟩
  | .hbm, ⟨38, _⟩ => ⟨S_, .f32⟩
  | .hbm, ⟨39, _⟩ => ⟨S32x64, .f32⟩
  | .hbm, ⟨40, _⟩ => ⟨S32x64x1, .f32⟩
  | .hbm, ⟨41, _⟩ => ⟨S_, .f32⟩
  | .hbm, ⟨42, _⟩ => ⟨S32x64x1, .f32⟩
  | .hbm, ⟨43, _⟩ => ⟨S32x64x1, .f32⟩
  | .hbm, ⟨44, _⟩ => ⟨S_, .f32⟩
  | .hbm, ⟨45, _⟩ => ⟨S32x64x1, .f32⟩
  | .hbm, ⟨46, _⟩ => ⟨S32x64x1, .f32⟩
  | .hbm, ⟨47, _⟩ => ⟨S32x64x1, .f32⟩
  | .hbm, ⟨48, _⟩ => ⟨S32x64x1024, .f32⟩
  | .hbm, ⟨49, _⟩ => ⟨S32x64x1024, .f32⟩
  | .hbm, ⟨50, _⟩ => ⟨S1x1x1024, .f32⟩
  | .hbm, ⟨51, _⟩ => ⟨S32x64x1024, .f32⟩
  | .hbm, ⟨52, _⟩ => ⟨S32x64x1024, .f32⟩
  | .hbm, ⟨53, _⟩ => ⟨S1024x2816, .f32⟩
  | .hbm, ⟨54, _⟩ => ⟨S1024x2816, .f32⟩
  | .hbm, ⟨55, _⟩ => ⟨S2816x1024, .f32⟩
  | .hbm, ⟨56, _⟩ => ⟨S32x64x2816, .f32⟩
  | .hbm, ⟨57, _⟩ => ⟨S32x64x2816, .f32⟩
  | .hbm, ⟨58, _⟩ => ⟨S32x64x2816, .f32⟩
  | .hbm, ⟨59, _⟩ => ⟨S_, .f32⟩
  | .hbm, ⟨60, _⟩ => ⟨S32x64x2816, .f32⟩
  | .hbm, ⟨61, _⟩ => ⟨S32x64x2816, .f32⟩
  | .hbm, ⟨62, _⟩ => ⟨S_, .f32⟩
  | .hbm, ⟨63, _⟩ => ⟨S32x64x2816, .f32⟩
  | .hbm, ⟨64, _⟩ => ⟨S32x64x2816, .f32⟩
  | .hbm, ⟨65, _⟩ => ⟨S32x64x2816, .f32⟩
  | .hbm, ⟨66, _⟩ => ⟨S32x64x2816, .f32⟩
  | .hbm, ⟨67, _⟩ => ⟨S32x64x2816, .f32⟩
  | .hbm, ⟨68, _⟩ => ⟨S32x64x1024, .f32⟩
  | .hbm, ⟨69, _⟩ => ⟨S1024, .f32⟩
  | .hbm, ⟨70, _⟩ => ⟨S32x64x1024, .f32⟩
  | .hbm, ⟨71, _⟩ => ⟨S_, .f32⟩
  | .hbm, ⟨72, _⟩ => ⟨S32x64, .f32⟩
  | .hbm, ⟨73, _⟩ => ⟨S32x64x1, .f32⟩
  | .hbm, ⟨74, _⟩ => ⟨S_, .f32⟩
  | .hbm, ⟨75, _⟩ => ⟨S32x64x1, .f32⟩
  | .hbm, ⟨76, _⟩ => ⟨S32x64x1, .f32⟩
  | .hbm, ⟨77, _⟩ => ⟨S_, .f32⟩
  | .hbm, ⟨78, _⟩ => ⟨S32x64x1, .f32⟩
  | .hbm, ⟨79, _⟩ => ⟨S32x64x1, .f32⟩
  | .hbm, ⟨80, _⟩ => ⟨S32x64x1, .f32⟩
  | .hbm, ⟨81, _⟩ => ⟨S32x64x1024, .f32⟩
  | .hbm, ⟨82, _⟩ => ⟨S32x64x1024, .f32⟩
  | .hbm, ⟨83, _⟩ => ⟨S1x1x1024, .f32⟩
  | .hbm, ⟨84, _⟩ => ⟨S32x64x1024, .f32⟩
  | .hbm, ⟨85, _⟩ => ⟨S32x64x1024, .f32⟩
  | .hbm, ⟨86, _⟩ => ⟨S_, .f32⟩
  | .hbm, ⟨87, _⟩ => ⟨S32x64x1024, .f32⟩
  | .hbm, ⟨88, _⟩ => ⟨S32x64x1024, .f32⟩
  | .hbm, ⟨89, _⟩ => ⟨S32x64x1024, .f32⟩
  | .hbm, ⟨90, _⟩ => ⟨S2048x1024, .f32⟩
  | _, _ => ⟨S32x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_5 : Ref sig .tc := ⟨.hbm, 71, rfl⟩
abbrev main_v45 : Ref sig .tc := ⟨.hbm, 72, rfl⟩
abbrev main_v46 : Ref sig .tc := ⟨.hbm, 73, rfl⟩
abbrev main_cst_6 : Ref sig .tc := ⟨.hbm, 74, rfl⟩
abbrev main_v47 : Ref sig .tc := ⟨.hbm, 75, rfl⟩
abbrev main_v48 : Ref sig .tc := ⟨.hbm, 76, rfl⟩
abbrev main_cst_7 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_8 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩

abbrev nD : Nat := 1
abbrev τ : Topo := Topo.v7x

variable {F : FTy → Type} [FloatOps F]
-- ==== Proof.Attn.Finite.lean ====
/- What the precondition says: every entry of the arguments but the gain is a real. -/
module

public import proofs.«01_k».proof.Proof.Gen.Pre_finite
public import Idealize.ShloMosaic.Lib.Pointwise
public import Idealize.ShloMosaic.Lib.ReduceAll

@[expose] public section

set_option maxRecDepth 16384

noncomputable section

namespace Cert.Attn

open Idealize.ShloMosaic Idealize.ShloMosaic.TcCoe Idealize.SL.Sem

/-- An extended real whose magnitude is below plus infinity is a real. -/
theorem real_of_abs (x : EReal) (h : FloatOps.cmpf (F := Ideal) (φ := .f32) .olt (FloatOps.hostAbsf (F := Ideal) (φ := .f32) x) (Ideal.ofBits .f32 0x7F800000#32) = 1#1) :
    ∃ r : ℝ, x = (r : EReal) := by
  have e : Ideal.ofBits .f32 0x7F800000#32 = ⊤ := by simp [Ideal.ofBits, Ideal.ieee]
  rw [e] at h
  induction x with
  | bot => simp [Ideal.hostAbsf_def, Ideal.cmpf_def, Ideal.cmp, Ideal.absf_def] at h
  | top => simp [Ideal.hostAbsf_def, Ideal.cmpf_def, Ideal.cmp, Ideal.absf_def] at h
  | coe r => exact ⟨r, rfl⟩

/-- A conjunction of two truth words. -/
theorem and_one {a b : BitVec 1} (h : IntOp.andi a b = 1#1) : a = 1#1 ∧ b = 1#1 := by
  revert h; revert a b; decide

/-- An array all of whose magnitudes are below plus infinity is an array of reals. -/
theorem reals_of_all {s : Shape} {axes : List (Fin s.rank)} {z : Shape} [Subsingleton z.Idx] (a : FVec Ideal s .f32) (c : FVec Ideal s .f32)
    (hc : ∀ i, c i = Ideal.ofBits .f32 0x7F800000#32) (init : IVec z 1) (h : s.ReducesTo axes z) (hu : 0 < z.numel) (j : z.Idx)
    (e : Host.reduce IntOp.andi (cmpf .olt (Host.absf a) c) init h hu j = 1#1) : ∃ a' : s.Idx → ℝ, ∀ i, a i = (a' i : EReal) := by
  have : ∀ i, ∃ r : ℝ, a i = (r : EReal) := fun i => by
    have hi := Host.reduce_andi_all _ _ _ _ j e i
    exact real_of_abs _ (by rw [← hc i]; exact hi)
  choose a' ha using this
  exact ⟨a', ha⟩

open Cert.Pre_finite in
/-- THE PRECONDITION: nine of the arguments are arrays of reals. -/
theorem finite_reals (a0 a1 a2 a3 : FVec Ideal S1x64 .f32) (a4 : FVec Ideal S1x128 .f32) (a5 a6 : FVec Ideal S32x64x8x2x64 .f32)
    (a7 : FVec Ideal S32x64x8x128 .f32) (a8 : FVec Ideal S1x32x1024x8x2x64 .f32) (a9 : FVec Ideal S1x32x1024x8x128 .f32)
    (h : ∀ j, fn (F := Ideal) a0 a1 a2 a3 a4 a5 a6 a7 a8 a9 j = 1#1) :
    (∃ x : S1x64.Idx → ℝ, ∀ i, a0 i = (x i : EReal)) ∧ (∃ x : S1x64.Idx → ℝ, ∀ i, a1 i = (x i : EReal))
      ∧ (∃ x : S1x64.Idx → ℝ, ∀ i, a2 i = (x i : EReal)) ∧ (∃ x : S1x64.Idx → ℝ, ∀ i, a3 i = (x i : EReal))
      ∧ (∃ x : S32x64x8x2x64.Idx → ℝ, ∀ i, a5 i = (x i : EReal)) ∧ (∃ x : S32x64x8x2x64.Idx → ℝ, ∀ i, a6 i = (x i : EReal))
      ∧ (∃ x : S32x64x8x128.Idx → ℝ, ∀ i, a7 i = (x i : EReal)) ∧ (∃ x : S1x32x1024x8x2x64.Idx → ℝ, ∀ i, a8 i = (x i : EReal))
      ∧ ∃ x : S1x32x1024x8x128.Idx → ℝ, ∀ i, a9 i = (x i : EReal) := by
  haveI : Subsingleton S_.Idx := ⟨fun a b => funext fun i => i.elim0⟩
  have e := h ix0
  dsimp only [fn, fn_part1, fn_part2] at e
  obtain ⟨e, e9⟩ := and_one e
  obtain ⟨e, e8⟩ := and_one e
  obtain ⟨e, e7⟩ := and_one e
  obtain ⟨e, e6⟩ := and_one e
  obtain ⟨e, e5⟩ := and_one e
  obtain ⟨e, e3⟩ := and_one e
  obtain ⟨e, e2⟩ := and_one e
  obtain ⟨e0, e1⟩ := and_one e
  exact ⟨reals_of_all _ _ (fun _ => rfl) _ _ _ _ e0, reals_of_all _ _ (fun _ => rfl) _ _ _ _ e1, reals_of_all _ _ (fun _ => rfl) _ _ _ _ e2,
    reals_of_all _ _ (fun _ => rfl) _ _ _ _ e3, reals_of_all _ _ (fun _ => rfl) _ _ _ _ e5, reals_of_all _ _ (fun _ => rfl) _ _ _ _ e6,
    reals_of_all _ _ (fun _ => rfl) _ _ _ _ e7, reals_of_all _ _ (fun _ => rfl) _ _ _ _ e8, reals_of_all _ _ (fun _ => rfl) _ _ _ _ e9⟩

end Cert.Attn

end
-- ==== Proof.Attn.Block.lean ====
/- What the sample-step attention computes for one head of one sequence, as one function of the vectors it loads. -/
module

public import proofs.«01_k».proof.Proof.Gen.KernelIdeal.Skeleton

@[expose] public section

set_option maxRecDepth 16384

noncomputable section

namespace Cert.Attn

open Idealize.ShloMosaic Idealize.SL.Sem Cert.KernelIdeal Cert.KernelIdeal.Gen

/-- The difference weight from its four parameter vectors. -/
def lam (a b c d : FVec Ideal S1x64 .f32) : FVec Ideal S1x1 .f32 := k0_pay2 a b c d

/-- The head's scaled queries stacked twice: once with the second map's half zeroed, once with the first's. -/
def maps (q : FVec Ideal S64x128 .f32) : FVec Ideal S128x128 .bf16 := k0_pay3 q

/-- The scores of the stacked queries against the 64 new keys. -/
def sNew (q k : FVec Ideal S64x128 .f32) : FVec Ideal S128x64 .f32 := k0_pay4 q k

/-- The scores of the stacked queries against one chunk of 128 cached keys (stored transposed). -/
def sOld (qq : FVec Ideal S128x128 .bf16) (ck : FVec Ideal S1x128x128 .f32) : FVec Ideal S128x128 .f32 :=
  matmul dot_S128x128_S128x128_S128x128_1_0_0_1_n_n none qq
    (truncf .bf16 (shapeCast S128x128 ck shapeCasts_S1x128x128_S128x128) bitsLt_bf16_f32) (constant S128x128 .f32 0x00000000#32)

/-- The largest score of each row, over the eight cached chunks and the new keys. -/
def rowMax (qq : FVec Ideal S128x128 .bf16) (sn : FVec Ideal S128x64 .f32)
    (c0 c1 c2 c3 c4 c5 c6 c7 : FVec Ideal S1x128x128 .f32) : FVec Ideal S128x1 .f32 :=
  maximumf
    (shapeCast S128x1 (multiReduction .maximumf [1] S128
      (maximumf (maximumf (maximumf (maximumf (maximumf (maximumf (maximumf (sOld qq c0) (sOld qq c1)) (sOld qq c2)) (sOld qq c3))
        (sOld qq c4)) (sOld qq c5)) (sOld qq c6)) (sOld qq c7))
      0xFF800000#32 reduces_S128x128_S128 (.inl rfl) rfl) shapeCasts_S128_S128x1)
    (shapeCast S128x1 (multiReduction .maximumf [1] S128 sn 0xFF800000#32 reduces_S128x64_S128 (.inl rfl) rfl) shapeCasts_S128_S128x1)

/-- The unnormalised weights of the new keys. -/
def pNew (sn : FVec Ideal S128x64 .f32) (mx : FVec Ideal S128x1 .f32) : FVec Ideal S128x64 .f32 :=
  exp2 (subf sn (broadcastTo S128x64 mx broadcasts_S128x1_S128x64))

/-- The unnormalised weights of one cached chunk. -/
def pOld (so : FVec Ideal S128x128 .f32) (mx : FVec Ideal S128x1 .f32) : FVec Ideal S128x128 .f32 :=
  exp2 (subf so (broadcastTo S128x128 mx broadcasts_S128x1_S128x128))

/-- The new values summed with their weights. -/
def accNew (p : FVec Ideal S128x64 .f32) (v : FVec Ideal S64x128 .f32) : FVec Ideal S128x128 .f32 :=
  matmul dot_S128x64_S64x128_S128x128_1_0_0_1_n_n none (truncf .bf16 p bitsLt_bf16_f32)
    (truncf .bf16 (shapeCast S64x128 v shapeCasts_S64x128_S64x128) bitsLt_bf16_f32) (constant S128x128 .f32 0x00000000#32)

/-- One chunk of cached values summed with their weights. -/
def accOld (p : FVec Ideal S128x128 .f32) (v : FVec Ideal S1x128x128 .f32) : FVec Ideal S128x128 .f32 :=
  matmul dot_S128x128_S128x128_S128x128_1_0_0_1_n_n none (truncf .bf16 p bitsLt_bf16_f32)
    (truncf .bf16 (shapeCast S128x128 v shapeCasts_S1x128x128_S128x128) bitsLt_bf16_f32) (constant S128x128 .f32 0x00000000#32)

/-- The stacked rows, normalised: the weighted values of all keys over the sum of the weights. -/
def normed (mx : FVec Ideal S128x1 .f32) (sn : FVec Ideal S128x64 .f32) (v : FVec Ideal S64x128 .f32)
    (s0 s1 s2 s3 s4 s5 s6 s7 : FVec Ideal S128x128 .f32) (v0 v1 v2 v3 v4 v5 v6 v7 : FVec Ideal S1x128x128 .f32) :
    FVec Ideal S128x128 .f32 :=
  mulf
    (addf (addf (addf (addf (addf (addf (addf (addf (accNew (pNew sn mx) v) (accOld (pOld s0 mx) v0)) (accOld (pOld s1 mx) v1))
      (accOld (pOld s2 mx) v2)) (accOld (pOld s3 mx) v3)) (accOld (pOld s4 mx) v4)) (accOld (pOld s5 mx) v5))
      (accOld (pOld s6 mx) v6)) (accOld (pOld s7 mx) v7))
    (broadcastTo S128x128
      (divf (broadcast S128x1 (Scalar.ofBits .f32 0x3F800000#32))
        (addf
          (shapeCast S128x1 (multiReduction .add [1] S128
            (addf (addf (addf (addf (addf (addf (addf (addf (broadcast S128x128 (Scalar.ofBits .f32 0x00000000#32)) (pOld s0 mx))
              (pOld s1 mx)) (pOld s2 mx)) (pOld s3 mx)) (pOld s4 mx)) (pOld s5 mx)) (pOld s6 mx)) (pOld s7 mx))
            0x00000000#32 reduces_S128x128_S128 (.inl rfl) rfl) shapeCasts_S128_S128x1)
          (shapeCast S128x1 (multiReduction .add [1] S128 (pNew sn mx) 0x00000000#32 reduces_S128x64_S128 (.inl rfl) rfl)
            shapeCasts_S128_S128x1)))
      broadcasts_S128x1_S128x128)

/-- The first map's row less the weight times the second's. -/
def diff (l : FVec Ideal S1x1 .f32) (n : FVec Ideal S128x128 .f32) : FVec Ideal S64x128 .f32 :=
  subf (extractStridedSlice S64x128 ![0, 0] n slices_S128x128_o0_0_S64x128)
    (mulf (broadcastTo S64x128 l broadcasts_S1x1_S64x128) (extractStridedSlice S64x128 ![64, 0] n slices_S128x128_o64_0_S64x128))

/-- The head's normalisation, gain and rescaling, rounded as stored. -/
def subln (o : FVec Ideal S64x128 .f32) (g : FVec Ideal S1x128 .f32) : FVec Ideal S64x128 .bf16 :=
  truncf .bf16
    (mulf (mulf (mulf o
        (broadcastTo S64x128
          (rsqrt (addf
            (divf (shapeCast S64x1 (multiReduction .add [1] S64 (mulf o o) 0x00000000#32 reduces_S64x128_S64 (.inl rfl) rfl)
              shapeCasts_S64_S64x1) (broadcast S64x1 (Scalar.ofBits .f32 0x43000000#32)))
            (broadcast S64x1 (Scalar.ofBits .f32 0x358637BD#32))))
          broadcasts_S64x1_S64x128))
      (broadcastTo S64x128 (shapeCast S1x128 g shapeCasts_S1x128_S1x128) broadcasts_S1x128_S64x128))
      (broadcast S64x128 (Scalar.ofBits .f32 0x3F4CCCCD#32))) bitsLt_bf16_f32

/-- ONE HEAD OF ONE SEQUENCE: what its 64 rows of 128 columns are stored as, from the loaded vectors. -/
def head (a b c d : FVec Ideal S1x64 .f32) (g : FVec Ideal S1x128 .f32) (q k v : FVec Ideal S64x128 .f32)
    (c0 c1 c2 c3 c4 c5 c6 c7 v0 v1 v2 v3 v4 v5 v6 v7 : FVec Ideal S1x128x128 .f32) : FVec Ideal S64x128 .bf16 :=
  subln (diff (lam a b c d)
    (normed (rowMax (maps q) (sNew q k) c0 c1 c2 c3 c4 c5 c6 c7) (sNew q k) v
      (sOld (maps q) c0) (sOld (maps q) c1) (sOld (maps q) c2) (sOld (maps q) c3)
      (sOld (maps q) c4) (sOld (maps q) c5) (sOld (maps q) c6) (sOld (maps q) c7) v0 v1 v2 v3 v4 v5 v6 v7)) g

end Cert.Attn

end
-- ==== Proof.Attn.Point.lean ====
/- What one grid point of the sample-step attention leaves in its block of the result: each head's 128 columns are
   `Cert.Attn.head` of that head's parts of the point's input blocks. -/
module

public import proofs.«01_k».proof.Proof.Attn.Block
public import proofs.«01_k».proof.Proof.Gen.KernelIdeal.Value
public import Idealize.ShloMosaic.Lib.Pipeline.ValueKit

@[expose] public section

set_option maxRecDepth 16384

noncomputable section

namespace Cert.Attn

open Idealize.ShloMosaic Idealize.ShloMosaic.TcCoe Idealize.SL.Sem Cert.KernelIdeal Cert.KernelIdeal.Gen

variable (m : (ℓ : Loc nD τ sig) → Buf (Elt Ideal) ℓ)

/-- Head `h`'s 128 columns of a block of 64 rows. -/
def col (X : FVec Ideal S64x1024 .f32) (h : ℕ) : FVec Ideal S64x128 .f32 :=
  fun j => X (ix2 (j 0) ⟨(128 * h + (j 1).val) % 1024, Nat.mod_lt _ (by norm_num)⟩)

/-- Chunk `i` of head `h`'s cached keys: 128 rows (the head's columns) of 128 keys. -/
def ckey (X : FVec Ideal S1x1024x1024 .f32) (h i : ℕ) : FVec Ideal S1x128x128 .f32 :=
  fun j => X (ix3 0 ⟨(128 * h + (j 1).val) % 1024, Nat.mod_lt _ (by norm_num)⟩ ⟨(128 * i + (j 2).val) % 1024, Nat.mod_lt _ (by norm_num)⟩)

/-- Chunk `i` of head `h`'s cached values: every eighth row from row `h` of the chunk's 1024. -/
def cval (X : FVec Ideal S1x8192x128 .f32) (h i : ℕ) : FVec Ideal S1x128x128 .f32 :=
  fun j => X (ix3 0 ⟨(h + 1024 * i + 8 * (j 1).val) % 8192, Nat.mod_lt _ (by norm_num)⟩ (j 2))

/-- Head `h` of one sequence, from the sequence's whole blocks. -/
def headOf (a b c d : FVec Ideal S1x64 .f32) (g : FVec Ideal S1x128 .f32) (q k v : FVec Ideal S64x1024 .f32)
    (K : FVec Ideal S1x1024x1024 .f32) (V : FVec Ideal S1x8192x128 .f32) (h : ℕ) : FVec Ideal S64x128 .bf16 :=
  head a b c d g (col q h) (col k h) (col v h)
    (ckey K h 0) (ckey K h 1) (ckey K h 2) (ckey K h 3) (ckey K h 4) (ckey K h 5) (ckey K h 6) (ckey K h 7)
    (cval V h 0) (cval V h 1) (cval V h 2) (cval V h 3) (cval V h 4) (cval V h 5) (cval V h 6) (cval V h 7)

/-- Equal loads and equal places give equal entries. -/
theorem head_congr {a a' b b' c c' d d' : FVec Ideal S1x64 .f32} {g g' : FVec Ideal S1x128 .f32} {q q' k k' v v' : FVec Ideal S64x128 .f32}
    {c0 c1 c2 c3 c4 c5 c6 c7 v0 v1 v2 v3 v4 v5 v6 v7 c0' c1' c2' c3' c4' c5' c6' c7' v0' v1' v2' v3' v4' v5' v6' v7' : FVec Ideal S1x128x128 .f32}
    {x x' : S64x128.Idx}
    (ha : a = a') (hb : b = b') (hc : c = c') (hd : d = d') (hg : g = g') (hq : q = q') (hk : k = k') (hv : v = v')
    (h0 : c0 = c0') (h1 : c1 = c1') (h2 : c2 = c2') (h3 : c3 = c3') (h4 : c4 = c4') (h5 : c5 = c5') (h6 : c6 = c6') (h7 : c7 = c7')
    (w0 : v0 = v0') (w1 : v1 = v1') (w2 : v2 = v2') (w3 : v3 = v3') (w4 : v4 = v4') (w5 : v5 = v5') (w6 : v6 = v6') (w7 : v7 = v7')
    (hx : x = x') :
    head a b c d g q k v c0 c1 c2 c3 c4 c5 c6 c7 v0 v1 v2 v3 v4 v5 v6 v7 x
      = head a' b' c' d' g' q' k' v' c0' c1' c2' c3' c4' c5' c6' c7' v0' v1' v2' v3' v4' v5' v6' v7' x' := by
  subst ha hb hc hd hg hq hk hv h0 h1 h2 h3 h4 h5 h6 h7 w0 w1 w2 w3 w4 w5 w6 w7 hx; rfl

/-- A load of 128 columns of a 64-row block is the head's columns. -/
theorem ld_col (X : FVec Ideal S64x1024 .f32) {o : ℕ} (h : ℕ) (inb : ∀ a, (![0, o] : Fin 2 → ℕ) a + (![64, 128] : Fin 2 → ℕ) a ≤ S64x1024.size a)
    (e : 128 * h = o) : View.ld (Val := Elt Ideal) (e' := .f32) (S := S64x1024) X (Rect.unit (s := S64x1024) ![0, o] ![64, 128] inb) = col X h := by
  funext j
  unfold col
  have hb := inb 1
  simp at hb
  idx_vars j
  pointwise
  blk_ext

/-- A load of a square of the transposed cached keys is a chunk of the head's keys. -/
theorem ld_ckey (X : FVec Ideal S1x1024x1024 .f32) {o p : ℕ} (h i : ℕ)
    (inb : ∀ a, (![0, o, p] : Fin 3 → ℕ) a + (![1, 128, 128] : Fin 3 → ℕ) a ≤ S1x1024x1024.size a)
    (e : 128 * h = o) (e' : 128 * i = p) :
    View.ld (Val := Elt Ideal) (e' := .f32) (S := S1x1024x1024) X (Rect.unit (s := S1x1024x1024) ![0, o, p] ![1, 128, 128] inb) = ckey X h i := by
  funext j
  unfold ckey
  have hb := inb 1
  have hb' := inb 2
  simp at hb hb'
  idx_vars j
  pointwise
  blk_ext

/-- A load of every eighth row of the cached values is a chunk of the head's values. -/
theorem rd_cval (M : Memref sig .tc .vmem S1x8192x128 .f32) (hM : M.IsWhole) (X : FVec Ideal S1x8192x128 .f32) {o : ℕ} (h i : ℕ)
    (inb) (e : h + 1024 * i = o) :
    View.readAt (Elt Ideal) M.view (⟨![0, o, 0], ![1, 128, 128], ![1, 8, 1], inb⟩ : LoadRect S1x8192x128) (hM.unread X) = cval X h i := by
  funext j
  rw [View.readAt_apply, hM.read_unread]
  unfold cval
  have hb := inb 1
  simp at hb
  idx_vars j
  refine congrArg X ?_
  idx_ext

set_option maxHeartbeats 1600000 in
/-- WHAT A POINT STORES, at a row and a column of its block: the entry of the head that owns the column. -/
theorem outs_eq (c : Dev nD) (t : Fin cfg0.N) (y : S64x1024.Idx) : outsAt0 (F := Ideal) m c t y =
    headOf (iblk m c 0 t) (iblk m c 1 t) (iblk m c 2 t) (iblk m c 3 t) (iblk m c 4 t) (iblk m c 5 t) (iblk m c 6 t)
      (iblk m c 7 t) (iblk m c 8 t) (iblk m c 9 t) ((y 1).val / 128) (ix2 (y 0) ⟨(y 1).val % 128, Nat.mod_lt _ (by norm_num)⟩) := by
  unfold outsAt0
  frame_out
  canon_tiles x h
  all_goals
    refine Eq.trans (b := head _ _ _ _ _ _ _ _ _ _ _ _ _ _ _ _ _ _ _ _ _ _ _ _ x) rfl ?_
    have e : 128 * ((y 1).val / 128) + (x 1).val = (y 1).val := by omega
    have hx : x = ix2 (y 0) ⟨(y 1).val % 128, Nat.mod_lt _ (by norm_num)⟩ := by idx_ext <;> omega
    generalize (y 1).val / 128 = hh at e ⊢
    refine head_congr ?_ ?_ ?_ ?_ ?_ ?_ ?_ ?_ ?_ ?_ ?_ ?_ ?_ ?_ ?_ ?_ ?_ ?_ ?_ ?_ ?_ ?_ ?_ ?_ hx
    any_goals with_reducible rfl
    any_goals with_reducible exact ld_col _ _ _ (by omega)
    any_goals with_reducible exact ld_ckey _ _ _ _ (by omega) rfl
    any_goals with_reducible exact rd_cval _ _ _ _ _ _ (by omega)
    all_goals (rw [Memref.IsWhole.read_unread]; with_reducible exact ld_col _ _ _ (by omega))

end Cert.Attn

end
-- ==== Proof.Attn.Reals.lean ====
/- Reals among the extended reals: sums, largest elements and the two readings of a softmax. -/
module

public import Idealize.ShloMosaic.Lib.IdealHost
public import Idealize.ShloMosaic.Lib.Pointwise

@[expose] public section

noncomputable section

namespace Cert.Attn

open Idealize.ShloMosaic

/-- A sum of reals, taken among the extended reals. -/
theorem sum_coe {ι : Type} [Fintype ι] (f : ι → ℝ) : (∑ i, ((f i : ℝ) : EReal)) = ((∑ i, f i : ℝ) : EReal) := by
  classical
  induction (Finset.univ : Finset ι) using Finset.induction_on with
  | empty => simp
  | insert a s ha ih => rw [Finset.sum_insert ha, Finset.sum_insert ha, ih, EReal.coe_add]

/-- The pattern of minus infinity. -/
theorem ofBits_neg_inf : Ideal.ofBits .f32 0xFF800000#32 = ⊥ := by
  simp [Ideal.ofBits, Ideal.ieee]

/-- The largest of finitely many reals (at least one) is a real. -/
theorem fold_max_finset {ι : Type} (s : Finset ι) (f : ι → ℝ) (hs : s.Nonempty) :
    ∃ M : ℝ, s.fold max (⊥ : EReal) (fun i => ((f i : ℝ) : EReal)) = (M : EReal) := by
  induction hs using Finset.Nonempty.cons_induction with
  | singleton a => exact ⟨f a, by simp⟩
  | cons a s ha hs ih =>
    obtain ⟨M, hM⟩ := ih
    refine ⟨max (f a) M, ?_⟩
    rw [Finset.fold_cons, hM]
    exact (EReal.coe_strictMono.monotone.map_max).symm

/-- The same over all of an initial segment. -/
theorem fold_max_coe {n : ℕ} (hn : 0 < n) (f : Fin n → ℝ) :
    ∃ M : ℝ, Finset.univ.fold max (⊥ : EReal) (fun i => ((f i : ℝ) : EReal)) = (M : EReal) :=
  fold_max_finset _ f ⟨⟨0, hn⟩, Finset.mem_univ _⟩

/-- Dividing by a nonzero real. -/
theorem div_coe_coe (x y : ℝ) (h : y ≠ 0) : Ideal.div (x : EReal) (y : EReal) = ((x / y : ℝ) : EReal) := by
  rw [Ideal.div_coe h, ← EReal.coe_mul, mul_one_div]

/-- A power of two of a score in the logarithm's base two, and the exponential of the score itself. -/
theorem two_rpow (x : ℝ) : Real.rpow 2 x = Real.exp (x * Real.log 2) := by
  show (2 : ℝ) ^ x = _
  rw [Real.rpow_def_of_pos two_pos, mul_comm]

/-- THE SOFTMAX DOES NOT DEPEND ON THE SHIFT: an average with weights `exp (y - M)`, whatever `M`. -/
theorem shift {ι : Type} [Fintype ι] (y v : ι → ℝ) (M : ℝ) :
    (∑ j, Real.exp (y j - M) * v j) / (∑ j, Real.exp (y j - M)) = (∑ j, Real.exp (y j) * v j) / ∑ j, Real.exp (y j) := by
  have h : ∀ w : ι → ℝ, (∑ j, Real.exp (y j - M) * w j) = Real.exp (-M) * ∑ j, Real.exp (y j) * w j := by
    intro w
    rw [Finset.mul_sum]
    refine Finset.sum_congr rfl fun j _ => ?_
    rw [sub_eq_add_neg, Real.exp_add]; ring
  have h1 := h (fun _ => 1)
  simp only [mul_one] at h1
  rw [h v, h1, mul_div_mul_left _ _ (Real.exp_pos _).ne']

/-- An average of values over 1024 cached keys and 64 new ones, weighted by the exponentials of their scores. -/
def soft (yo : Fin 1024 → ℝ) (yn : Fin 64 → ℝ) (vo : Fin 1024 → ℝ) (vn : Fin 64 → ℝ) : ℝ :=
  ((∑ j, Real.exp (yo j) * vo j) + ∑ j, Real.exp (yn j) * vn j) / ((∑ j, Real.exp (yo j)) + ∑ j, Real.exp (yn j))

/-- The average does not depend on a number taken off every score. -/
theorem soft_shift (yo : Fin 1024 → ℝ) (yn : Fin 64 → ℝ) (vo : Fin 1024 → ℝ) (vn : Fin 64 → ℝ) (M : ℝ) :
    soft (fun j => yo j - M) (fun j => yn j - M) vo vn = soft yo yn vo vn := by
  have h := shift (ι := Fin 1024 ⊕ Fin 64) (Sum.elim yo yn) (Sum.elim vo vn) M
  simpa [Fintype.sum_sum_type, soft] using h

/-- The weights' sum is not zero. -/
theorem den_ne (yo : Fin 1024 → ℝ) (yn : Fin 64 → ℝ) : (∑ j, Real.exp (yo j)) + (∑ j, Real.exp (yn j)) ≠ 0 := by
  have h : 0 < ∑ j, Real.exp (yo j) := Finset.sum_pos (fun j _ => Real.exp_pos _) ⟨0, Finset.mem_univ _⟩
  have h' : 0 < ∑ j, Real.exp (yn j) := Finset.sum_pos (fun j _ => Real.exp_pos _) ⟨0, Finset.mem_univ _⟩
  exact (add_pos h h').ne'

/-- A sum over 1024 keys is the sum over eight chunks of 128. -/
theorem sum_chunks (f : Fin 1024 → ℝ) : ∑ j, f j =
    (∑ x : Fin 128, f ⟨x.val, by omega⟩) + (∑ x : Fin 128, f ⟨128 + x.val, by omega⟩)
      + (∑ x : Fin 128, f ⟨256 + x.val, by omega⟩) + (∑ x : Fin 128, f ⟨384 + x.val, by omega⟩)
      + (∑ x : Fin 128, f ⟨512 + x.val, by omega⟩) + (∑ x : Fin 128, f ⟨640 + x.val, by omega⟩)
      + (∑ x : Fin 128, f ⟨768 + x.val, by omega⟩) + (∑ x : Fin 128, f ⟨896 + x.val, by omega⟩) := by
  rw [Fin.sum_univ_tiles 8 128 rfl f]
  simp only [Fin.sum_univ_eight]
  simp only [Fin.val_zero, Fin.val_one, Fin.val_two, Nat.mul_zero, Nat.zero_add, Nat.mul_one]
  rfl

/-- The score of query `r` and a key under map `μ`: an eighth of the product over the map's half of the columns. -/
def natScore (q : Fin 64 → Fin 128 → ℝ) (μ : Fin 2) (r : Fin 64) (k : Fin 128 → ℝ) : ℝ :=
  (∑ e : Fin 64, q r ⟨64 * μ.val + e.val, by omega⟩ * k ⟨64 * μ.val + e.val, by omega⟩) * (1 / 8)

/-- ONE ENTRY OF THE ATTENTION: the first map's average less `l` times the second's. -/
def attn (l : ℝ) (q : Fin 64 → Fin 128 → ℝ) (ko : Fin 1024 → Fin 128 → ℝ) (kn : Fin 64 → Fin 128 → ℝ)
    (vo : Fin 1024 → Fin 128 → ℝ) (vn : Fin 64 → Fin 128 → ℝ) (r : Fin 64) (d : Fin 128) : ℝ :=
  soft (fun j => natScore q 0 r (ko j)) (fun j => natScore q 0 r (kn j)) (fun j => vo j d) (fun j => vn j d)
    - l * soft (fun j => natScore q 1 r (ko j)) (fun j => natScore q 1 r (kn j)) (fun j => vo j d) (fun j => vn j d)

/-- The sub-layer norm of a row, its gain and the layer's rescaling. -/
def tail (o : Fin 128 → ℝ) (g : EReal) (d : Fin 128) : EReal :=
  (o d : EReal) * Ideal.rsqrt (Ideal.div (∑ x, (o x : EReal) * (o x : EReal)) (Ideal.ofBits .f32 0x43000000#32)
    + Ideal.ofBits .f32 0x358637BD#32) * g * Ideal.ofBits .f32 0x3F4CCCCD#32

end Cert.Attn

end
-- ==== Proof.Attn.Head.lean ====
/- One head of the sample-step attention, read at a row and a column: with real inputs it is the difference of two softmax
   averages, brought through the sub-layer norm. -/
module

public import proofs.«01_k».proof.Proof.Attn.Block
public import proofs.«01_k».proof.Proof.Attn.Reals
public import Idealize.ShloMosaic.Lib.Pointwise

@[expose] public section

set_option maxRecDepth 16384

noncomputable section

namespace Cert.Attn

open Idealize.ShloMosaic Idealize.ShloMosaic.TcCoe Idealize.SL.Sem Cert.KernelIdeal Cert.KernelIdeal.Gen

/-- The named scale of the queries. -/
theorem q_scale : Named.named (F := Ideal) κ "q_scale" (φ := .f32) 0x3E38AA3B#32 = (((1 / 8) * (Real.log 2)⁻¹ : ℝ) : EReal) := rfl

/-- The stacked queries at map `μ` and row `r`: the columns of the map's half, scaled, and zero elsewhere. -/
theorem maps_row (q : FVec Ideal S64x128 .f32) (μ : Fin 2) (r : Fin 64) (c : Fin 128) :
    maps q (ix2 ⟨64 * μ.val + r.val, by omega⟩ c)
      = if c.val / 64 = μ.val then q (ix2 r c) * (((1 / 8) * (Real.log 2)⁻¹ : ℝ) : EReal) else 0 := by
  have lt : ∀ c : Fin 128, IntOp.cmpi .slt (BitVec.ofNat 32 c.val) 64#32 = if c.val / 64 = (0 : Fin 2).val then 1#1 else 0#1 := by decide
  have ge : ∀ c : Fin 128, IntOp.cmpi .sge (BitVec.ofNat 32 c.val) 64#32 = if c.val / 64 = (1 : Fin 2).val then 1#1 else 0#1 := by decide
  obtain rfl | rfl : μ = 0 ∨ μ = 1 := by omega
  · have e : (ix2 (⟨64 * (0 : Fin 2).val + r.val, by omega⟩ : Fin 128) c : S128x128.Idx) = ix2 ⟨r.val, by omega⟩ c := by idx_ext
    rw [e]
    pointwise [maps, k0_pay3]
    rw [q_scale, lt]
    by_cases h : c.val / 64 = 0 <;> simp [h, Scalar.select]
  · have e : (ix2 (⟨64 * (1 : Fin 2).val + r.val, by omega⟩ : Fin 128) c : S128x128.Idx) = ix2 ⟨64 + r.val, by omega⟩ c := by idx_ext
    rw [e]
    pointwise [maps, k0_pay3]
    rw [q_scale, ge]
    by_cases h : c.val / 64 = 1 <;> simp [h, Scalar.select]

/-- A product with a stacked row is the product over the map's half. -/
theorem half_sum (μ : Fin 2) (f g : Fin 128 → EReal) :
    (∑ c, (if c.val / 64 = μ.val then f c else 0) * g c) = ∑ e : Fin 64, f ⟨64 * μ.val + e.val, by omega⟩ * g ⟨64 * μ.val + e.val, by omega⟩ := by
  rw [Fin.sum_univ_tiles 2 64 rfl, Fin.sum_univ_two]
  obtain rfl | rfl : μ = 0 ∨ μ = 1 := by omega
  · have h1 : ∀ e : Fin 64, ((1 : Fin 2).val * 64 + e.val) / 64 ≠ (0 : Fin 2).val := fun e => by simp; try omega
    have h0 : ∀ e : Fin 64, ((0 : Fin 2).val * 64 + e.val) / 64 = (0 : Fin 2).val := fun e => by simp
    simp only [h0, h1, if_true, if_false, zero_mul, Finset.sum_const_zero, add_zero]
    rfl
  · have h1 : ∀ e : Fin 64, ((1 : Fin 2).val * 64 + e.val) / 64 = (1 : Fin 2).val := fun e => by simp; try omega
    have h0 : ∀ e : Fin 64, ((0 : Fin 2).val * 64 + e.val) / 64 ≠ (1 : Fin 2).val := fun e => by simp; omega
    simp only [h0, h1, if_true, if_false, zero_mul, Finset.sum_const_zero, zero_add]
    rfl

/-- The score of query `r` and a key under map `μ`, in the base-two logarithm's units. -/
def score (q : Fin 64 → Fin 128 → ℝ) (μ : Fin 2) (r : Fin 64) (k : Fin 128 → ℝ) : ℝ :=
  ∑ e : Fin 64, q r ⟨64 * μ.val + e.val, by omega⟩ * ((1 / 8) * (Real.log 2)⁻¹) * k ⟨64 * μ.val + e.val, by omega⟩

/-- The scores against a chunk of the cached keys. -/
theorem s_old (q : FVec Ideal S64x128 .f32) (ck : FVec Ideal S1x128x128 .f32) (q' : Fin 64 → Fin 128 → ℝ) (k' : Fin 128 → Fin 128 → ℝ)
    (hq : ∀ r c, q (ix2 r c) = (q' r c : EReal)) (hk : ∀ c x, ck (ix3 0 c x) = (k' x c : EReal)) (μ : Fin 2) (r : Fin 64) (x : Fin 128) :
    sOld (maps q) ck (ix2 ⟨64 * μ.val + r.val, by omega⟩ x) = (score q' μ r (k' x) : EReal) := by
  pointwise [sOld]
  simp only [maps_row, hq, hk]
  refine (half_sum μ (fun c => (q' r c : EReal) * (((1 / 8) * (Real.log 2)⁻¹ : ℝ) : EReal)) (fun c => (k' x c : EReal))).trans ?_
  simp only [score, ← EReal.coe_mul, sum_coe]

/-- The scores against the new keys. -/
theorem s_new (q k : FVec Ideal S64x128 .f32) (q' k' : Fin 64 → Fin 128 → ℝ)
    (hq : ∀ r c, q (ix2 r c) = (q' r c : EReal)) (hk : ∀ x c, k (ix2 x c) = (k' x c : EReal)) (μ : Fin 2) (r : Fin 64) (x : Fin 64) :
    sNew q k (ix2 ⟨64 * μ.val + r.val, by omega⟩ x) = (score q' μ r (k' x) : EReal) := by
  pointwise [sNew, k0_pay4]
  simp only [← maps.eq_1]
  simp only [maps_row, hq, hk]
  refine (half_sum μ (fun c => (q' r c : EReal) * (((1 / 8) * (Real.log 2)⁻¹ : ℝ) : EReal)) (fun c => (k' x c : EReal))).trans ?_
  simp only [score, ← EReal.coe_mul, sum_coe]

/-- The largest score of a row is a real. -/
theorem row_max (qq : FVec Ideal S128x128 .bf16) (sn : FVec Ideal S128x64 .f32)
    (c0 c1 c2 c3 c4 c5 c6 c7 : FVec Ideal S1x128x128 .f32) (r : Fin 128) (n' : Fin 64 → ℝ) (o : Fin 8 → Fin 128 → ℝ)
    (hn : ∀ x, sn (ix2 r x) = (n' x : EReal)) (h0 : ∀ x, sOld qq c0 (ix2 r x) = (o 0 x : EReal))
    (h1 : ∀ x, sOld qq c1 (ix2 r x) = (o 1 x : EReal)) (h2 : ∀ x, sOld qq c2 (ix2 r x) = (o 2 x : EReal))
    (h3 : ∀ x, sOld qq c3 (ix2 r x) = (o 3 x : EReal)) (h4 : ∀ x, sOld qq c4 (ix2 r x) = (o 4 x : EReal))
    (h5 : ∀ x, sOld qq c5 (ix2 r x) = (o 5 x : EReal)) (h6 : ∀ x, sOld qq c6 (ix2 r x) = (o 6 x : EReal))
    (h7 : ∀ x, sOld qq c7 (ix2 r x) = (o 7 x : EReal)) :
    ∃ M : ℝ, rowMax qq sn c0 c1 c2 c3 c4 c5 c6 c7 (ix2 r 0) = (M : EReal) := by
  pointwise [rowMax]
  have mc : ∀ a b : ℝ, max (a : EReal) (b : EReal) = ((max a b : ℝ) : EReal) := fun a b => (EReal.coe_strictMono.monotone.map_max).symm
  simp only [hn, h0, h1, h2, h3, h4, h5, h6, h7, mc, ofBits_neg_inf]
  obtain ⟨A, hA⟩ := fold_max_coe (n := 128) (by norm_num) fun x =>
    max (max (max (max (max (max (max (o 0 x) (o 1 x)) (o 2 x)) (o 3 x)) (o 4 x)) (o 5 x)) (o 6 x)) (o 7 x)
  obtain ⟨B, hB⟩ := fold_max_coe (n := 64) (by norm_num) n'
  exact ⟨max A B, by rw [hA, hB, mc]⟩

/-- The weighted average a row of the stacked products holds, with the cached keys in eight chunks. -/
theorem normed_eq (mx : FVec Ideal S128x1 .f32) (sn : FVec Ideal S128x64 .f32) (v : FVec Ideal S64x128 .f32)
    (s0 s1 s2 s3 s4 s5 s6 s7 : FVec Ideal S128x128 .f32) (v0 v1 v2 v3 v4 v5 v6 v7 : FVec Ideal S1x128x128 .f32) (r d : Fin 128)
    (M : ℝ) (n vn : Fin 64 → ℝ) (o vo : Fin 1024 → ℝ) (hM : mx (ix2 r 0) = (M : EReal))
    (hn : ∀ x, sn (ix2 r x) = (n x : EReal)) (hvn : ∀ x, v (ix2 x d) = (vn x : EReal))
    (h0 : ∀ x : Fin 128, s0 (ix2 r x) = (o ⟨x.val, by omega⟩ : EReal)) (h1 : ∀ x : Fin 128, s1 (ix2 r x) = (o ⟨128 + x.val, by omega⟩ : EReal))
    (h2 : ∀ x : Fin 128, s2 (ix2 r x) = (o ⟨256 + x.val, by omega⟩ : EReal)) (h3 : ∀ x : Fin 128, s3 (ix2 r x) = (o ⟨384 + x.val, by omega⟩ : EReal))
    (h4 : ∀ x : Fin 128, s4 (ix2 r x) = (o ⟨512 + x.val, by omega⟩ : EReal)) (h5 : ∀ x : Fin 128, s5 (ix2 r x) = (o ⟨640 + x.val, by omega⟩ : EReal))
    (h6 : ∀ x : Fin 128, s6 (ix2 r x) = (o ⟨768 + x.val, by omega⟩ : EReal)) (h7 : ∀ x : Fin 128, s7 (ix2 r x) = (o ⟨896 + x.val, by omega⟩ : EReal))
    (k0 : ∀ x : Fin 128, v0 (ix3 0 x d) = (vo ⟨x.val, by omega⟩ : EReal)) (k1 : ∀ x : Fin 128, v1 (ix3 0 x d) = (vo ⟨128 + x.val, by omega⟩ : EReal))
    (k2 : ∀ x : Fin 128, v2 (ix3 0 x d) = (vo ⟨256 + x.val, by omega⟩ : EReal)) (k3 : ∀ x : Fin 128, v3 (ix3 0 x d) = (vo ⟨384 + x.val, by omega⟩ : EReal))
    (k4 : ∀ x : Fin 128, v4 (ix3 0 x d) = (vo ⟨512 + x.val, by omega⟩ : EReal)) (k5 : ∀ x : Fin 128, v5 (ix3 0 x d) = (vo ⟨640 + x.val, by omega⟩ : EReal))
    (k6 : ∀ x : Fin 128, v6 (ix3 0 x d) = (vo ⟨768 + x.val, by omega⟩ : EReal)) (k7 : ∀ x : Fin 128, v7 (ix3 0 x d) = (vo ⟨896 + x.val, by omega⟩ : EReal)) :
    normed mx sn v s0 s1 s2 s3 s4 s5 s6 s7 v0 v1 v2 v3 v4 v5 v6 v7 (ix2 r d)
      = (soft (fun j => o j * Real.log 2) (fun j => n j * Real.log 2) vo vn : EReal) := by
  have ex : ∀ x : ℝ, FloatOps.exp2 (F := Ideal) (φ := .f32) (x : EReal) = ((Real.exp (x * Real.log 2) : ℝ) : EReal) := fun x => by
    rw [← two_rpow]; exact Ideal.exp2_coe x
  pointwise [normed, accNew, accOld, pNew, pOld]
  simp only [hM, hn, hvn, h0, h1, h2, h3, h4, h5, h6, h7, k0, k1, k2, k3, k4, k5, k6, k7, ← EReal.coe_sub, ex, ← EReal.coe_mul, sum_coe,
    ← EReal.coe_add]
  have e1 : (1 : EReal) = ((1 : ℝ) : EReal) := rfl
  have hd := den_ne (fun j => (o j - M) * Real.log 2) (fun j => (n j - M) * Real.log 2)
  have hs := soft_shift (fun j => o j * Real.log 2) (fun j => n j * Real.log 2) vo vn (M * Real.log 2)
  simp only [← sub_mul, soft, sum_chunks] at hs hd ⊢
  rw [← hs]
  simp only [Finset.sum_add_distrib]
  rw [e1, div_coe_coe _ _ hd, ← EReal.coe_mul, mul_one_div]
  congr 2
  ring

/-- The score in the exponential's own units: an eighth of the product over the map's half. -/
theorem score_log (q : Fin 64 → Fin 128 → ℝ) (μ : Fin 2) (r : Fin 64) (k : Fin 128 → ℝ) :
    score q μ r k * Real.log 2 = natScore q μ r k := by
  have h2 : Real.log 2 ≠ 0 := (Real.log_pos one_lt_two).ne'
  rw [score, natScore, Finset.sum_mul, Finset.sum_mul]
  refine Finset.sum_congr rfl fun e _ => ?_
  field_simp

/-- The first map's row less the weight times the second's, at an index. -/
theorem diff_eq (l : FVec Ideal S1x1 .f32) (n : FVec Ideal S128x128 .f32) (r : Fin 64) (d : Fin 128) :
    diff l n (ix2 r d) = n (ix2 ⟨64 * (0 : Fin 2).val + r.val, by simp; omega⟩ d)
      - l (ix2 0 0) * n (ix2 ⟨64 * (1 : Fin 2).val + r.val, by simp; omega⟩ d) := by
  have e0 : (ix2 (⟨64 * (0 : Fin 2).val + r.val, by simp; omega⟩ : Fin 128) d : S128x128.Idx) = ix2 ⟨r.val, by omega⟩ d := by idx_ext
  have e1 : (ix2 (⟨64 * (1 : Fin 2).val + r.val, by simp; omega⟩ : Fin 128) d : S128x128.Idx) = ix2 ⟨64 + r.val, by omega⟩ d := by idx_ext
  rw [e0, e1]
  pointwise [diff]

/-- The sub-layer norm of a row of reals, at an index. -/
theorem subln_eq (o : FVec Ideal S64x128 .f32) (g : FVec Ideal S1x128 .f32) (r : Fin 64) (d : Fin 128) (o' : Fin 128 → ℝ)
    (ho : ∀ x, o (ix2 r x) = (o' x : EReal)) : subln o g (ix2 r d) = tail o' (g (ix2 0 d)) d := by
  pointwise [subln]
  simp only [ho]
  rfl

/-- The weight of the second map, as the four vectors make it. -/
theorem lam_eq (a b c d : FVec Ideal S1x64 .f32) : lam a b c d (ix2 0 0) =
    Ideal.exp (∑ x, a (ix2 0 x) * b (ix2 0 x)) - Ideal.exp (∑ x, c (ix2 0 x) * d (ix2 0 x)) + Ideal.ofBits .f32 0x3E4CCCCD#32 := by
  pointwise [lam, k0_pay2]

end Cert.Attn

end
-- ==== Proof.Attn.HeadOf.lean ====
/- One head of one sequence, from the sequence's input blocks: an entry is the attention of that head's reals, normalised. -/
module

public import proofs.«01_k».proof.Proof.Attn.Point
public import proofs.«01_k».proof.Proof.Attn.Head

@[expose] public section

set_option maxRecDepth 16384

noncomputable section

namespace Cert.Attn

open Idealize.ShloMosaic Idealize.ShloMosaic.TcCoe Idealize.SL.Sem Cert.KernelIdeal Cert.KernelIdeal.Gen

/-- WHAT A HEAD STORES, when its queries, keys, values and weight are reals. -/
theorem headOf_eq (a b c d : FVec Ideal S1x64 .f32) (g : FVec Ideal S1x128 .f32) (q k v : FVec Ideal S64x1024 .f32)
    (K : FVec Ideal S1x1024x1024 .f32) (V : FVec Ideal S1x8192x128 .f32) (h : Fin 8)
    (l : ℝ) (q' kn vn : Fin 64 → Fin 128 → ℝ) (ko vo : Fin 1024 → Fin 128 → ℝ)
    (hl : lam a b c d (ix2 0 0) = (l : EReal))
    (hq : ∀ (r : Fin 64) (c : Fin 128), q (ix2 r ⟨128 * h.val + c.val, by omega⟩) = (q' r c : EReal))
    (hk : ∀ (r : Fin 64) (c : Fin 128), k (ix2 r ⟨128 * h.val + c.val, by omega⟩) = (kn r c : EReal))
    (hv : ∀ (r : Fin 64) (c : Fin 128), v (ix2 r ⟨128 * h.val + c.val, by omega⟩) = (vn r c : EReal))
    (hK : ∀ (j : Fin 1024) (c : Fin 128), K (ix3 0 ⟨128 * h.val + c.val, by omega⟩ j) = (ko j c : EReal))
    (hV : ∀ (j : Fin 1024) (c : Fin 128), V (ix3 0 ⟨8 * j.val + h.val, by omega⟩ c) = (vo j c : EReal))
    (r : Fin 64) (x : Fin 128) :
    headOf a b c d g q k v K V h.val (ix2 r x) = tail (attn l q' ko kn vo vn r) (g (ix2 0 x)) x := by
  have cq : ∀ (X : FVec Ideal S64x1024 .f32) (X' : Fin 64 → Fin 128 → ℝ)
      (_ : ∀ (r : Fin 64) (c : Fin 128), X (ix2 r ⟨128 * h.val + c.val, by omega⟩) = (X' r c : EReal)) (r : Fin 64) (c : Fin 128),
      col X h.val (ix2 r c) = (X' r c : EReal) := fun X X' hX r c => by
    rw [← hX]
    refine congrArg X ?_
    idx_ext <;> omega
  have cK : ∀ (i : Fin 8) (c : Fin 128) (x : Fin 128), ckey K h.val i.val (ix3 0 c x) = (ko ⟨128 * i.val + x.val, by omega⟩ c : EReal) := fun i c x => by
    rw [← hK]
    refine congrArg K ?_
    idx_ext <;> omega
  have cV : ∀ (i : Fin 8) (x : Fin 128) (d : Fin 128), cval V h.val i.val (ix3 0 x d) = (vo ⟨128 * i.val + x.val, by omega⟩ d : EReal) := fun i x d => by
    rw [← hV]
    refine congrArg V ?_
    idx_ext <;> omega
  have so : ∀ (μ : Fin 2) (i : Fin 8) (x : Fin 128), sOld (maps (col q h.val)) (ckey K h.val i.val) (ix2 ⟨64 * μ.val + r.val, by omega⟩ x)
      = (score q' μ r (ko ⟨128 * i.val + x.val, by omega⟩) : EReal) := fun μ i x =>
    s_old _ _ q' (fun x c => ko ⟨128 * i.val + x.val, by omega⟩ c) (cq q q' hq) (cK i) μ r x
  have sn : ∀ (μ : Fin 2) (x : Fin 64), sNew (col q h.val) (col k h.val) (ix2 ⟨64 * μ.val + r.val, by omega⟩ x)
      = (score q' μ r (kn x) : EReal) := fun μ x => s_new _ _ q' kn (cq q q' hq) (cq k kn hk) μ r x
  have row : ∀ (μ : Fin 2) (x : Fin 128), normed (rowMax (maps (col q h.val)) (sNew (col q h.val) (col k h.val)) (ckey K h.val 0)
        (ckey K h.val 1) (ckey K h.val 2) (ckey K h.val 3) (ckey K h.val 4) (ckey K h.val 5) (ckey K h.val 6) (ckey K h.val 7))
      (sNew (col q h.val) (col k h.val)) (col v h.val)
      (sOld (maps (col q h.val)) (ckey K h.val 0)) (sOld (maps (col q h.val)) (ckey K h.val 1)) (sOld (maps (col q h.val)) (ckey K h.val 2))
      (sOld (maps (col q h.val)) (ckey K h.val 3)) (sOld (maps (col q h.val)) (ckey K h.val 4)) (sOld (maps (col q h.val)) (ckey K h.val 5))
      (sOld (maps (col q h.val)) (ckey K h.val 6)) (sOld (maps (col q h.val)) (ckey K h.val 7))
      (cval V h.val 0) (cval V h.val 1) (cval V h.val 2) (cval V h.val 3) (cval V h.val 4) (cval V h.val 5) (cval V h.val 6) (cval V h.val 7)
      (ix2 ⟨64 * μ.val + r.val, by omega⟩ x)
      = (soft (fun j => natScore q' μ r (ko j)) (fun j => natScore q' μ r (kn j)) (fun j => vo j x) (fun j => vn j x) : EReal) := fun μ x => by
    obtain ⟨M, hM⟩ := row_max (maps (col q h.val)) (sNew (col q h.val) (col k h.val)) (ckey K h.val 0)
        (ckey K h.val 1) (ckey K h.val 2) (ckey K h.val 3) (ckey K h.val 4) (ckey K h.val 5) (ckey K h.val 6) (ckey K h.val 7)
        ⟨64 * μ.val + r.val, by omega⟩ (fun x => score q' μ r (kn x)) (fun i x => score q' μ r (ko ⟨128 * i.val + x.val, by omega⟩)) (sn μ)
        (so μ 0) (so μ 1) (so μ 2) (so μ 3) (so μ 4) (so μ 5) (so μ 6) (so μ 7)
    have hz : ∀ x : Fin 128, (⟨128 * (0 : Fin 8).val + x.val, by simp; omega⟩ : Fin 1024) = ⟨x.val, by omega⟩ := fun x => Fin.ext (by simp)
    have := normed_eq _ _ (col v h.val) _ _ _ _ _ _ _ _ _ _ _ _ _ _ _ _ ⟨64 * μ.val + r.val, by omega⟩ x M _ (fun j => vn j x)
      (fun j => score q' μ r (ko j)) (fun j => vo j x) hM (sn μ) (fun j => cq v vn hv j x)
      (fun x => (so μ 0 x).trans (by rw [hz])) (so μ 1) (so μ 2) (so μ 3) (so μ 4) (so μ 5) (so μ 6) (so μ 7)
      (fun y => (cV 0 y x).trans (by rw [hz])) (fun y => cV 1 y x) (fun y => cV 2 y x) (fun y => cV 3 y x) (fun y => cV 4 y x) (fun y => cV 5 y x)
      (fun y => cV 6 y x) (fun y => cV 7 y x)
    simp only [score_log] at this
    exact this
  refine subln_eq _ g r x _ fun y => ?_
  rw [diff_eq, row 0 y, row 1 y, hl, attn, EReal.coe_sub, EReal.coe_mul]

end Cert.Attn

end
-- ==== Proof.Attn.Blocks.lean ====
/- The input blocks of a grid point, as entries of the arguments. -/
module

public import proofs.«01_k».proof.Proof.Attn.HeadOf
public import Idealize.ShloMosaic.Lib.Claim

@[expose] public section

set_option maxRecDepth 16384

noncomputable section

namespace Cert.Attn

open Idealize.ShloMosaic Idealize.ShloMosaic.TcCoe Idealize.SL.Sem Cert.KernelIdeal Cert.KernelIdeal.Gen Idealize.ShloMosaic.StableHlo

variable (m : (ℓ : Loc nD τ sig) → Buf (Elt Ideal) ℓ)

/-- Every window's block, at every point. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0]
    ∧ win0_8.index t = ![t.val, 0, 0] ∧ win0_9.index t = ![t.val, 0, 0] ∧ win0_10.index t = ![t.val, 0] :=
  (by decide +kernel : ∀ t : Fin grid0.N, _)

/-- There are 32 sequences. -/
theorem N_lt (t : Fin cfg0.N) : t.val < 32 := t.isLt

/-- The vectors of the maps' weight, as the point reads them. -/
theorem lam_blk0 (c : Dev nD) (t : Fin cfg0.N) (x : Fin 64) : iblk m c 0 t (ix2 0 x) = m ((c.tc : Thread nD τ).loc main_arg0) (ix2 0 x) := by
  have e : iblk m c 0 t (ix2 0 x) = V m c main_v1 (ix2 0 x) := by blk_point [iblk, V, idx t]
  rw [e]
  entry_read
  pointwise

/-- The second. -/
theorem lam_blk1 (c : Dev nD) (t : Fin cfg0.N) (x : Fin 64) : iblk m c 1 t (ix2 0 x) = m ((c.tc : Thread nD τ).loc main_arg1) (ix2 0 x) := by
  have e : iblk m c 1 t (ix2 0 x) = V m c main_v3 (ix2 0 x) := by blk_point [iblk, V, idx t]
  rw [e]
  entry_read
  pointwise

/-- The third. -/
theorem lam_blk2 (c : Dev nD) (t : Fin cfg0.N) (x : Fin 64) : iblk m c 2 t (ix2 0 x) = m ((c.tc : Thread nD τ).loc main_arg2) (ix2 0 x) := by
  have e : iblk m c 2 t (ix2 0 x) = V m c main_v5 (ix2 0 x) := by blk_point [iblk, V, idx t]
  rw [e]
  entry_read
  pointwise

/-- The fourth. -/
theorem lam_blk3 (c : Dev nD) (t : Fin cfg0.N) (x : Fin 64) : iblk m c 3 t (ix2 0 x) = m ((c.tc : Thread nD τ).loc main_arg3) (ix2 0 x) := by
  have e : iblk m c 3 t (ix2 0 x) = V m c main_v7 (ix2 0 x) := by blk_point [iblk, V, idx t]
  rw [e]
  entry_read
  pointwise

/-- The gain, as the point reads it. -/
theorem gain_blk (c : Dev nD) (t : Fin cfg0.N) (x : Fin 128) : iblk m c 4 t (ix2 0 x) = m ((c.tc : Thread nD τ).loc main_arg4) (ix2 0 x) := by
  have e : iblk m c 4 t (ix2 0 x) = V m c main_v9 (ix2 0 x) := by blk_point [iblk, V, idx t]
  rw [e]
  entry_read
  pointwise

/-- The queries of sequence `t`, by head, map and column. -/
theorem q_blk (c : Dev nD) (t : Fin cfg0.N) (r : Fin 64) (h : Fin 8) (x : Fin 128) :
    iblk m c 5 t (ix2 r ⟨128 * h.val + x.val, by omega⟩)
      = m ((c.tc : Thread nD τ).loc main_arg5) (ix5 ⟨t.val, N_lt t⟩ r h ⟨x.val / 64, by omega⟩ ⟨x.val % 64, by omega⟩) := by
  have ht := N_lt t
  have e : iblk m c 5 t (ix2 r ⟨128 * h.val + x.val, by omega⟩) = V m c main_v10 (ix2 ⟨64 * t.val + r.val, by omega⟩ ⟨128 * h.val + x.val, by omega⟩) := by
    blk_point [iblk, V, idx t]
  rw [e]
  entry_read
  pointwise
  refine congrArg _ ?_
  idx_ext <;> omega

/-- The new keys of sequence `t`, by head, map and column. -/
theorem k_blk (c : Dev nD) (t : Fin cfg0.N) (r : Fin 64) (h : Fin 8) (x : Fin 128) :
    iblk m c 6 t (ix2 r ⟨128 * h.val + x.val, by omega⟩)
      = m ((c.tc : Thread nD τ).loc main_arg6) (ix5 ⟨t.val, N_lt t⟩ r h ⟨x.val / 64, by omega⟩ ⟨x.val % 64, by omega⟩) := by
  have ht := N_lt t
  have e : iblk m c 6 t (ix2 r ⟨128 * h.val + x.val, by omega⟩) = V m c main_v11 (ix2 ⟨64 * t.val + r.val, by omega⟩ ⟨128 * h.val + x.val, by omega⟩) := by
    blk_point [iblk, V, idx t]
  rw [e]
  entry_read
  pointwise
  refine congrArg _ ?_
  idx_ext <;> omega

/-- The new values of sequence `t`, by head and column. -/
theorem v_blk (c : Dev nD) (t : Fin cfg0.N) (r : Fin 64) (h : Fin 8) (x : Fin 128) :
    iblk m c 7 t (ix2 r ⟨128 * h.val + x.val, by omega⟩) = m ((c.tc : Thread nD τ).loc main_arg7) (ix4 ⟨t.val, N_lt t⟩ r h x) := by
  have ht := N_lt t
  have e : iblk m c 7 t (ix2 r ⟨128 * h.val + x.val, by omega⟩) = V m c main_v12 (ix2 ⟨64 * t.val + r.val, by omega⟩ ⟨128 * h.val + x.val, by omega⟩) := by
    blk_point [iblk, V, idx t]
  rw [e]
  entry_read
  pointwise

/-- The cached keys of sequence `t`, stored transposed. -/
theorem ck_blk (c : Dev nD) (t : Fin cfg0.N) (h : Fin 8) (x : Fin 128) (j : Fin 1024) :
    iblk m c 8 t (ix3 0 ⟨128 * h.val + x.val, by omega⟩ j)
      = m ((c.tc : Thread nD τ).loc main_arg8) (ix6 0 ⟨t.val, N_lt t⟩ j h ⟨x.val / 64, by omega⟩ ⟨x.val % 64, by omega⟩) := by
  have ht := N_lt t
  have e : iblk m c 8 t (ix3 0 ⟨128 * h.val + x.val, by omega⟩ j) = V m c main_v15 (ix3 ⟨t.val, ht⟩ ⟨128 * h.val + x.val, by omega⟩ j) := by
    blk_point [iblk, V, idx t]
  rw [e]
  entry_read
  pointwise
  refine congrArg _ ?_
  idx_ext <;> omega

/-- The cached values of sequence `t`, eight heads to a key. -/
theorem cv_blk (c : Dev nD) (t : Fin cfg0.N) (h : Fin 8) (j : Fin 1024) (x : Fin 128) :
    iblk m c 9 t (ix3 0 ⟨8 * j.val + h.val, by omega⟩ x) = m ((c.tc : Thread nD τ).loc main_arg9) (ix5 0 ⟨t.val, N_lt t⟩ j h x) := by
  have ht := N_lt t
  have e : iblk m c 9 t (ix3 0 ⟨8 * j.val + h.val, by omega⟩ x) = V m c main_v17 (ix3 ⟨t.val, ht⟩ ⟨8 * j.val + h.val, by omega⟩ x) := by
    blk_point [iblk, V, idx t]
  rw [e]
  entry_read
  pointwise

end Cert.Attn

end
-- ==== Proof.Attn.Ref.lean ====
/- What the reference computes: an entry of its attention is the same difference of two softmax averages, normalised. -/
module

public import proofs.«01_k».proof.Proof.Attn.Reals
public import proofs.«01_k».proof.Proof.Gen.ReferenceIdeal.Read
public import Idealize.ShloMosaic.Lib.Pointwise

@[expose] public section

set_option maxRecDepth 16384

noncomputable section

namespace Cert.Attn.Ref

open Idealize.ShloMosaic Idealize.ShloMosaic.TcCoe Idealize.SL.Sem Cert.ReferenceIdeal Cert.ReferenceIdeal.Gen Cert.ReferenceIdeal.Read

/-- The columns of one head of the queries or of new keys, the two maps side by side. -/
def qrow (Q : S32x64x8x2x64.Idx → ℝ) (b : Fin 32) (h : Fin 8) (r : Fin 64) (c : Fin 128) : ℝ :=
  Q (ix5 b r h ⟨c.val / 64, by omega⟩ ⟨c.val % 64, by omega⟩)

/-- The columns of one head of the cached keys, the two maps side by side. -/
def krow (K : S1x32x1024x8x2x64.Idx → ℝ) (b : Fin 32) (h : Fin 8) (j : Fin 1024) (c : Fin 128) : ℝ :=
  K (ix6 0 b j h ⟨c.val / 64, by omega⟩ ⟨c.val % 64, by omega⟩)

/-- The values of one head, new and cached. -/
def vnew (V : S32x64x8x128.Idx → ℝ) (b : Fin 32) (h : Fin 8) (r : Fin 64) (c : Fin 128) : ℝ := V (ix4 b r h c)
/-- The values of one head, new and cached. -/
def vold (V : S1x32x1024x8x128.Idx → ℝ) (b : Fin 32) (h : Fin 8) (j : Fin 1024) (c : Fin 128) : ℝ := V (ix5 0 b j h c)

/-- Each row of scores has a first element. -/
theorem drop_first (hr : S32x8x2x64x1088.ReducesTo [4] S32x8x2x64) (b : Fin 32) (h : Fin 8) (μ : Fin 2) (r : Fin 64) :
    hr.drop (ix5 b h μ r 0) = ix4 b h μ r := by
  idx_ext

/-- The largest element of a row of reals is a real. -/
theorem reduce_real (X : FVec Ideal S32x8x2x64x1088 .f32) (c : FVec Ideal S_ .f32) (hc : ∀ i, c i = ⊥) (hr : S32x8x2x64x1088.ReducesTo [4] S32x8x2x64)
    (hu : 0 < S_.numel) (b : Fin 32) (h : Fin 8) (μ : Fin 2) (r : Fin 64) (hX : ∀ i, ∃ s : ℝ, X i = (s : EReal)) :
    ∃ M : ℝ, Host.reduce FloatOps.maximumf X c hr hu (ix4 b h μ r) = (M : EReal) := by
  choose s hs using hX
  rw [Host.reduce_eq_fold, hc]
  obtain rfl : X = fun i => (s i : EReal) := funext hs
  exact fold_max_finset _ s ⟨ix5 b h μ r 0, by simp [drop_first]⟩

variable (x0 x1 x2 x3 : (⟨S1x64, .f32⟩ : BufTy).Contents (Elt Ideal)) (x4 : (⟨S1x128, .f32⟩ : BufTy).Contents (Elt Ideal))
  (x5 x6 : (⟨S32x64x8x2x64, .f32⟩ : BufTy).Contents (Elt Ideal)) (x7 : (⟨S32x64x8x128, .f32⟩ : BufTy).Contents (Elt Ideal))
  (x8 : (⟨S1x32x1024x8x2x64, .f32⟩ : BufTy).Contents (Elt Ideal)) (x9 : (⟨S1x32x1024x8x128, .f32⟩ : BufTy).Contents (Elt Ideal))
  (Q N : S32x64x8x2x64.Idx → ℝ) (V : S32x64x8x128.Idx → ℝ) (K : S1x32x1024x8x2x64.Idx → ℝ) (W : S1x32x1024x8x128.Idx → ℝ)

/-- The scale of the scores. -/
theorem eighth : Ideal.ofBits .f32 0x3E000000#32 = ((1 / 8 : ℝ) : EReal) := by
  simp only [Ideal.ofBits, Ideal.ieee]
  simp
  rw [← EReal.coe_mul]
  norm_num

/-- A score: against a cached key, then against a new one. -/
theorem score (hQ : ∀ i, x5 i = (Q i : EReal)) (hN : ∀ i, x6 i = (N i : EReal)) (hK : ∀ i, x8 i = (K i : EReal))
    (b : Fin 32) (h : Fin 8) (μ : Fin 2) (r : Fin 64) :
    (∀ j : Fin 1024, val_main_v19 x5 x6 x8 (ix5 b h μ r ⟨j.val, by omega⟩) = (natScore (qrow Q b h) μ r (krow K b h j) : EReal))
      ∧ ∀ j : Fin 64, val_main_v19 x5 x6 x8 (ix5 b h μ r ⟨1024 + j.val, by omega⟩) = (natScore (qrow Q b h) μ r (qrow N b h j) : EReal) := by
  constructor
  · intro j
    pointwise [val_main_v19, val_main_v18, val_main_v17, val_main_v15, val_main_v5, val_main_cst_2]
    simp only [hQ, hK, eighth, ← EReal.coe_mul, sum_coe, natScore]
    refine congrArg (fun s : ℝ => ((s * (1 / 8) : ℝ) : EReal)) (Finset.sum_congr rfl fun e _ => ?_)
    refine congrArg₂ (· * ·) (congrArg Q ?_) (congrArg K ?_) <;> idx_ext <;> omega
  · intro j
    pointwise [val_main_v19, val_main_v18, val_main_v17, val_main_v15, val_main_v5, val_main_cst_2]
    simp only [hQ, hN, eighth, ← EReal.coe_mul, sum_coe, natScore]
    refine congrArg (fun s : ℝ => ((s * (1 / 8) : ℝ) : EReal)) (Finset.sum_congr rfl fun e _ => ?_)
    refine congrArg₂ (· * ·) (congrArg Q ?_) (congrArg N ?_) <;> idx_ext <;> omega

/-- Every score is a real. -/
theorem score_real (hQ : ∀ i, x5 i = (Q i : EReal)) (hN : ∀ i, x6 i = (N i : EReal)) (hK : ∀ i, x8 i = (K i : EReal))
    (b : Fin 32) (h : Fin 8) (μ : Fin 2) (r : Fin 64) : ∃ s : Fin 1088 → ℝ, ∀ j, val_main_v19 x5 x6 x8 (ix5 b h μ r j) = (s j : EReal) := by
  obtain ⟨h0, h1⟩ := score x5 x6 x8 Q N K hQ hN hK b h μ r
  refine ⟨fun j => if hj : j.val < 1024 then natScore (qrow Q b h) μ r (krow K b h ⟨j.val, hj⟩)
    else natScore (qrow Q b h) μ r (qrow N b h ⟨j.val - 1024, by omega⟩), fun j => ?_⟩
  by_cases hj : j.val < 1024
  · simp only [dif_pos hj]; exact h0 ⟨j.val, hj⟩
  · simp only [dif_neg hj]
    have e : (⟨1024 + (⟨j.val - 1024, by omega⟩ : Fin 64).val, by simp; omega⟩ : Fin 1088) = j := Fin.ext (by simp; omega)
    rw [← h1 ⟨j.val - 1024, by omega⟩, e]

/-- The largest score of a row is a real. -/
theorem row_max (hQ : ∀ i, x5 i = (Q i : EReal)) (hN : ∀ i, x6 i = (N i : EReal)) (hK : ∀ i, x8 i = (K i : EReal))
    (b : Fin 32) (h : Fin 8) (μ : Fin 2) (r : Fin 64) : ∃ M : ℝ, val_main_v22 x5 x6 x8 (ix4 b h μ r) = (M : EReal) := by
  obtain ⟨M, e⟩ : ∃ M : ℝ, val_main_v20 x5 x6 x8 (ix4 b h μ r) = (M : EReal) :=
    reduce_real _ _ (fun _ => ofBits_neg_inf) _ _ b h μ r fun i => by
      idx_vars i
      obtain ⟨s, hs⟩ := score_real x5 x6 x8 Q N K hQ hN hK i0 i1 i2 i3
      exact ⟨s i4, hs i4⟩
  refine ⟨M, ?_⟩
  rw [val_main_v22_apply, e]
  show max (Ideal.ofBits .f32 0xFF800000#32) (M : EReal) = _
  rw [ofBits_neg_inf]
  exact max_eq_right bot_le

/-- The weights of a row, from its scores and its largest. -/
theorem weight (b : Fin 32) (h : Fin 8) (μ : Fin 2) (r : Fin 64) (j : Fin 1088) :
    val_main_v30 x5 x6 x8 (ix5 b h μ r j) =
      Ideal.div (Ideal.exp (val_main_v19 x5 x6 x8 (ix5 b h μ r j) - val_main_v22 x5 x6 x8 (ix4 b h μ r)))
        (∑ x : Fin 1088, Ideal.exp (val_main_v19 x5 x6 x8 (ix5 b h μ r x) - val_main_v22 x5 x6 x8 (ix4 b h μ r))) := by
  pointwise [val_main_v30, val_main_v29, val_main_v28, val_main_v27, val_main_v26, val_main_v25, val_main_v24, val_main_v23, val_main_cst_5]

/-- A sum over the 1088 keys, cached keys first. -/
theorem sum_keys {M : Type} [AddCommMonoid M] (f : Fin 1088 → M) :
    ∑ j, f j = (∑ j : Fin 1024, f ⟨j.val, by omega⟩) + ∑ j : Fin 64, f ⟨1024 + j.val, by omega⟩ :=
  Fin.sum_univ_add (a := 1024) (b := 64) f

/-- The weights of a row as reals. -/
theorem weight_eq (hQ : ∀ i, x5 i = (Q i : EReal)) (hN : ∀ i, x6 i = (N i : EReal)) (hK : ∀ i, x8 i = (K i : EReal))
    (b : Fin 32) (h : Fin 8) (μ : Fin 2) (r : Fin 64) : ∃ M : ℝ,
    (∀ j : Fin 1024, val_main_v30 x5 x6 x8 (ix5 b h μ r ⟨j.val, by omega⟩) = ((Real.exp (natScore (qrow Q b h) μ r (krow K b h j) - M)
        / ((∑ j, Real.exp (natScore (qrow Q b h) μ r (krow K b h j) - M)) + ∑ j, Real.exp (natScore (qrow Q b h) μ r (qrow N b h j) - M)) : ℝ) : EReal))
      ∧ ∀ j : Fin 64, val_main_v30 x5 x6 x8 (ix5 b h μ r ⟨1024 + j.val, by omega⟩) = ((Real.exp (natScore (qrow Q b h) μ r (qrow N b h j) - M)
        / ((∑ j, Real.exp (natScore (qrow Q b h) μ r (krow K b h j) - M)) + ∑ j, Real.exp (natScore (qrow Q b h) μ r (qrow N b h j) - M)) : ℝ) : EReal) := by
  obtain ⟨h0, h1⟩ := score x5 x6 x8 Q N K hQ hN hK b h μ r
  obtain ⟨M, hM⟩ := row_max x5 x6 x8 Q N K hQ hN hK b h μ r
  refine ⟨M, fun j => ?_, fun j => ?_⟩ <;>
  · rw [weight, sum_keys]
    simp only [h0, h1, hM, ← EReal.coe_sub, Ideal.exp_coe, sum_coe, ← EReal.coe_add]
    exact div_coe_coe _ _ (den_ne _ _)

/-- An entry of the attention before the norm. -/
theorem out_eq (hQ : ∀ i, x5 i = (Q i : EReal)) (hN : ∀ i, x6 i = (N i : EReal)) (hV : ∀ i, x7 i = (V i : EReal))
    (hK : ∀ i, x8 i = (K i : EReal)) (hW : ∀ i, x9 i = (W i : EReal)) (l : ℝ) (hl : val_main_v14 x0 x1 x2 x3 ix0 = (l : EReal))
    (b : Fin 32) (r : Fin 64) (h : Fin 8) (d : Fin 128) :
    val_main_v39 x0 x1 x2 x3 x5 x6 x7 x8 x9 (ix4 b r h d)
      = (attn l (qrow Q b h) (krow K b h) (qrow N b h) (vold W b h) (vnew V b h) r d : EReal) := by
  obtain ⟨M, a0, a1⟩ := weight_eq x5 x6 x8 Q N K hQ hN hK b h 0 r
  obtain ⟨M', b0, b1⟩ := weight_eq x5 x6 x8 Q N K hQ hN hK b h 1 r
  pointwise [val_main_v39, val_main_v38, val_main_v37, val_main_v36, val_main_v35, val_main_v34, val_main_v33, val_main_v32, val_main_v31,
    val_main_v16, val_main_v6]
  simp only [a0, a1, b0, b1, hV, hW, hl, ← EReal.coe_mul, ← EReal.coe_sub, sum_coe, ← EReal.coe_add, attn, EReal.coe_eq_coe_iff]
  rw [← soft_shift _ _ _ _ M, ← soft_shift _ (fun j => natScore (qrow Q b h) 1 r (qrow N b h j)) _ _ M']
  simp only [soft, vold, vnew]
  generalize (∑ j, Real.exp (natScore (qrow Q b h) 0 r (krow K b h j) - M)) + ∑ j, Real.exp (natScore (qrow Q b h) 0 r (qrow N b h j) - M) = D
  generalize (∑ j, Real.exp (natScore (qrow Q b h) 1 r (krow K b h j) - M')) + ∑ j, Real.exp (natScore (qrow Q b h) 1 r (qrow N b h j) - M') = D'
  simp only [add_div, mul_add, Finset.sum_div, Finset.mul_sum, mul_sub, Finset.sum_sub_distrib]
  simp only [div_eq_mul_inv, mul_comm, mul_left_comm, mul_assoc]
  ring

/-- The weight of the second map, as the four vectors make it. -/
theorem lam_eq : val_main_v14 x0 x1 x2 x3 ix0 =
    Ideal.exp (∑ x, x0 (ix2 0 x) * x1 (ix2 0 x)) - Ideal.exp (∑ x, x2 (ix2 0 x) * x3 (ix2 0 x)) + Ideal.ofBits .f32 0x3E4CCCCD#32 := by
  pointwise [val_main_v14, val_main_v13, val_main_v12, val_main_v11, val_main_v10, val_main_v9, val_main_v8, val_main_v7, val_main_v3,
    val_main_v2, val_main_v1, val_main_v0, val_main_cst, val_main_cst_0, val_main_cst_1]

/-- The norm, the gain and the rescaling, over the attention's entries. -/
theorem norm_eq (b : Fin 32) (r : Fin 64) (h : Fin 8) (d : Fin 128) (o : Fin 128 → ℝ)
    (ho : ∀ x, val_main_v39 x0 x1 x2 x3 x5 x6 x7 x8 x9 (ix4 b r h x) = (o x : EReal)) :
    val_main_v54 x0 x1 x2 x3 x4 x5 x6 x7 x8 x9 (ix4 b r h d) = tail o (x4 (ix2 0 d)) d := by
  pointwise [val_main_v54, val_main_v53, val_main_v52, val_main_v51, val_main_v50, val_main_v49, val_main_v48, val_main_v47, val_main_v46,
    val_main_v45, val_main_v44, val_main_v43, val_main_v42, val_main_v41, val_main_v40, val_main_v4, val_main_cst_6, val_main_cst_7,
    val_main_cst_8, val_main_cst_9]
  simp only [ho]
  rfl

/-- THE REFERENCE, AT AN ENTRY of its result. -/
theorem ref_eq (hQ : ∀ i, x5 i = (Q i : EReal)) (hN : ∀ i, x6 i = (N i : EReal)) (hV : ∀ i, x7 i = (V i : EReal))
    (hK : ∀ i, x8 i = (K i : EReal)) (hW : ∀ i, x9 i = (W i : EReal)) (l : ℝ) (hl : val_main_v14 x0 x1 x2 x3 ix0 = (l : EReal))
    (b : Fin 32) (r : Fin 64) (h : Fin 8) (d : Fin 128) :
    val_main_v56 x0 x1 x2 x3 x4 x5 x6 x7 x8 x9 (ix2 ⟨64 * b.val + r.val, by omega⟩ ⟨128 * h.val + d.val, by omega⟩)
      = tail (attn l (qrow Q b h) (krow K b h) (qrow N b h) (vold W b h) (vnew V b h) r) (x4 (ix2 0 d)) d := by
  rw [← norm_eq x0 x1 x2 x3 x4 x5 x6 x7 x8 x9 b r h d _ fun x => out_eq x0 x1 x2 x3 x5 x6 x7 x8 x9 Q N V K W hQ hN hV hK hW l hl b r h x]
  pointwise [val_main_v56, val_main_v55]

end Cert.Attn.Ref

end
-- ==== Proof.Attn.Final.lean ====
/- The attention's result array, after the run, is the reference's. -/
module

public import proofs.«01_k».proof.Proof.Attn.Blocks
public import proofs.«01_k».proof.Proof.Attn.Ref

@[expose] public section

set_option maxRecDepth 16384

noncomputable section

namespace Cert.Attn

open Idealize.ShloMosaic Idealize.ShloMosaic.TcCoe Idealize.SL.Sem Cert.KernelIdeal Cert.KernelIdeal.Gen Cert.ReferenceIdeal.Read

/-- The maps' weight is a real when the four vectors are. -/
theorem lam_real (a b c d : Fin 64 → ℝ) : ∃ l : ℝ,
    Ideal.exp (∑ x, (a x : EReal) * (b x : EReal)) - Ideal.exp (∑ x, (c x : EReal) * (d x : EReal)) + Ideal.ofBits .f32 0x3E4CCCCD#32 = (l : EReal) := by
  have e : ∃ k : ℝ, Ideal.ofBits .f32 0x3E4CCCCD#32 = (k : EReal) := by
    simp only [Ideal.ofBits, Ideal.ieee]
    simp
    exact ⟨_, (EReal.coe_mul _ _).symm⟩
  obtain ⟨k, hk⟩ := e
  refine ⟨Real.exp (∑ x, a x * b x) - Real.exp (∑ x, c x * d x) + k, ?_⟩
  rw [hk]
  simp only [← EReal.coe_mul, sum_coe, Ideal.exp_coe, ← EReal.coe_sub, ← EReal.coe_add]

variable (m : (ℓ : Loc nD τ sig) → Buf (Elt Ideal) ℓ)

/-- THE RESULT ARRAY, from real arguments: the reference's value of the same arguments. -/
theorem final (c : Dev nD) (A B C D : S1x64.Idx → ℝ) (Q N : Cert.ReferenceIdeal.S32x64x8x2x64.Idx → ℝ) (W : Cert.ReferenceIdeal.S32x64x8x128.Idx → ℝ)
    (K : Cert.ReferenceIdeal.S1x32x1024x8x2x64.Idx → ℝ) (Z : Cert.ReferenceIdeal.S1x32x1024x8x128.Idx → ℝ)
    (hA : ∀ i, m ((c.tc : Thread nD τ).loc main_arg0) i = (A i : EReal)) (hB : ∀ i, m ((c.tc : Thread nD τ).loc main_arg1) i = (B i : EReal))
    (hC : ∀ i, m ((c.tc : Thread nD τ).loc main_arg2) i = (C i : EReal)) (hD : ∀ i, m ((c.tc : Thread nD τ).loc main_arg3) i = (D i : EReal))
    (hQ : ∀ i, m ((c.tc : Thread nD τ).loc main_arg5) i = (Q i : EReal)) (hN : ∀ i, m ((c.tc : Thread nD τ).loc main_arg6) i = (N i : EReal))
    (hW : ∀ i, m ((c.tc : Thread nD τ).loc main_arg7) i = (W i : EReal)) (hK : ∀ i, m ((c.tc : Thread nD τ).loc main_arg8) i = (K i : EReal))
    (hZ : ∀ i, m ((c.tc : Thread nD τ).loc main_arg9) i = (Z i : EReal)) :
    (dats m 0 c).arrAt 10 cfg0.N = val_main_v56 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) := by
  refine (dats m 0 c).arrAt_eq_of_covers 10 _ (by decide +kernel) fun t _ y => ?_
  blk_simp
  rw [after0_10]
  have ht := N_lt t
  have hy0 : (y 0).val < 64 := (y 0).isLt
  have hy1 : (y 1).val < 1024 := (y 1).isLt
  obtain ⟨l, hl⟩ := lam_real (fun x => A (ix2 0 x)) (fun x => B (ix2 0 x)) (fun x => C (ix2 0 x)) (fun x => D (ix2 0 x))
  simp only [← hA, ← hB, ← hC, ← hD] at hl
  have left := outs_eq m c t y
  have hh := headOf_eq (iblk m c 0 t) (iblk m c 1 t) (iblk m c 2 t) (iblk m c 3 t) (iblk m c 4 t) (iblk m c 5 t) (iblk m c 6 t) (iblk m c 7 t)
    (iblk m c 8 t) (iblk m c 9 t) ⟨(y 1).val / 128, by omega⟩ l
    (Ref.qrow Q ⟨t.val, ht⟩ ⟨(y 1).val / 128, by omega⟩) (Ref.qrow N ⟨t.val, ht⟩ ⟨(y 1).val / 128, by omega⟩) (Ref.vnew W ⟨t.val, ht⟩ ⟨(y 1).val / 128, by omega⟩)
    (Ref.krow K ⟨t.val, ht⟩ ⟨(y 1).val / 128, by omega⟩) (Ref.vold Z ⟨t.val, ht⟩ ⟨(y 1).val / 128, by omega⟩)
    (by rw [lam_eq]; simp only [lam_blk0, lam_blk1, lam_blk2, lam_blk3]; exact hl)
    (fun r x => (q_blk m c t r _ x).trans (hQ _)) (fun r x => (k_blk m c t r _ x).trans (hN _)) (fun r x => (v_blk m c t r _ x).trans (hW _))
    (fun j x => (ck_blk m c t _ x j).trans (hK _)) (fun j x => (cv_blk m c t _ j x).trans (hZ _))
    (y 0) ⟨(y 1).val % 128, Nat.mod_lt _ (by norm_num)⟩
  rw [left, hh, gain_blk]
  have right := Ref.ref_eq (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) Q N W K Z hQ hN hW hK hZ l
      ((Ref.lam_eq _ _ _ _).trans hl) ⟨t.val, ht⟩ (y 0) ⟨(y 1).val / 128, by omega⟩ ⟨(y 1).val % 128, Nat.mod_lt _ (by norm_num)⟩
  refine right.symm.trans (congrArg _ ?_)
  blk_ext [idx t] <;> omega

end Cert.Attn

end
-- ==== Proof.Ffn.Rows.lean ====
/- The feed-forward part, row by row, over the extended reals: what one token's row becomes. -/
module

public import Idealize.ShloMosaic.Lib.Pointwise

@[expose] public section

noncomputable section

namespace Cert.Ffn

open Idealize.ShloMosaic

/-- The RMS norm of a row of 1024, with its gain. -/
def rms (x g : Fin 1024 → EReal) (c : Fin 1024) : EReal :=
  x c * Ideal.rsqrt (Ideal.div (∑ k, x k * x k) (Ideal.ofBits .f32 0x44800000#32) + Ideal.ofBits .f32 0x358637BD#32) * g c

/-- A gated unit: `silu` of one product, times the other. -/
def act (h : Fin 1024 → EReal) (wg wu : Fin 1024 → Fin 2816 → EReal) (j : Fin 2816) : EReal :=
  (∑ k, h k * wg k j) * Ideal.logistic (∑ k, h k * wg k j) * ∑ k, h k * wu k j

/-- The feed-forward part on a row: the residual, plus half the norm of the gated units' product. -/
def ffn (x gp gq : Fin 1024 → EReal) (wg wu : Fin 1024 → Fin 2816 → EReal) (wd : Fin 2816 → Fin 1024 → EReal) (c : Fin 1024) : EReal :=
  x c + Ideal.ofBits .f32 0x3F000000#32 * rms (fun d => ∑ j, act (rms x gp) wg wu j * wd j d) gq c

/-- The residual with the mixed branches, on a row: the gated attention and the gated convolution, through the mixing weight and a norm. -/
def mix (o ga cv x : Fin 1024 → EReal) (wa wm : Fin 1024 → Fin 1024 → EReal) (g : Fin 1024 → EReal) (c : Fin 1024) : EReal :=
  x c + rms (fun d => ∑ k, (ga k * (∑ l, o l * wa l k) + cv k) * wm k d) g c

end Cert.Ffn

end
-- ==== Proof.Ffn.Point2.lean ====
/- What one grid point of the first feed-forward call leaves in its block. -/
module

public import proofs.«01_k».proof.Proof.Ffn.Rows
public import proofs.«01_k».proof.Proof.Gen.Kernel2Ideal.Value
public import Idealize.ShloMosaic.Lib.Pipeline.ValueKit
public import Idealize.ShloMosaic.Lib.Pointwise

@[expose] public section

set_option maxRecDepth 16384

noncomputable section

namespace Cert.Ffn.Call2

open Idealize.ShloMosaic Idealize.ShloMosaic.TcCoe Idealize.SL.Sem Cert.Kernel2Ideal Cert.Kernel2Ideal.Gen

variable (m : (ℓ : Loc nD τ sig) → Buf (Elt Ideal) ℓ)

/-- The normed row that both products read. -/
theorem pre_eq (x : FVec Ideal S512x1024 .f32) (g : FVec Ideal S1x1024 .f32) (r : Fin 512) (c : Fin 1024) :
    k0_pay2 (F := Ideal) x g (ix2 r c) = rms (fun k => x (ix2 r k)) (fun k => g (ix2 0 k)) c := by
  pointwise [k0_pay2, k0_pay1]
  rfl

/-- 256 gated units, read at one of them. -/
theorem unit_eq (h : FVec Ideal S512x1024 .bf16) (a b : FVec Ideal S1024x256 .bf16) (r : Fin 512) (c : Fin 256) :
    k0_pay8 (F := Ideal) h a b (ix2 r c) = (∑ k, h (ix2 r k) * a (ix2 k c)) * Ideal.logistic (∑ k, h (ix2 r k) * a (ix2 k c)) * ∑ k, h (ix2 r k) * b (ix2 k c) := by
  pointwise [k0_pay8]

/-- The 256 gated units from column `o` of the two weights. -/
theorem unit_act (h : FVec Ideal S512x1024 .bf16) (a b : FVec Ideal S1024x2816 .bf16) (o : ℕ)
    (inb : ∀ d, (![0, o] : Fin 2 → ℕ) d + (![1024, 256] : Fin 2 → ℕ) d ≤ S1024x2816.size d) (r : Fin 512) (c : Fin 256) (j : Fin 2816) (e : o + c.val = j.val) :
    k0_pay8 (F := Ideal) h (View.ld (Val := Elt Ideal) (e' := .bf16) (S := S1024x2816) a (Rect.unit (s := S1024x2816) ![0, o] ![1024, 256] inb))
      (View.ld (Val := Elt Ideal) (e' := .bf16) (S := S1024x2816) b (Rect.unit (s := S1024x2816) ![0, o] ![1024, 256] inb)) (ix2 r c)
      = act (fun k => h (ix2 r k)) (fun k j => a (ix2 k j)) (fun k j => b (ix2 k j)) j := by
  have rd : ∀ (w : FVec Ideal S1024x2816 .bf16) (k : Fin 1024),
      View.ld (Val := Elt Ideal) (e' := .bf16) (S := S1024x2816) w (Rect.unit (s := S1024x2816) ![0, o] ![1024, 256] inb) (ix2 k c) = w (ix2 k j) := by
    intro w k
    pointwise
    blk_ext
  have s : ∀ w : FVec Ideal S1024x2816 .bf16, (∑ k, h (ix2 r k) * View.ld (Val := Elt Ideal) (e' := .bf16) (S := S1024x2816) w
      (Rect.unit (s := S1024x2816) ![0, o] ![1024, 256] inb) (ix2 k c)) = ∑ k, h (ix2 r k) * w (ix2 k j) :=
    fun w => Finset.sum_congr rfl fun k _ => congrArg (h (ix2 r k) * ·) (rd w k)
  exact (unit_eq _ _ _ r c).trans (congrArg₂ (· * ·) (congrArg₂ (· * ·) (s a) (congrArg Ideal.logistic (s a))) (s b))

/-- The residual and half the norm of the third product. -/
theorem tail_eq (x : FVec Ideal S512x1024 .f32) (u : FVec Ideal S512x2816 .bf16) (w : FVec Ideal S2816x1024 .bf16) (g : FVec Ideal S1x1024 .f32)
    (r : Fin 512) (c : Fin 1024) :
    k0_pay19 (F := Ideal) (k0_pay1 x) u w g (ix2 r c) =
      x (ix2 r c) + Ideal.ofBits .f32 0x3F000000#32 * rms (fun d => ∑ j, u (ix2 r j) * w (ix2 j d)) (fun k => g (ix2 0 k)) c := by
  pointwise [k0_pay19, k0_pay1]
  rfl

set_option maxHeartbeats 1600000 in
/-- WHAT A POINT STORES, at a row and a column of its block: the feed-forward part of the block's row. -/
theorem outs_eq (c : Dev nD) (t : Fin cfg0.N) (r : Fin 512) (d : Fin 1024) : outsAt0 (F := Ideal) m c t (ix2 r d) =
    ffn (fun k => iblk m c 0 t (ix2 r k)) (fun k => iblk m c 1 t (ix2 0 k)) (fun k => iblk m c 2 t (ix2 0 k))
      (fun k j => iblk m c 3 t (ix2 k j)) (fun k j => iblk m c 4 t (ix2 k j)) (fun j k => iblk m c 5 t (ix2 j k)) d := by
  unfold outsAt0
  frame_out
  refine (tail_eq _ _ _ _ r d).trans ?_
  unfold ffn
  refine congrArg (fun f => _ + _ * rms f _ d) (funext fun e => Finset.sum_congr rfl fun j _ => congrArg (· * _) ?_)
  have hp : rms (fun k => iblk m c 0 t (ix2 r k)) (fun k => iblk m c 1 t (ix2 0 k)) = fun k => k0_pay2 (iblk m c 0 t) (iblk m c 1 t) (ix2 r k) :=
    funext fun k => (pre_eq _ _ r k).symm
  rw [hp, View.readCov_eq_canon']
  have e0 : (Rect.unit (s := S512x2816) ![0, 0] ![512, 2816] inb_S512x2816_S512x2816_0_0).toLoadRect.idx (ix2 r j) = ix2 r j := by idx_ext
  refine (congrArg (View.canon _) e0).trans ?_
  canon_tiles x h
  all_goals
    have hx : x = ix2 r ⟨(x 1).val, (x 1).isLt⟩ := by idx_ext <;> omega
    have hj : j.val = _ := h1
    rw [hx]
    exact unit_act (k0_pay2 (iblk m c 0 t) (iblk m c 1 t)) (iblk m c 3 t) (iblk m c 4 t) _ _ r _ j (by first | omega | (simp; omega))

end Cert.Ffn.Call2

end
-- ==== Proof.Ffn.Ref2.lean ====
/- The first feed-forward part as the reference writes it, read at an entry. -/
module

public import proofs.«01_k».proof.Proof.Ffn.Rows
public import proofs.«01_k».proof.Proof.Gen.Reference2Ideal.Read
public import Idealize.ShloMosaic.Lib.Pointwise

@[expose] public section

set_option maxRecDepth 16384

noncomputable section

namespace Cert.Ffn.Ref2

open Idealize.ShloMosaic Idealize.ShloMosaic.TcCoe Cert.Reference2Ideal Cert.Reference2Ideal.Gen Cert.Reference2Ideal.Read

variable (x0 : FVec Ideal S4x8192x1024 .f32) (x1 x2 : FVec Ideal S1x1024 .f32) (x3 x4 : FVec Ideal S1x1024x2816 .f32)
  (x5 : FVec Ideal S1x2816x1024 .f32)

/-- The norm before the products. -/
theorem pre_eq (b : Fin 4) (s : Fin 8192) (c : Fin 1024) :
    val_main_v13 (F := Ideal) x0 x1 (ix3 b s c) = rms (fun k => x0 (ix3 b s k)) (fun k => x1 (ix2 0 k)) c := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

/-- The gated units. -/
theorem act_eq (b : Fin 4) (s : Fin 8192) (j : Fin 2816) :
    val_main_v20 (F := Ideal) x0 x1 x3 x4 (ix3 b s j) = act (rms (fun k => x0 (ix3 b s k)) (fun k => x1 (ix2 0 k)))
      (fun k j => x3 (ix3 0 k j)) (fun k j => x4 (ix3 0 k j)) j := by
  pointwise [val_main_v20, val_main_v19, val_main_v18, val_main_call0_v5, val_main_call0_v4, val_main_call0_v3, val_main_call0_v2, val_main_call0_v1,
    val_main_call0_v0, val_main_call0_cst, val_main_call0_cst_0, val_main_v17, val_main_v15, val_main_v14]
  simp only [pre_eq]
  rfl

/-- The product with the third weight. -/
theorem down_eq (b : Fin 4) (s : Fin 8192) (c : Fin 1024) :
    val_main_v21 (F := Ideal) x0 x1 x3 x4 x5 (ix3 b s c) = ∑ j, act (rms (fun k => x0 (ix3 b s k)) (fun k => x1 (ix2 0 k)))
      (fun k j => x3 (ix3 0 k j)) (fun k j => x4 (ix3 0 k j)) j * x5 (ix3 0 j c) := by
  pointwise [val_main_v21, val_main_v16]
  simp only [act_eq]

/-- THE REFERENCE, AT AN ENTRY of its result. -/
theorem ref_eq (b : Fin 4) (s : Fin 8192) (c : Fin 1024) :
    val_main_v39 (F := Ideal) x0 x1 x2 x3 x4 x5 (ix2 ⟨8192 * b.val + s.val, by omega⟩ c) =
      ffn (fun k => x0 (ix3 b s k)) (fun k => x1 (ix2 0 k)) (fun k => x2 (ix2 0 k))
        (fun k j => x3 (ix3 0 k j)) (fun k j => x4 (ix3 0 k j)) (fun j k => x5 (ix3 0 j k)) c := by
  have e : val_main_v39 (F := Ideal) x0 x1 x2 x3 x4 x5 (ix2 ⟨8192 * b.val + s.val, by omega⟩ c) =
      val_main_v38 (F := Ideal) x0 x1 x2 x3 x4 x5 (ix3 b s c) := by
    pointwise [val_main_v39]
  rw [e]
  pointwise [val_main_v38, val_main_v37, val_main_v36, val_main_v35, val_main_v34, val_main_v33, val_main_v32, val_main_v31, val_main_v30,
    val_main_v29, val_main_v28, val_main_v27, val_main_v26, val_main_v25, val_main_v24, val_main_v23, val_main_v22,
    val_main_cst_2, val_main_cst_3, val_main_cst_4, val_main_cst_5]
  simp only [down_eq]
  rfl

end Cert.Ffn.Ref2

end
-- ==== Proof.Ffn.Final2.lean ====
/- The first feed-forward call's result array, after the run, is the reference's. -/
module

public import proofs.«01_k».proof.Proof.Ffn.Point2
public import proofs.«01_k».proof.Proof.Ffn.Ref2
public import Idealize.ShloMosaic.Lib.Claim

@[expose] public section

set_option maxRecDepth 16384

noncomputable section

namespace Cert.Ffn.Call2

open Idealize.ShloMosaic Idealize.ShloMosaic.TcCoe Idealize.SL.Sem Cert.Kernel2Ideal Cert.Kernel2Ideal.Gen Idealize.ShloMosaic.StableHlo
  Cert.Reference2Ideal.Read

variable (m : (ℓ : Loc nD τ sig) → Buf (Elt Ideal) ℓ)

/-- Every window's block, at every point. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val, 0] :=
  (by decide +kernel : ∀ t : Fin grid0.N, _)

/-- There are 64 tiles of 512 rows. -/
theorem N_lt (t : Fin cfg0.N) : t.val < 64 := t.isLt

/-- The rows of tile `t`. -/
theorem x_blk (c : Dev nD) (t : Fin cfg0.N) (r : Fin 512) (k : Fin 1024) (b : Fin 4) (s : Fin 8192) (e : 512 * t.val + r.val = 8192 * b.val + s.val) :
    iblk m c 0 t (ix2 r k) = m ((c.tc : Thread nD τ).loc main_arg0) (ix3 b s k) := by
  have ht := N_lt t
  have e' : iblk m c 0 t (ix2 r k) = V m c main_v0 (ix2 ⟨8192 * b.val + s.val, by omega⟩ k) := by blk_point [iblk, V, idx t]
  rw [e']
  entry_read
  pointwise

/-- The gain of the norm before the products. -/
theorem pre_blk (c : Dev nD) (t : Fin cfg0.N) (k : Fin 1024) : iblk m c 1 t (ix2 0 k) = m ((c.tc : Thread nD τ).loc main_arg1) (ix2 0 k) := by
  have e : iblk m c 1 t (ix2 0 k) = V m c main_v2 (ix2 0 k) := by blk_point [iblk, V, idx t]
  rw [e]
  entry_read
  pointwise

/-- The gain of the norm after them. -/
theorem post_blk (c : Dev nD) (t : Fin cfg0.N) (k : Fin 1024) : iblk m c 2 t (ix2 0 k) = m ((c.tc : Thread nD τ).loc main_arg2) (ix2 0 k) := by
  have e : iblk m c 2 t (ix2 0 k) = V m c main_v4 (ix2 0 k) := by blk_point [iblk, V, idx t]
  rw [e]
  entry_read
  pointwise

/-- The gate's weight. -/
theorem gate_blk (c : Dev nD) (t : Fin cfg0.N) (k : Fin 1024) (j : Fin 2816) :
    iblk m c 3 t (ix2 k j) = m ((c.tc : Thread nD τ).loc main_arg3) (ix3 0 k j) := by
  have e : iblk m c 3 t (ix2 k j) = V m c main_v6 (ix2 k j) := by blk_point [iblk, V, idx t]
  rw [e]
  entry_read
  pointwise

/-- The other weight of the units. -/
theorem up_blk (c : Dev nD) (t : Fin cfg0.N) (k : Fin 1024) (j : Fin 2816) :
    iblk m c 4 t (ix2 k j) = m ((c.tc : Thread nD τ).loc main_arg4) (ix3 0 k j) := by
  have e : iblk m c 4 t (ix2 k j) = V m c main_v8 (ix2 k j) := by blk_point [iblk, V, idx t]
  rw [e]
  entry_read
  pointwise

/-- The third weight. -/
theorem down_blk (c : Dev nD) (t : Fin cfg0.N) (j : Fin 2816) (k : Fin 1024) :
    iblk m c 5 t (ix2 j k) = m ((c.tc : Thread nD τ).loc main_arg5) (ix3 0 j k) := by
  have e : iblk m c 5 t (ix2 j k) = V m c main_v10 (ix2 j k) := by blk_point [iblk, V, idx t]
  rw [e]
  entry_read
  pointwise

/-- THE RESULT ARRAY: the reference's value of the same arguments. -/
theorem final (c : Dev nD) : (dats m 0 c).arrAt 6 cfg0.N = val_main_v39 (F := Ideal) (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) := by
  refine (dats m 0 c).arrAt_eq_of_covers 6 _ (by decide +kernel) fun t _ y => ?_
  blk_simp
  rw [after0_6]
  have ht := N_lt t
  have hy0 : (y 0).val < 512 := (y 0).isLt
  have hy1 : (y 1).val < 1024 := (y 1).isLt
  have hy : y = ix2 ⟨(y 0).val, hy0⟩ ⟨(y 1).val, hy1⟩ := by idx_ext
  have he : 512 * t.val + (y 0).val = 8192 * ((512 * t.val + (y 0).val) / 8192) + (512 * t.val + (y 0).val) % 8192 := by omega
  have left := outs_eq m c t ⟨(y 0).val, hy0⟩ ⟨(y 1).val, hy1⟩
  have right := Ref2.ref_eq (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) ⟨(512 * t.val + (y 0).val) / 8192, by omega⟩ ⟨(512 * t.val + (y 0).val) % 8192, by omega⟩ ⟨(y 1).val, hy1⟩
  simp only [x_blk m c t ⟨(y 0).val, hy0⟩ _ ⟨(512 * t.val + (y 0).val) / 8192, by omega⟩ ⟨(512 * t.val + (y 0).val) % 8192, by omega⟩ he,
    pre_blk, post_blk, gate_blk, up_blk, down_blk] at left
  refine (congrArg (outsAt0 (F := Ideal) m c t) hy).trans (left.trans (right.symm.trans (congrArg _ ?_)))
  blk_ext [idx t] <;> omega

end Cert.Ffn.Call2

end
-- ==== Proof.Ffn.Point3.lean ====
/- What one grid point of the mixing and second feed-forward call leaves in its block. -/
module

public import proofs.«01_k».proof.Proof.Ffn.Rows
public import proofs.«01_k».proof.Proof.Gen.Kernel3Ideal.Value
public import Idealize.ShloMosaic.Lib.Pipeline.ValueKit
public import Idealize.ShloMosaic.Lib.Pointwise

@[expose] public section

set_option maxRecDepth 16384

noncomputable section

namespace Cert.Ffn.Call3

open Idealize.ShloMosaic Idealize.ShloMosaic.TcCoe Idealize.SL.Sem Cert.Kernel3Ideal Cert.Kernel3Ideal.Gen

variable (m : (ℓ : Loc nD τ sig) → Buf (Elt Ideal) ℓ)

/-- The mixed branches and the residual, at an entry. -/
theorem mix_eq (o : FVec Ideal S512x1024 .bf16) (wa : FVec Ideal S1024x1024 .bf16) (ga cv : FVec Ideal S512x1024 .bf16)
    (wm : FVec Ideal S1024x1024 .bf16) (x : FVec Ideal S512x1024 .f32) (g : FVec Ideal S1x1024 .f32) (r : Fin 512) (c : Fin 1024) :
    k0_pay3 (F := Ideal) o wa ga cv wm x g (ix2 r c) = mix (fun k => o (ix2 r k)) (fun k => ga (ix2 r k)) (fun k => cv (ix2 r k)) (fun k => x (ix2 r k))
      (fun l k => wa (ix2 l k)) (fun l k => wm (ix2 l k)) (fun k => g (ix2 0 k)) c := by
  pointwise [k0_pay3]
  rfl

/-- The normed row that both products read. -/
theorem pre_eq (x : FVec Ideal S512x1024 .f32) (g : FVec Ideal S1x1024 .f32) (r : Fin 512) (c : Fin 1024) :
    k0_pay6 (F := Ideal) x (k0_pay4 g) (mulf x x) (ix2 r c) = rms (fun k => x (ix2 r k)) (fun k => g (ix2 0 k)) c := by
  pointwise [k0_pay6, k0_pay4]
  rfl

/-- 256 gated units, read at one of them. -/
theorem unit_eq (h : FVec Ideal S512x1024 .bf16) (a b : FVec Ideal S1024x256 .bf16) (r : Fin 512) (c : Fin 256) :
    k0_pay9 (F := Ideal) h a b (ix2 r c) = (∑ k, h (ix2 r k) * a (ix2 k c)) * Ideal.logistic (∑ k, h (ix2 r k) * a (ix2 k c)) * ∑ k, h (ix2 r k) * b (ix2 k c) := by
  pointwise [k0_pay9]

/-- The 256 gated units from column `o` of the two weights. -/
theorem unit_act (h : FVec Ideal S512x1024 .bf16) (a b : FVec Ideal S1024x2816 .bf16) (o : ℕ)
    (inb : ∀ d, (![0, o] : Fin 2 → ℕ) d + (![1024, 256] : Fin 2 → ℕ) d ≤ S1024x2816.size d) (r : Fin 512) (c : Fin 256) (j : Fin 2816) (e : o + c.val = j.val) :
    k0_pay9 (F := Ideal) h (View.ld (Val := Elt Ideal) (e' := .bf16) (S := S1024x2816) a (Rect.unit (s := S1024x2816) ![0, o] ![1024, 256] inb))
      (View.ld (Val := Elt Ideal) (e' := .bf16) (S := S1024x2816) b (Rect.unit (s := S1024x2816) ![0, o] ![1024, 256] inb)) (ix2 r c)
      = act (fun k => h (ix2 r k)) (fun k j => a (ix2 k j)) (fun k j => b (ix2 k j)) j := by
  have rd : ∀ (w : FVec Ideal S1024x2816 .bf16) (k : Fin 1024),
      View.ld (Val := Elt Ideal) (e' := .bf16) (S := S1024x2816) w (Rect.unit (s := S1024x2816) ![0, o] ![1024, 256] inb) (ix2 k c) = w (ix2 k j) := by
    intro w k
    pointwise
    blk_ext
  have s : ∀ w : FVec Ideal S1024x2816 .bf16, (∑ k, h (ix2 r k) * View.ld (Val := Elt Ideal) (e' := .bf16) (S := S1024x2816) w
      (Rect.unit (s := S1024x2816) ![0, o] ![1024, 256] inb) (ix2 k c)) = ∑ k, h (ix2 r k) * w (ix2 k j) :=
    fun w => Finset.sum_congr rfl fun k _ => congrArg (h (ix2 r k) * ·) (rd w k)
  exact (unit_eq _ _ _ r c).trans (congrArg₂ (· * ·) (congrArg₂ (· * ·) (s a) (congrArg Ideal.logistic (s a))) (s b))

/-- The residual and half the norm of the third product. -/
theorem tail_eq (x : FVec Ideal S512x1024 .f32) (u : FVec Ideal S512x2816 .bf16) (w : FVec Ideal S2816x1024 .bf16) (g : FVec Ideal S1x1024 .f32)
    (r : Fin 512) (c : Fin 1024) :
    k0_pay2 (F := Ideal) x u w g (ix2 r c) =
      x (ix2 r c) + Ideal.ofBits .f32 0x3F000000#32 * rms (fun d => ∑ j, u (ix2 r j) * w (ix2 j d)) (fun k => g (ix2 0 k)) c := by
  pointwise [k0_pay2]
  rfl

/-- The square of the mixed rows. -/
theorem square_eq (o : FVec Ideal S512x1024 .bf16) (wa : FVec Ideal S1024x1024 .bf16) (ga cv : FVec Ideal S512x1024 .bf16)
    (wm : FVec Ideal S1024x1024 .bf16) (x : FVec Ideal S512x1024 .f32) (g : FVec Ideal S1x1024 .f32) :
    k0_pay5 (F := Ideal) o wa ga cv wm x g = mulf (k0_pay3 o wa ga cv wm x g) (k0_pay3 o wa ga cv wm x g) := rfl

/-- The first 256 units, of the normed rows. -/
theorem first_eq (z : FVec Ideal S512x1024 .f32) (g : FVec Ideal S1x1024 .f32) (s : FVec Ideal S512x1024 .f32) (a b : FVec Ideal S1024x256 .bf16) :
    k0_pay7 (F := Ideal) z g s a b = k0_pay9 (k0_pay6 z g s) a b := rfl

/-- The second. -/
theorem second_eq (z : FVec Ideal S512x1024 .f32) (g : FVec Ideal S1x1024 .f32) (s : FVec Ideal S512x1024 .f32) (a b : FVec Ideal S1024x256 .bf16) :
    k0_pay8 (F := Ideal) z g s a b = k0_pay9 (k0_pay6 z g s) a b := rfl

set_option maxHeartbeats 3200000 in
/-- WHAT A POINT STORES, at a row and a column of its block: the feed-forward part of the block's mixed row. -/
theorem outs_eq (c : Dev nD) (t : Fin cfg0.N) (r : Fin 512) (d : Fin 1024) : outsAt0 (F := Ideal) m c t (ix2 r d) =
    ffn (mix (fun k => iblk m c 0 t (ix2 r k)) (fun k => iblk m c 1 t (ix2 r k)) (fun k => iblk m c 2 t (ix2 r k)) (fun k => iblk m c 3 t (ix2 r k))
        (fun l k => iblk m c 4 t (ix2 l k)) (fun l k => iblk m c 5 t (ix2 l k)) (fun k => iblk m c 6 t (ix2 0 k)))
      (fun k => iblk m c 7 t (ix2 0 k)) (fun k => iblk m c 8 t (ix2 0 k))
      (fun k j => iblk m c 9 t (ix2 k j)) (fun k j => iblk m c 10 t (ix2 k j)) (fun j k => iblk m c 11 t (ix2 j k)) d := by
  unfold outsAt0
  frame_out
  have hm : mix (fun k => iblk m c 0 t (ix2 r k)) (fun k => iblk m c 1 t (ix2 r k)) (fun k => iblk m c 2 t (ix2 r k)) (fun k => iblk m c 3 t (ix2 r k))
        (fun l k => iblk m c 4 t (ix2 l k)) (fun l k => iblk m c 5 t (ix2 l k)) (fun k => iblk m c 6 t (ix2 0 k)) =
      fun k => k0_pay3 (F := Ideal) (iblk m c 0 t) (iblk m c 4 t) (iblk m c 1 t) (iblk m c 2 t) (iblk m c 5 t) (iblk m c 3 t) (iblk m c 6 t) (ix2 r k) :=
    funext fun k => (mix_eq _ _ _ _ _ _ _ r k).symm
  rw [hm]
  refine (tail_eq _ _ _ _ r d).trans ?_
  unfold ffn
  refine congrArg (fun f => _ + _ * rms f _ d) (funext fun e => Finset.sum_congr rfl fun j _ => congrArg (· * _) ?_)
  rw [square_eq, first_eq, second_eq]
  generalize k0_pay3 (F := Ideal) (iblk m c 0 t) (iblk m c 4 t) (iblk m c 1 t) (iblk m c 2 t) (iblk m c 5 t) (iblk m c 3 t) (iblk m c 6 t) = z
  have hp : rms (fun k => z (ix2 r k)) (fun k => iblk m c 7 t (ix2 0 k)) = fun k => k0_pay6 (F := Ideal) z (k0_pay4 (iblk m c 7 t)) (mulf z z) (ix2 r k) :=
    funext fun k => (pre_eq _ _ r k).symm
  rw [hp, View.readCov_eq_canon']
  generalize k0_pay6 (F := Ideal) z (k0_pay4 (iblk m c 7 t)) (mulf z z) = h
  have e0 : (Rect.unit (s := S512x2816) ![0, 0] ![512, 2816] inb_S512x2816_S512x2816_0_0).toLoadRect.idx (ix2 r j) = ix2 r j := by idx_ext
  refine (congrArg (View.canon _) e0).trans ?_
  canon_tiles x q
  all_goals
    have hx : x = ix2 r ⟨(x 1).val, (x 1).isLt⟩ := by idx_ext <;> omega
    have hj : j.val = _ := q1
    rw [hx]
    exact unit_act h (iblk m c 9 t) (iblk m c 10 t) _ _ r _ j (by first | omega | (simp; omega))

end Cert.Ffn.Call3

end
-- ==== Proof.Ffn.Ref3.lean ====
/- The mixing and the second feed-forward part as the reference writes them, read at an entry. -/
module

public import proofs.«01_k».proof.Proof.Ffn.Rows
public import proofs.«01_k».proof.Proof.Gen.Reference3Ideal.Read
public import Idealize.ShloMosaic.Lib.Pointwise

@[expose] public section

set_option maxRecDepth 16384

noncomputable section

namespace Cert.Ffn.Ref3

open Idealize.ShloMosaic Idealize.ShloMosaic.TcCoe Cert.Reference3Ideal Cert.Reference3Ideal.Gen Cert.Reference3Ideal.Read

variable (x0 x1 x2 x3 : FVec Ideal S4x8192x1024 .f32) (x4 x5 : FVec Ideal S1x1024x1024 .f32) (x6 x7 x8 : FVec Ideal S1x1024 .f32)
  (x9 x10 : FVec Ideal S1x1024x2816 .f32) (x11 : FVec Ideal S1x2816x1024 .f32)

/-- The mixed row of a token. -/
def row (b : Fin 4) (s : Fin 8192) : Fin 1024 → EReal :=
  mix (fun k => x0 (ix3 b s k)) (fun k => x1 (ix3 b s k)) (fun k => x2 (ix3 b s k)) (fun k => x3 (ix3 b s k))
    (fun l k => x4 (ix3 0 l k)) (fun l k => x5 (ix3 0 l k)) (fun k => x6 (ix2 0 k))

/-- The gated attention and the gated convolution, through the mixing weight. -/
theorem prod_eq (b : Fin 4) (s : Fin 8192) (c : Fin 1024) : val_main_v5 (F := Ideal) x0 x1 x2 x4 x5 (ix3 b s c) =
    ∑ k, (x1 (ix3 b s k) * (∑ l, x0 (ix3 b s l) * x4 (ix3 0 l k)) + x2 (ix3 b s k)) * x5 (ix3 0 k c) := by
  pointwise [val_main_v5, val_main_v4, val_main_v3, val_main_v2, val_main_v1, val_main_v0]

/-- The residual with the mixed branches. -/
theorem mix_eq (b : Fin 4) (s : Fin 8192) (c : Fin 1024) :
    val_main_v20 (F := Ideal) x0 x1 x2 x3 x4 x5 x6 (ix3 b s c) = row x0 x1 x2 x3 x4 x5 x6 b s c := by
  pointwise [val_main_v20, val_main_v19, val_main_v18, val_main_v17, val_main_v16, val_main_v15, val_main_v14, val_main_v13, val_main_v12,
    val_main_v11, val_main_v10, val_main_v9, val_main_v8, val_main_v7, val_main_v6, val_main_cst, val_main_cst_0, val_main_cst_1]
  simp only [prod_eq]
  rfl

/-- The norm before the products. -/
theorem pre_eq (b : Fin 4) (s : Fin 8192) (c : Fin 1024) : val_main_v34 (F := Ideal) x0 x1 x2 x3 x4 x5 x6 x7 (ix3 b s c) =
    rms (row x0 x1 x2 x3 x4 x5 x6 b s) (fun k => x7 (ix2 0 k)) c := by
  pointwise [val_main_v34, val_main_v33, val_main_v32, val_main_v31, val_main_v30, val_main_v29, val_main_v28, val_main_v27, val_main_v26,
    val_main_v25, val_main_v24, val_main_v23, val_main_v22, val_main_v21, val_main_cst_2, val_main_cst_3, val_main_cst_4]
  simp only [mix_eq]
  rfl

/-- The gated units. -/
theorem act_eq (b : Fin 4) (s : Fin 8192) (j : Fin 2816) : val_main_v41 (F := Ideal) x0 x1 x2 x3 x4 x5 x6 x7 x9 x10 (ix3 b s j) =
    act (rms (row x0 x1 x2 x3 x4 x5 x6 b s) (fun k => x7 (ix2 0 k))) (fun k j => x9 (ix3 0 k j)) (fun k j => x10 (ix3 0 k j)) j := by
  pointwise [val_main_v41, val_main_v40, val_main_v39, val_main_call0_v5, val_main_call0_v4, val_main_call0_v3, val_main_call0_v2, val_main_call0_v1,
    val_main_call0_v0, val_main_call0_cst, val_main_call0_cst_0, val_main_v38, val_main_v36, val_main_v35]
  simp only [pre_eq]
  rfl

/-- The product with the third weight. -/
theorem down_eq (b : Fin 4) (s : Fin 8192) (c : Fin 1024) : val_main_v42 (F := Ideal) x0 x1 x2 x3 x4 x5 x6 x7 x9 x10 x11 (ix3 b s c) =
    ∑ j, act (rms (row x0 x1 x2 x3 x4 x5 x6 b s) (fun k => x7 (ix2 0 k))) (fun k j => x9 (ix3 0 k j)) (fun k j => x10 (ix3 0 k j)) j * x11 (ix3 0 j c) := by
  pointwise [val_main_v42, val_main_v37]
  simp only [act_eq]

/-- THE REFERENCE, AT AN ENTRY of its result. -/
theorem ref_eq (b : Fin 4) (s : Fin 8192) (c : Fin 1024) :
    val_main_v60 (F := Ideal) x0 x1 x2 x3 x4 x5 x6 x7 x8 x9 x10 x11 (ix2 ⟨8192 * b.val + s.val, by omega⟩ c) =
      ffn (row x0 x1 x2 x3 x4 x5 x6 b s) (fun k => x7 (ix2 0 k)) (fun k => x8 (ix2 0 k))
        (fun k j => x9 (ix3 0 k j)) (fun k j => x10 (ix3 0 k j)) (fun j k => x11 (ix3 0 j k)) c := by
  have e : val_main_v60 (F := Ideal) x0 x1 x2 x3 x4 x5 x6 x7 x8 x9 x10 x11 (ix2 ⟨8192 * b.val + s.val, by omega⟩ c) =
      val_main_v59 (F := Ideal) x0 x1 x2 x3 x4 x5 x6 x7 x8 x9 x10 x11 (ix3 b s c) := by
    pointwise [val_main_v60]
  rw [e]
  pointwise [val_main_v59, val_main_v58, val_main_v57, val_main_v56, val_main_v55, val_main_v54, val_main_v53, val_main_v52, val_main_v51,
    val_main_v50, val_main_v49, val_main_v48, val_main_v47, val_main_v46, val_main_v45, val_main_v44, val_main_v43,
    val_main_cst_5, val_main_cst_6, val_main_cst_7, val_main_cst_8]
  simp only [down_eq, mix_eq]
  rfl

end Cert.Ffn.Ref3

end
-- ==== Proof.Ffn.Final3.lean ====
/- The mixing and second feed-forward call's result array, after the run, is the reference's. -/
module

public import proofs.«01_k».proof.Proof.Ffn.Point3
public import proofs.«01_k».proof.Proof.Ffn.Ref3
public import Idealize.ShloMosaic.Lib.Claim

@[expose] public section

set_option maxRecDepth 16384

noncomputable section

namespace Cert.Ffn.Call3

open Idealize.ShloMosaic Idealize.ShloMosaic.TcCoe Idealize.SL.Sem Cert.Kernel3Ideal Cert.Kernel3Ideal.Gen Idealize.ShloMosaic.StableHlo
  Cert.Reference3Ideal.Read

variable (m : (ℓ : Loc nD τ sig) → Buf (Elt Ideal) ℓ)

/-- The blocks of the tiled windows, at every point. -/
theorem idx : ∀ t : Fin cfg0.N, win0_0.index t = ![t.val, 0] ∧ win0_1.index t = ![t.val, 0] ∧ win0_2.index t = ![t.val, 0] ∧ win0_3.index t = ![t.val, 0]
    ∧ win0_12.index t = ![t.val, 0] :=
  (by decide +kernel : ∀ t : Fin grid0.N, _)

/-- The blocks of the weights and gains: the whole array, at every point. -/
theorem idx_whole : ∀ t : Fin cfg0.N, win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0] :=
  (by decide +kernel : ∀ t : Fin grid0.N, _)

/-- There are 64 tiles of 512 rows. -/
theorem N_lt (t : Fin cfg0.N) : t.val < 64 := t.isLt

section rows

variable (c : Dev nD) (t : Fin cfg0.N) (r : Fin 512) (k : Fin 1024) (b : Fin 4) (s : Fin 8192) (e : 512 * t.val + r.val = 8192 * b.val + s.val)
include e

/-- The attention's rows of tile `t`. -/
theorem o_blk : iblk m c 0 t (ix2 r k) = m ((c.tc : Thread nD τ).loc main_arg0) (ix3 b s k) := by
  have ht := N_lt t
  have e' : iblk m c 0 t (ix2 r k) = V m c main_v17 (ix2 ⟨8192 * b.val + s.val, by omega⟩ k) := by blk_point [iblk, V, idx t]
  rw [e']
  entry_read
  pointwise
  refine congrArg _ ?_
  idx_ext <;> omega

/-- The gate's rows. -/
theorem gate_blk : iblk m c 1 t (ix2 r k) = m ((c.tc : Thread nD τ).loc main_arg1) (ix3 b s k) := by
  have ht := N_lt t
  have e' : iblk m c 1 t (ix2 r k) = V m c main_v19 (ix2 ⟨8192 * b.val + s.val, by omega⟩ k) := by blk_point [iblk, V, idx t]
  rw [e']
  entry_read
  pointwise
  refine congrArg _ ?_
  idx_ext <;> omega

/-- The gated convolution's rows. -/
theorem conv_blk : iblk m c 2 t (ix2 r k) = m ((c.tc : Thread nD τ).loc main_arg2) (ix3 b s k) := by
  have ht := N_lt t
  have e' : iblk m c 2 t (ix2 r k) = V m c main_v21 (ix2 ⟨8192 * b.val + s.val, by omega⟩ k) := by blk_point [iblk, V, idx t]
  rw [e']
  entry_read
  pointwise
  refine congrArg _ ?_
  idx_ext <;> omega

/-- The residual's rows. -/
theorem x_blk : iblk m c 3 t (ix2 r k) = m ((c.tc : Thread nD τ).loc main_arg3) (ix3 b s k) := by
  have ht := N_lt t
  have e' : iblk m c 3 t (ix2 r k) = V m c main_v22 (ix2 ⟨8192 * b.val + s.val, by omega⟩ k) := by blk_point [iblk, V, idx t]
  rw [e']
  entry_read
  pointwise

end rows

/-- The attention's weight. -/
theorem attn_blk (c : Dev nD) (t : Fin cfg0.N) (l k : Fin 1024) : iblk m c 4 t (ix2 l k) = m ((c.tc : Thread nD τ).loc main_arg4) (ix3 0 l k) := by
  have e : iblk m c 4 t (ix2 l k) = V m c main_v11 (ix2 l k) := by blk_point [iblk, V, idx_whole t]
  rw [e]
  entry_read
  pointwise

/-- The mixing weight. -/
theorem mix_blk (c : Dev nD) (t : Fin cfg0.N) (l k : Fin 1024) : iblk m c 5 t (ix2 l k) = m ((c.tc : Thread nD τ).loc main_arg5) (ix3 0 l k) := by
  have e : iblk m c 5 t (ix2 l k) = V m c main_v13 (ix2 l k) := by blk_point [iblk, V, idx_whole t]
  rw [e]
  entry_read
  pointwise

/-- The gain of the mixing norm. -/
theorem gain_blk (c : Dev nD) (t : Fin cfg0.N) (k : Fin 1024) : iblk m c 6 t (ix2 0 k) = m ((c.tc : Thread nD τ).loc main_arg6) (ix2 0 k) := by
  have e : iblk m c 6 t (ix2 0 k) = V m c main_v15 (ix2 0 k) := by blk_point [iblk, V, idx_whole t]
  rw [e]
  entry_read
  pointwise

/-- The gain of the norm before the products. -/
theorem pre_blk (c : Dev nD) (t : Fin cfg0.N) (k : Fin 1024) : iblk m c 7 t (ix2 0 k) = m ((c.tc : Thread nD τ).loc main_arg7) (ix2 0 k) := by
  have e : iblk m c 7 t (ix2 0 k) = V m c main_v1 (ix2 0 k) := by blk_point [iblk, V, idx_whole t]
  rw [e]
  entry_read
  pointwise

/-- The gain of the norm after them. -/
theorem post_blk (c : Dev nD) (t : Fin cfg0.N) (k : Fin 1024) : iblk m c 8 t (ix2 0 k) = m ((c.tc : Thread nD τ).loc main_arg8) (ix2 0 k) := by
  have e : iblk m c 8 t (ix2 0 k) = V m c main_v3 (ix2 0 k) := by blk_point [iblk, V, idx_whole t]
  rw [e]
  entry_read
  pointwise

/-- The units' gate weight. -/
theorem wg_blk (c : Dev nD) (t : Fin cfg0.N) (k : Fin 1024) (j : Fin 2816) :
    iblk m c 9 t (ix2 k j) = m ((c.tc : Thread nD τ).loc main_arg9) (ix3 0 k j) := by
  have e : iblk m c 9 t (ix2 k j) = V m c main_v5 (ix2 k j) := by blk_point [iblk, V, idx_whole t]
  rw [e]
  entry_read
  pointwise

/-- The units' other weight. -/
theorem wu_blk (c : Dev nD) (t : Fin cfg0.N) (k : Fin 1024) (j : Fin 2816) :
    iblk m c 10 t (ix2 k j) = m ((c.tc : Thread nD τ).loc main_arg10) (ix3 0 k j) := by
  have e : iblk m c 10 t (ix2 k j) = V m c main_v7 (ix2 k j) := by blk_point [iblk, V, idx_whole t]
  rw [e]
  entry_read
  pointwise

/-- The third weight. -/
theorem wd_blk (c : Dev nD) (t : Fin cfg0.N) (j : Fin 2816) (k : Fin 1024) :
    iblk m c 11 t (ix2 j k) = m ((c.tc : Thread nD τ).loc main_arg11) (ix3 0 j k) := by
  have e : iblk m c 11 t (ix2 j k) = V m c main_v9 (ix2 j k) := by blk_point [iblk, V, idx_whole t]
  rw [e]
  entry_read
  pointwise

/-- THE RESULT ARRAY: the reference's value of the same arguments. -/
theorem final (c : Dev nD) : (dats m 0 c).arrAt 12 cfg0.N = val_main_v60 (F := Ideal) (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9))
    (m ((c.tc : Thread nD τ).loc main_arg10)) (m ((c.tc : Thread nD τ).loc main_arg11)) := by
  refine (dats m 0 c).arrAt_eq_of_covers 12 _ (by decide +kernel) fun t _ y => ?_
  blk_simp
  rw [after0_12]
  have ht := N_lt t
  have hy0 : (y 0).val < 512 := (y 0).isLt
  have hy1 : (y 1).val < 1024 := (y 1).isLt
  have hy : y = ix2 ⟨(y 0).val, hy0⟩ ⟨(y 1).val, hy1⟩ := by idx_ext
  obtain ⟨b, hb⟩ : ∃ b : Fin 4, b.val = (512 * t.val + (y 0).val) / 8192 := ⟨⟨_, by omega⟩, rfl⟩
  obtain ⟨s, hs⟩ : ∃ s : Fin 8192, s.val = (512 * t.val + (y 0).val) % 8192 := ⟨⟨_, by omega⟩, rfl⟩
  have he : 512 * t.val + (⟨(y 0).val, hy0⟩ : Fin 512).val = 8192 * b.val + s.val := by rw [hb, hs]; simp only; omega
  have left := outs_eq m c t ⟨(y 0).val, hy0⟩ ⟨(y 1).val, hy1⟩
  have right := Ref3.ref_eq (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9))
    (m ((c.tc : Thread nD τ).loc main_arg10)) (m ((c.tc : Thread nD τ).loc main_arg11)) b s ⟨(y 1).val, hy1⟩
  simp only [o_blk m c t ⟨(y 0).val, hy0⟩ _ b s he, gate_blk m c t ⟨(y 0).val, hy0⟩ _ b s he, conv_blk m c t ⟨(y 0).val, hy0⟩ _ b s he,
    x_blk m c t ⟨(y 0).val, hy0⟩ _ b s he, attn_blk, mix_blk, gain_blk, pre_blk, post_blk, wg_blk, wu_blk, wd_blk] at left
  refine (congrArg (outsAt0 (F := Ideal) m c t) hy).trans (left.trans (right.symm.trans (congrArg _ ?_)))
  simp only at he
  blk_ext [idx t] <;> omega

end Cert.Ffn.Call3

end
-- ==== Proof.Inproj.Rows.lean ====
/- The input projection, row by row, over the extended reals: the products of a normed row, and the short convolution over a sequence. -/
module

public import proofs.«01_k».proof.Proof.Ffn.Rows

@[expose] public section

noncomputable section

namespace Cert.Inproj

open Idealize.ShloMosaic Cert.Ffn

/-- An entry of the projected row: the normed row against a column of the weight. -/
def proj (x g : Fin 1024 → EReal) (w : Fin 1024 → Fin 8192 → EReal) (j : Fin 8192) : EReal := ∑ k, rms x g k * w k j

/-- The query's entry, scaled by the eighth and by the logarithm's reciprocal. -/
def query (x g : Fin 1024 → EReal) (w : Fin 1024 → Fin 8192 → EReal) (c : Fin 1024) : EReal :=
  proj x g w ⟨c.val, by omega⟩ * (((1 / 8) * (Real.log 2)⁻¹ : ℝ) : EReal)

/-- The key's entry. -/
def key (x g : Fin 1024 → EReal) (w : Fin 1024 → Fin 8192 → EReal) (c : Fin 1024) : EReal := proj x g w ⟨1024 + c.val, by omega⟩

/-- The value's entry. -/
def value (x g : Fin 1024 → EReal) (w : Fin 1024 → Fin 8192 → EReal) (c : Fin 1024) : EReal := proj x g w ⟨2048 + c.val, by omega⟩

/-- What the convolution reads of a row: the product of two projected entries. -/
def unit (x g : Fin 1024 → EReal) (w : Fin 1024 → Fin 8192 → EReal) (c : Fin 1024) : EReal :=
  proj x g w ⟨4096 + c.val, by omega⟩ * proj x g w ⟨5120 + c.val, by omega⟩

/-- The attention branch's gate. -/
def gate (x g : Fin 1024 → EReal) (w : Fin 1024 → Fin 8192 → EReal) (b : Fin 2048 → EReal) (c : Fin 1024) : EReal :=
  Ideal.logistic (proj x g w ⟨6144 + c.val, by omega⟩ + b ⟨c.val, by omega⟩)

/-- The three taps of the convolution, the oldest first. -/
def taps (b w0 w1 w2 p2 p1 p0 : EReal) : EReal := b + w0 * p2 + w1 * p1 + w2 * p0

/-- A sequence read `n` tokens back: zero before its start. -/
def back (n : ℕ) (f : Fin 8192 → EReal) (s : Fin 8192) : EReal := if n ≤ s.val then f ⟨s.val - n, by omega⟩ else 0

/-- The convolution branch of a row with its gate, from the convolution's own row `z`. -/
def branch (x g : Fin 1024 → EReal) (w : Fin 1024 → Fin 8192 → EReal) (b : Fin 2048 → EReal) (z : Fin 1024 → EReal)
    (wo : Fin 1024 → Fin 1024 → EReal) (d : Fin 1024) : EReal :=
  Ideal.logistic (proj x g w ⟨7168 + d.val, by omega⟩ + b ⟨1024 + d.val, by omega⟩) * ∑ c : Fin 1024, proj x g w ⟨3072 + c.val, by omega⟩ * z c * wo c d

end Cert.Inproj

end
-- ==== Proof.Inproj.Payloads.lean ====
/- The values the input projection's call computes in one tile, each read at an entry. -/
module

public import proofs.«01_k».proof.Proof.Inproj.Rows
public import proofs.«01_k».proof.Proof.Gen.Kernel4Ideal.Skeleton
public import Idealize.ShloMosaic.Lib.Pipeline.ValueKit
public import Idealize.ShloMosaic.Lib.Pointwise

@[expose] public section

set_option maxRecDepth 16384

noncomputable section

namespace Cert.Inproj

open Idealize.ShloMosaic Idealize.ShloMosaic.TcCoe Cert.Kernel4Ideal Cert.Kernel4Ideal.Gen Cert.Ffn

/-- The normed rows. -/
theorem pre_eq (x : FVec Ideal S512x1024 .f32) (g : FVec Ideal S1x1024 .f32) (r : Fin 512) (c : Fin 1024) :
    k0_pay3 (F := Ideal) x g (ix2 r c) = rms (fun k => x (ix2 r k)) (fun k => g (ix2 0 k)) c := by
  pointwise [k0_pay3]
  rfl

/-- The number the queries are scaled by. -/
theorem q_scale : Named.named (F := Ideal) κ "q_scale" (φ := .f32) 0x3E38AA3B#32 = (((1 / 8) * (Real.log 2)⁻¹ : ℝ) : EReal) := rfl

/-- The queries, scaled. -/
theorem query_eq (x : FVec Ideal S512x1024 .f32) (g : FVec Ideal S1x1024 .f32) (a : FVec Ideal S1024x1024 .bf16) (r : Fin 512) (c : Fin 1024) :
    k0_pay4 (F := Ideal) x g a (ix2 r c) = (∑ k, k0_pay3 (F := Ideal) x g (ix2 r k) * a (ix2 k c)) * (((1 / 8) * (Real.log 2)⁻¹ : ℝ) : EReal) := by
  generalize hh : k0_pay3 (F := Ideal) x g = h
  unfold k0_pay4
  rw [hh, q_scale]
  pointwise

/-- The first head's queries, turned. -/
theorem head0_eq (x : FVec Ideal S512x1024 .f32) (g : FVec Ideal S1x1024 .f32) (a : FVec Ideal S1024x1024 .bf16) (d : Fin 128) (r : Fin 512) :
    k0_pay5 (F := Ideal) x g a (ix5 0 0 0 d r) = k0_pay4 (F := Ideal) x g a (ix2 r ⟨d.val, by omega⟩) := by
  generalize hh : k0_pay4 (F := Ideal) x g a = h
  unfold k0_pay5
  rw [hh]
  pointwise

/-- The second head's queries, turned. -/
theorem head1_eq (x : FVec Ideal S512x1024 .f32) (g : FVec Ideal S1x1024 .f32) (a : FVec Ideal S1024x1024 .bf16) (d : Fin 128) (r : Fin 512) :
    k0_pay6 (F := Ideal) x g a (ix5 0 0 0 d r) = k0_pay4 (F := Ideal) x g a (ix2 r ⟨128 + d.val, by omega⟩) := by
  generalize hh : k0_pay4 (F := Ideal) x g a = h
  unfold k0_pay6
  rw [hh]
  pointwise

/-- The third head's queries, turned. -/
theorem head2_eq (x : FVec Ideal S512x1024 .f32) (g : FVec Ideal S1x1024 .f32) (a : FVec Ideal S1024x1024 .bf16) (d : Fin 128) (r : Fin 512) :
    k0_pay8 (F := Ideal) (k0_pay7 x g a) (ix5 0 0 0 d r) = k0_pay4 (F := Ideal) x g a (ix2 r ⟨256 + d.val, by omega⟩) := by
  generalize hh : k0_pay4 (F := Ideal) x g a = h
  unfold k0_pay7
  rw [hh]
  pointwise [k0_pay8]

/-- The fourth head's queries, turned. -/
theorem head3_eq (h : FVec Ideal S512x1024 .f32) (d : Fin 128) (r : Fin 512) : k0_pay9 (F := Ideal) h (ix5 0 0 0 d r) = h (ix2 r ⟨384 + d.val, by omega⟩) := by
  pointwise [k0_pay9]

/-- The fifth head's queries, turned. -/
theorem head4_eq (h : FVec Ideal S512x1024 .f32) (d : Fin 128) (r : Fin 512) : k0_pay10 (F := Ideal) h (ix5 0 0 0 d r) = h (ix2 r ⟨512 + d.val, by omega⟩) := by
  pointwise [k0_pay10]

/-- The sixth head's queries, turned. -/
theorem head5_eq (h : FVec Ideal S512x1024 .f32) (d : Fin 128) (r : Fin 512) : k0_pay11 (F := Ideal) h (ix5 0 0 0 d r) = h (ix2 r ⟨640 + d.val, by omega⟩) := by
  pointwise [k0_pay11]

/-- The seventh head's queries, turned. -/
theorem head6_eq (h : FVec Ideal S512x1024 .f32) (d : Fin 128) (r : Fin 512) : k0_pay12 (F := Ideal) h (ix5 0 0 0 d r) = h (ix2 r ⟨768 + d.val, by omega⟩) := by
  pointwise [k0_pay12]

/-- The eighth head's queries, turned. -/
theorem head7_eq (h : FVec Ideal S512x1024 .f32) (d : Fin 128) (r : Fin 512) : k0_pay14 (F := Ideal) (k0_pay13 h) (ix5 0 0 0 d r) = h (ix2 r ⟨896 + d.val, by omega⟩) := by
  pointwise [k0_pay14, k0_pay13]

/-- The keys, turned. -/
theorem key_eq (h : FVec Ideal S512x1024 .bf16) (a : FVec Ideal S1024x1024 .bf16) (c : Fin 1024) (r : Fin 512) :
    k0_pay16 (F := Ideal) h a (ix3 0 c r) = ∑ k, h (ix2 r k) * a (ix2 k c) := by
  pointwise [k0_pay16, k0_pay15]

/-- The values. -/
theorem value_eq (h : FVec Ideal S512x1024 .bf16) (a : FVec Ideal S1024x1024 .bf16) (r : Fin 512) (c : Fin 1024) :
    k0_pay17 (F := Ideal) h a (ix2 r c) = ∑ k, h (ix2 r k) * a (ix2 k c) := by
  pointwise [k0_pay17]

/-- The attention branch's gates. -/
theorem gate_eq (h : FVec Ideal S512x1024 .bf16) (b : FVec Ideal S1x2048 .f32) (a : FVec Ideal S1024x1024 .bf16) (r : Fin 512) (c : Fin 1024) :
    k0_pay1 (F := Ideal) (k0_pay65 h b a) (ix2 r c) = Ideal.logistic ((∑ k, h (ix2 r k) * a (ix2 k c)) + b (ix2 0 ⟨c.val, by omega⟩)) := by
  pointwise [k0_pay1, k0_pay65, k0_pay64]

/-- What the convolution reads. -/
theorem unit_eq (h : FVec Ideal S512x1024 .bf16) (a b : FVec Ideal S1024x1024 .bf16) (r : Fin 512) (c : Fin 1024) :
    k0_pay57 (F := Ideal) h a b (ix3 0 r c) = (∑ k, h (ix2 r k) * a (ix2 k c)) * ∑ k, h (ix2 r k) * b (ix2 k c) := by
  pointwise [k0_pay57]

/-- The last two rows of a tile. -/
theorem tail_eq (u : FVec Ideal S1x512x1024 .f32) (i : Fin 2) (c : Fin 1024) :
    k0_pay61 (F := Ideal) u (ix3 0 i c) = u (ix3 0 ⟨510 + i.val, by omega⟩ c) := by
  pointwise [k0_pay61]

/-- The last two rows of a tile, as they are handed out. -/
theorem tail_out_eq (u : FVec Ideal S1x512x1024 .f32) (i : Fin 2) (c : Fin 1024) :
    k0_pay62 (F := Ideal) u (ix3 0 i c) = u (ix3 0 ⟨510 + i.val, by omega⟩ c) := by
  pointwise [k0_pay62, k0_pay61]

/-- Row `i` picked out by its number. -/
theorem select_row (r : Fin 512) (i : ℕ) (hi : i < 2) (a b : EReal) :
    Scalar.select (IntOp.cmpi .eq (BitVec.ofNat 32 r.val) (BitVec.ofNat 32 i)) a b = if r.val = i then a else b := by
  have e : ∀ (r : Fin 512) (i : Fin 2), IntOp.cmpi .eq (BitVec.ofNat 32 r.val) (BitVec.ofNat 32 i.val) = if r.val = i.val then 1#1 else 0#1 := by
    decide +kernel
  rw [e r ⟨i, hi⟩]
  by_cases h : r.val = i
  · rw [if_pos h, if_pos h]; rfl
  · rw [if_neg h, if_neg h]; rfl

/-- One token back in a tile: the first row reads the carried rows. -/
theorem back_one (h : FVec Ideal S512x1024 .bf16) (a b : FVec Ideal S1024x1024 .bf16) (p : FVec Ideal S1x2x1024 .f32) (r : Fin 512) (c : Fin 1024) :
    k0_pay59 (F := Ideal) h a b p (ix3 0 r c) =
      if r.val = 0 then p (ix3 0 1 c) else k0_pay57 (F := Ideal) h a b (ix3 0 ⟨r.val - 1, by omega⟩ c) := by
  generalize hu : k0_pay57 (F := Ideal) h a b = u
  unfold k0_pay59
  rw [hu]
  pointwise [k0_pay58]
  by_cases h0 : r.val = 0
  · exact (select_row r 0 (by omega) _ _).trans ((if_pos h0).trans (if_pos h0).symm)
  · exact (select_row r 0 (by omega) _ _).trans ((if_neg h0).trans (Eq.trans (congrArg u (by idx_ext <;> omega)) (if_neg h0).symm))

/-- Two tokens back in a tile: the first two rows read the carried rows. -/
theorem back_two (h : FVec Ideal S512x1024 .bf16) (a b : FVec Ideal S1024x1024 .bf16) (p : FVec Ideal S1x2x1024 .f32) (r : Fin 512) (c : Fin 1024) :
    k0_pay60 (F := Ideal) h a b p (ix3 0 r c) =
      if r.val = 0 then p (ix3 0 0 c) else if r.val = 1 then p (ix3 0 1 c) else k0_pay57 (F := Ideal) h a b (ix3 0 ⟨r.val - 2, by omega⟩ c) := by
  generalize hu : k0_pay57 (F := Ideal) h a b = u
  unfold k0_pay60
  rw [hu]
  pointwise [k0_pay58]
  by_cases h0 : r.val = 0
  · exact (select_row r 0 (by omega) _ _).trans ((if_pos h0).trans (if_pos h0).symm)
  · refine (select_row r 0 (by omega) _ _).trans ((if_neg h0).trans (Eq.trans ?_ (if_neg h0).symm))
    by_cases h1 : r.val = 1
    · exact (select_row r 1 (by omega) _ _).trans ((if_pos h1).trans (if_pos h1).symm)
    · exact (select_row r 1 (by omega) _ _).trans ((if_neg h1).trans (Eq.trans (congrArg u (by idx_ext <;> omega)) (if_neg h1).symm))

/-- The convolution's output row through its weight. -/
theorem out_eq (z u p1 p2 : FVec Ideal S1x512x1024 .f32) (w : FVec Ideal S3x1024 .f32) (b : FVec Ideal S1x1024 .f32) (wo : FVec Ideal S1024x1024 .bf16)
    (r : Fin 512) (d : Fin 1024) : k0_pay63 (F := Ideal) z u p1 p2 w b wo (ix2 r d) =
      ∑ c, z (ix3 0 r c) * taps (b (ix2 0 c)) (w (ix2 0 c)) (w (ix2 1 c)) (w (ix2 2 c)) (p2 (ix3 0 r c)) (p1 (ix3 0 r c)) (u (ix3 0 r c)) * wo (ix2 c d) := by
  pointwise [k0_pay63]
  rfl

/-- The convolution's own gate, before the taps. -/
theorem pre_gate_eq (h : FVec Ideal S512x1024 .bf16) (a : FVec Ideal S1024x1024 .bf16) (r : Fin 512) (c : Fin 1024) :
    k0_pay56 (F := Ideal) h a (ix3 0 r c) = ∑ k, h (ix2 r k) * a (ix2 k c) := by
  pointwise [k0_pay56]

/-- The convolution branch with its gate. -/
theorem branch_eq (h : FVec Ideal S512x1024 .bf16) (y : FVec Ideal S512x1024 .f32) (b : FVec Ideal S1x2048 .f32) (a : FVec Ideal S1024x1024 .bf16)
    (r : Fin 512) (d : Fin 1024) : k0_pay2 (F := Ideal) h y (k0_pay64 b) a (ix2 r d) =
      Ideal.logistic ((∑ k, h (ix2 r k) * a (ix2 k d)) + b (ix2 0 ⟨1024 + d.val, by omega⟩)) * y (ix2 r d) := by
  pointwise [k0_pay2, k0_pay64]

/-- 1024 columns of the weight from column `o`, read at an entry. -/
theorem cols_eq (w : FVec Ideal S1024x8192 .bf16) (o : ℕ) (inb : ∀ d, (![0, o] : Fin 2 → ℕ) d + (![1024, 1024] : Fin 2 → ℕ) d ≤ S1024x8192.size d)
    (k c : Fin 1024) (j : Fin 8192) (e : o + c.val = j.val) :
    View.ld (Val := Elt Ideal) (e' := .bf16) (S := S1024x8192) w (Rect.unit (s := S1024x8192) ![0, o] ![1024, 1024] inb) (ix2 k c) = w (ix2 k j) := by
  pointwise
  blk_ext

/-- A product with 1024 columns of the weight. -/
theorem proj_eq (x : FVec Ideal S512x1024 .f32) (g : FVec Ideal S1x1024 .f32) (w : FVec Ideal S1024x8192 .bf16) (o : ℕ)
    (inb : ∀ d, (![0, o] : Fin 2 → ℕ) d + (![1024, 1024] : Fin 2 → ℕ) d ≤ S1024x8192.size d)
    (r : Fin 512) (c : Fin 1024) (j : Fin 8192) (e : o + c.val = j.val) :
    (∑ k, k0_pay3 (F := Ideal) x g (ix2 r k) *
      View.ld (Val := Elt Ideal) (e' := .bf16) (S := S1024x8192) w (Rect.unit (s := S1024x8192) ![0, o] ![1024, 1024] inb) (ix2 k c)) =
      proj (fun k => x (ix2 r k)) (fun k => g (ix2 0 k)) (fun k j => w (ix2 k j)) j :=
  Finset.sum_congr rfl fun k _ => congrArg₂ (· * ·) (pre_eq x g r k) (cols_eq w o inb k c j e)

end Cert.Inproj

end
-- ==== Proof.Inproj.Point.lean ====
/- What one grid point of the input projection's call leaves in each of its blocks. -/
module

public import proofs.«01_k».proof.Proof.Inproj.Payloads
public import proofs.«01_k».proof.Proof.Gen.Kernel4Ideal.Value

@[expose] public section

set_option maxRecDepth 16384

noncomputable section

namespace Cert.Inproj

open Idealize.ShloMosaic Idealize.ShloMosaic.TcCoe Idealize.SL.Sem Cert.Kernel4Ideal Cert.Kernel4Ideal.Gen Cert.Ffn

variable (m : (ℓ : Loc nD τ sig) → Buf (Elt Ideal) ℓ) (c : Dev nD) (t : Fin cfg0.N)

/-- A row of the point's tile. -/
def row (r : Fin 512) (k : Fin 1024) : EReal := iblk m c 0 t (ix2 r k)

/-- The gain, as the point reads it. -/
def gain (k : Fin 1024) : EReal := iblk m c 1 t (ix2 0 k)

/-- The projection's weight, as the point reads it. -/
def wt (k : Fin 1024) (j : Fin 8192) : EReal := iblk m c 2 t (ix2 k j)

/-- The gates' bias, as the point reads it. -/
def bias (j : Fin 2048) : EReal := iblk m c 3 t (ix2 0 j)

/-- An entry of the scaled queries is the row's. -/
theorem query_row (r : Fin 512) (j : Fin 1024) :
    k0_pay4 (F := Ideal) (iblk m c 0 t) (iblk m c 1 t)
      (View.ld (iblk m c 2 t) (Rect.unit (s := S1024x8192) ![0, 0] ![1024, 1024] inb_S1024x8192_S1024x1024_0_0)) (ix2 r j) =
    query (row m c t r) (gain m c t) (wt m c t) j :=
  (query_eq _ _ _ r j).trans (congrArg (· * _) (proj_eq _ _ _ _ _ r j _ (Nat.zero_add _)))

set_option maxHeartbeats 1600000 in
/-- THE QUERIES a point stores, head by head. -/
theorem query_point (h : Fin 8) (d : Fin 128) (r : Fin 512) :
    (outsAt0 (F := Ideal) m c t.val t.isLt).1 (ix5 0 h 0 d r) =
      query (row m c t r) (gain m c t) (wt m c t) ⟨128 * h.val + d.val, by omega⟩ := by
  by_cases ht : t.val % 16 = 0
  all_goals
    first | rw [outsAt0_A m c t ht] | rw [outsAt0_B m c t ht]
    frame_out
    refine Eq.trans ?_ (query_row m c t r _)
    canon_tiles x e
    all_goals
      have q1 : h.val = _ := e1
      have q3 : d.val = (x 3).val := e3
      have q4 : r.val = (x 4).val := e4
      have hx : x = ix5 0 0 0 d r := by idx_ext <;> omega
      rw [hx]
    · exact (head7_eq _ d r).trans (congrArg _ (by idx_ext <;> omega))
    · exact (head6_eq _ d r).trans (congrArg _ (by idx_ext <;> omega))
    · exact (head5_eq _ d r).trans (congrArg _ (by idx_ext <;> omega))
    · exact (head4_eq _ d r).trans (congrArg _ (by idx_ext <;> omega))
    · exact (head3_eq _ d r).trans (congrArg _ (by idx_ext <;> omega))
    · exact (head2_eq _ _ _ d r).trans (congrArg _ (by idx_ext <;> omega))
    · exact (head1_eq _ _ _ d r).trans (congrArg _ (by idx_ext <;> omega))
    · exact (head0_eq _ _ _ d r).trans (congrArg _ (by idx_ext <;> omega))

/-- THE KEYS a point stores. -/
theorem key_point (d : Fin 1024) (r : Fin 512) :
    (outsAt0 (F := Ideal) m c t.val t.isLt).2.1 (ix3 0 d r) = key (row m c t r) (gain m c t) (wt m c t) d := by
  by_cases h : t.val % 16 = 0
  all_goals
    first | rw [outsAt0_A m c t h] | rw [outsAt0_B m c t h]
    frame_out
    exact (key_eq _ _ d r).trans (proj_eq _ _ _ _ _ r d _ rfl)

/-- THE VALUES a point stores. -/
theorem value_point (r : Fin 512) (d : Fin 1024) :
    (outsAt0 (F := Ideal) m c t.val t.isLt).2.2.1 (ix2 r d) = value (row m c t r) (gain m c t) (wt m c t) d := by
  by_cases h : t.val % 16 = 0
  all_goals
    first | rw [outsAt0_A m c t h] | rw [outsAt0_B m c t h]
    frame_out
    exact (value_eq _ _ r d).trans (proj_eq _ _ _ _ _ r d _ rfl)

/-- THE GATES a point stores. -/
theorem gate_point (r : Fin 512) (d : Fin 1024) :
    (outsAt0 (F := Ideal) m c t.val t.isLt).2.2.2.2.2.1 (ix2 r d) = gate (row m c t r) (gain m c t) (wt m c t) (bias m c t) d := by
  by_cases h : t.val % 16 = 0
  all_goals
    first | rw [outsAt0_A m c t h] | rw [outsAt0_B m c t h]
    frame_out
    exact (gate_eq _ _ _ r d).trans (congrArg (fun z => Ideal.logistic (z + _)) (proj_eq _ _ _ _ _ r d _ rfl))

/-- What the convolution reads of a row of the tile. -/
theorem unit_point (r : Fin 512) (d : Fin 1024) :
    k0_pay57 (F := Ideal) (k0_pay3 (iblk m c 0 t) (iblk m c 1 t))
      (View.ld (iblk m c 2 t) (Rect.unit (s := S1024x8192) ![0, 4096] ![1024, 1024] inb_S1024x8192_S1024x1024_0_4096))
      (View.ld (iblk m c 2 t) (Rect.unit (s := S1024x8192) ![0, 5120] ![1024, 1024] inb_S1024x8192_S1024x1024_0_5120)) (ix3 0 r d) =
    unit (row m c t r) (gain m c t) (wt m c t) d :=
  (unit_eq _ _ _ r d).trans (congrArg₂ (· * ·) (proj_eq _ _ _ _ _ r d _ rfl) (proj_eq _ _ _ _ _ r d _ rfl))

/-- THE LAST TWO ROWS a point hands out. -/
theorem tail_point (i : Fin 2) (d : Fin 1024) :
    (outsAt0 (F := Ideal) m c t.val t.isLt).2.2.2.2.2.2.2.1 (ix3 0 i d) =
      unit (row m c t ⟨510 + i.val, by omega⟩) (gain m c t) (wt m c t) d := by
  by_cases h : t.val % 16 = 0
  all_goals
    first | rw [outsAt0_A m c t h] | rw [outsAt0_B m c t h]
    frame_out
    exact (tail_eq _ i d).trans (unit_point m c t _ d)

/-- THE TWO ROWS a point carries to the next. -/
theorem carry_point (i : Fin 2) (d : Fin 1024) :
    (outsAt0 (F := Ideal) m c t.val t.isLt).2.2.2.2.2.2.2.2 (ix3 0 i d) =
      unit (row m c t ⟨510 + i.val, by omega⟩) (gain m c t) (wt m c t) d := by
  by_cases h : t.val % 16 = 0
  all_goals
    first | rw [outsAt0_A m c t h] | rw [outsAt0_B m c t h]
    frame_out
    exact (tail_out_eq _ i d).trans (unit_point m c t _ d)

/-- The rows before a tile, one back: the carried row, then the tile's own. -/
def one (p : Fin 2 → Fin 1024 → EReal) (u : Fin 512 → Fin 1024 → EReal) (r : Fin 512) (d : Fin 1024) : EReal :=
  if r.val = 0 then p 1 d else u ⟨r.val - 1, by omega⟩ d

/-- The rows before a tile, two back. -/
def two (p : Fin 2 → Fin 1024 → EReal) (u : Fin 512 → Fin 1024 → EReal) (r : Fin 512) (d : Fin 1024) : EReal :=
  if r.val = 0 then p 0 d else if r.val = 1 then p 1 d else u ⟨r.val - 2, by omega⟩ d

/-- A row of the tile through the convolution and its gate, after the carried rows `p`. -/
def conv (p : Fin 2 → Fin 1024 → EReal) (r : Fin 512) (d : Fin 1024) : EReal :=
  branch (row m c t r) (gain m c t) (wt m c t) (bias m c t)
    (fun e => taps (iblk m c 5 t (ix2 0 e)) (iblk m c 4 t (ix2 0 e)) (iblk m c 4 t (ix2 1 e)) (iblk m c 4 t (ix2 2 e))
      (two p (fun r => unit (row m c t r) (gain m c t) (wt m c t)) r e) (one p (fun r => unit (row m c t r) (gain m c t) (wt m c t)) r e)
      (unit (row m c t r) (gain m c t) (wt m c t) e))
    (fun e d => iblk m c 6 t (ix2 e d)) d

/-- The convolution branch of a tile, after any carried rows. -/
theorem conv_core (p : FVec Ideal S1x2x1024 .f32) (r : Fin 512) (d : Fin 1024) :
    k0_pay2 (F := Ideal) (k0_pay3 (iblk m c 0 t) (iblk m c 1 t))
      (k0_pay63
        (k0_pay56 (k0_pay3 (iblk m c 0 t) (iblk m c 1 t))
          (View.ld (iblk m c 2 t) (Rect.unit (s := S1024x8192) ![0, 3072] ![1024, 1024] inb_S1024x8192_S1024x1024_0_3072)))
        (k0_pay57 (k0_pay3 (iblk m c 0 t) (iblk m c 1 t))
          (View.ld (iblk m c 2 t) (Rect.unit (s := S1024x8192) ![0, 4096] ![1024, 1024] inb_S1024x8192_S1024x1024_0_4096))
          (View.ld (iblk m c 2 t) (Rect.unit (s := S1024x8192) ![0, 5120] ![1024, 1024] inb_S1024x8192_S1024x1024_0_5120)))
        (k0_pay59 (k0_pay3 (iblk m c 0 t) (iblk m c 1 t))
          (View.ld (iblk m c 2 t) (Rect.unit (s := S1024x8192) ![0, 4096] ![1024, 1024] inb_S1024x8192_S1024x1024_0_4096))
          (View.ld (iblk m c 2 t) (Rect.unit (s := S1024x8192) ![0, 5120] ![1024, 1024] inb_S1024x8192_S1024x1024_0_5120)) p)
        (k0_pay60 (k0_pay3 (iblk m c 0 t) (iblk m c 1 t))
          (View.ld (iblk m c 2 t) (Rect.unit (s := S1024x8192) ![0, 4096] ![1024, 1024] inb_S1024x8192_S1024x1024_0_4096))
          (View.ld (iblk m c 2 t) (Rect.unit (s := S1024x8192) ![0, 5120] ![1024, 1024] inb_S1024x8192_S1024x1024_0_5120)) p)
        (iblk m c 4 t) (iblk m c 5 t) (iblk m c 6 t))
      (k0_pay64 (iblk m c 3 t))
      (View.ld (iblk m c 2 t) (Rect.unit (s := S1024x8192) ![0, 7168] ![1024, 1024] inb_S1024x8192_S1024x1024_0_7168)) (ix2 r d) =
    conv m c t (fun i e => p (ix3 0 i e)) r d := by
  refine (branch_eq _ _ _ _ r d).trans ?_
  unfold conv branch
  refine congrArg₂ (· * ·) (congrArg (fun z => Ideal.logistic (z + _)) (proj_eq _ _ _ _ _ r d _ rfl)) ?_
  refine (out_eq _ _ _ _ _ _ _ r d).trans (Finset.sum_congr rfl fun e _ => congrArg (· * _) ?_)
  refine congrArg₂ (· * ·) ((pre_gate_eq _ _ r e).trans (proj_eq _ _ _ _ _ r e _ rfl)) ?_
  rw [back_one, back_two]
  simp only [unit_point]
  rfl

/-- THE CONVOLUTION BRANCH a sequence's first point stores: the carried rows are the state's. -/
theorem conv_first (h : t.val % 16 = 0) (r : Fin 512) (d : Fin 1024) :
    (outsAt0 (F := Ideal) m c t.val t.isLt).2.2.2.2.2.2.1 (ix2 r d) = conv m c t (fun i e => iblk m c 7 t (ix3 0 i e)) r d := by
  rw [outsAt0_A m c t h]
  frame_out
  refine (conv_core m c t _ r d).trans ?_
  refine congrArg (fun p => conv m c t p r d) (funext fun i => funext fun e => ?_)
  pointwise [k0_pay55]

/-- THE CONVOLUTION BRANCH a later point stores: the carried rows are the last two of the tile before. -/
theorem conv_later (h : ¬ t.val % 16 = 0) (r : Fin 512) (d : Fin 1024) :
    (outsAt0 (F := Ideal) m c t.val t.isLt).2.2.2.2.2.2.1 (ix2 r d) =
      conv m c t (fun i => unit (row m c ⟨t.val - 1, by omega⟩ ⟨510 + i.val, by omega⟩) (gain m c ⟨t.val - 1, by omega⟩) (wt m c ⟨t.val - 1, by omega⟩)) r d := by
  rw [outsAt0_B m c t h]
  frame_out
  refine (conv_core m c t _ r d).trans ?_
  refine congrArg (fun p => conv m c t p r d) (funext fun i => funext fun e => ?_)
  refine Eq.trans ?_ (carry_point m c ⟨t.val - 1, by omega⟩ i e)
  exact congrFun (Memref.IsWhole.read_unread _ _) _

end Cert.Inproj

end
-- ==== Proof.Inproj.Blocks.lean ====
/- The blocks the input projection's call reads, as entries of its arguments. -/
module

public import proofs.«01_k».proof.Proof.Inproj.Point
public import Idealize.ShloMosaic.Lib.Claim

@[expose] public section

set_option maxRecDepth 16384

noncomputable section

namespace Cert.Inproj

open Idealize.ShloMosaic Idealize.ShloMosaic.TcCoe Idealize.SL.Sem Cert.Kernel4Ideal Cert.Kernel4Ideal.Gen Cert.Ffn Idealize.ShloMosaic.StableHlo

variable (m : (ℓ : Loc nD τ sig) → Buf (Elt Ideal) ℓ) (c : Dev nD) (t : Fin cfg0.N)

/-- The blocks of the tiled windows, at every point. -/
theorem idx : ∀ t : Fin cfg0.N, win0_0.index t = ![t.val, 0] ∧ win0_7.index t = ![t.val / 16, 0, 0] ∧ win0_9.index t = ![t.val / 16, 0, t.val % 16]
    ∧ win0_10.index t = ![t.val, 0] ∧ win0_13.index t = ![t.val, 0] ∧ win0_14.index t = ![t.val, 0] ∧ win0_15.index t = ![t.val / 16, 0, 0]
    ∧ win0_8.index t = ![t.val / 16, 0, t.val % 16, 0, 0] :=
  (by decide +kernel : ∀ t : Fin grid0.N, _)

/-- The blocks of the weights, the gain and the biases: the whole array, at every point. -/
theorem idx_whole : ∀ t : Fin cfg0.N, win0_1.index t = ![0, 0] ∧ win0_2.index t = ![0, 0] ∧ win0_3.index t = ![0, 0] ∧ win0_4.index t = ![0, 0]
    ∧ win0_5.index t = ![0, 0] ∧ win0_6.index t = ![0, 0] :=
  (by decide +kernel : ∀ t : Fin grid0.N, _)

/-- There are 64 tiles of 512 rows. -/
theorem N_lt : t.val < 64 := t.isLt

/-- A token's row of the first argument. -/
def tok (b : Fin 4) (s : Fin 8192) (k : Fin 1024) : EReal := m ((c.tc : Thread nD τ).loc main_arg0) (ix3 b s k)

/-- The gain. -/
def argG (k : Fin 1024) : EReal := m ((c.tc : Thread nD τ).loc main_arg1) (ix2 0 k)

/-- The projection's weight. -/
def argW (k : Fin 1024) (j : Fin 8192) : EReal := m ((c.tc : Thread nD τ).loc main_arg2) (ix3 0 k j)

/-- The gates' bias. -/
def argB (j : Fin 2048) : EReal := m ((c.tc : Thread nD τ).loc main_arg3) (ix2 0 j)

/-- A row of tile `t` is a token's. -/
theorem row_blk (r : Fin 512) (b : Fin 4) (s : Fin 8192) (e : 512 * t.val + r.val = 8192 * b.val + s.val) : row m c t r = tok m c b s := by
  have ht := N_lt t
  funext k
  unfold row tok
  have e' : iblk m c 0 t (ix2 r k) = V m c main_v12 (ix2 ⟨8192 * b.val + s.val, by omega⟩ k) := by blk_point [iblk, V, idx t]
  rw [e']
  entry_read
  pointwise

/-- The gain is the second argument. -/
theorem gain_blk : gain m c t = argG m c := by
  funext k
  unfold gain argG
  have e : iblk m c 1 t (ix2 0 k) = V m c main_v1 (ix2 0 k) := by blk_point [iblk, V, idx_whole t]
  rw [e]
  entry_read
  pointwise

/-- The projection's weight is the third. -/
theorem wt_blk : wt m c t = argW m c := by
  funext k j
  unfold wt argW
  have e : iblk m c 2 t (ix2 k j) = V m c main_v3 (ix2 k j) := by blk_point [iblk, V, idx_whole t]
  rw [e]
  entry_read
  pointwise

/-- The gates' bias is the fourth. -/
theorem bias_blk : bias m c t = argB m c := by
  funext j
  unfold bias argB
  have e : iblk m c 3 t (ix2 0 j) = V m c main_v5 (ix2 0 j) := by blk_point [iblk, V, idx_whole t]
  rw [e]
  entry_read
  pointwise

/-- The taps. -/
theorem taps_blk (i : Fin 3) (e : Fin 1024) : iblk m c 4 t (ix2 i e) = m ((c.tc : Thread nD τ).loc main_arg4) (ix3 0 i e) := by
  have e : iblk m c 4 t (ix2 i e) = V m c main_v6 (ix2 i e) := by blk_point [iblk, V, idx_whole t]
  rw [e]
  entry_read
  pointwise

/-- The convolution's bias. -/
theorem conv_bias_blk (e : Fin 1024) : iblk m c 5 t (ix2 0 e) = m ((c.tc : Thread nD τ).loc main_arg5) (ix2 0 e) := by
  have e : iblk m c 5 t (ix2 0 e) = V m c main_v8 (ix2 0 e) := by blk_point [iblk, V, idx_whole t]
  rw [e]
  entry_read
  pointwise

/-- The convolution's weight. -/
theorem conv_wt_blk (e d : Fin 1024) : iblk m c 6 t (ix2 e d) = m ((c.tc : Thread nD τ).loc main_arg6) (ix3 0 e d) := by
  have e : iblk m c 6 t (ix2 e d) = V m c main_v10 (ix2 e d) := by blk_point [iblk, V, idx_whole t]
  rw [e]
  entry_read
  pointwise

/-- The state that a sequence starts from is zero. -/
theorem state_blk (i : Fin 2) (e : Fin 1024) : iblk m c 7 t (ix3 0 i e) = (0 : EReal) := by
  have ht := N_lt t
  have e : iblk m c 7 t (ix3 0 i e) = V m c main_v11 (ix3 ⟨t.val / 16, by omega⟩ i e) := by blk_point [iblk, V, idx t]
  rw [e]
  entry_read
  pointwise

/-- What the convolution reads of a token. -/
abbrev tokUnit (b : Fin 4) (e : Fin 1024) (s : Fin 8192) : EReal := unit (tok m c b s) (argG m c) (argW m c) e

/-- What the convolution reads of a row of tile `t`. -/
theorem unit_blk (r : Fin 512) (e : Fin 1024) (b : Fin 4) (s : Fin 8192) (h : 512 * t.val + r.val = 8192 * b.val + s.val) :
    unit (row m c t r) (gain m c t) (wt m c t) e = tokUnit m c b e s := by
  rw [row_blk m c t r b s h, gain_blk, wt_blk]

/-- The rows carried into a tile: zero for a sequence's first. -/
def carried (i : Fin 2) (e : Fin 1024) : EReal :=
  if h : t.val % 16 = 0 then 0
  else unit (row m c ⟨t.val - 1, by omega⟩ ⟨510 + i.val, by omega⟩) (gain m c ⟨t.val - 1, by omega⟩) (wt m c ⟨t.val - 1, by omega⟩) e

/-- One token back. -/
theorem one_blk (r : Fin 512) (e : Fin 1024) (b : Fin 4) (s : Fin 8192) (h : 512 * t.val + r.val = 8192 * b.val + s.val) :
    one (carried m c t) (fun r => unit (row m c t r) (gain m c t) (wt m c t)) r e = back 1 (tokUnit m c b e) s := by
  unfold one back carried
  by_cases hr : r.val = 0
  · rw [if_pos hr]
    by_cases ht : t.val % 16 = 0
    · rw [dif_pos ht, if_neg (by omega)]
    · rw [dif_neg ht, if_pos (by omega)]
      exact unit_blk m c _ _ e b _ (by simp only; omega)
  · rw [if_neg hr, if_pos (by omega)]
    exact unit_blk m c t _ e b _ (by simp only; omega)

/-- Two tokens back. -/
theorem two_blk (r : Fin 512) (e : Fin 1024) (b : Fin 4) (s : Fin 8192) (h : 512 * t.val + r.val = 8192 * b.val + s.val) :
    two (carried m c t) (fun r => unit (row m c t r) (gain m c t) (wt m c t)) r e = back 2 (tokUnit m c b e) s := by
  unfold two back carried
  by_cases hr : r.val = 0
  · rw [if_pos hr]
    by_cases ht : t.val % 16 = 0
    · rw [dif_pos ht, if_neg (by omega)]
    · rw [dif_neg ht, if_pos (by omega)]
      exact unit_blk m c _ _ e b _ (by simp only [Fin.val_zero]; omega)
  · rw [if_neg hr]
    by_cases hr1 : r.val = 1
    · rw [if_pos hr1]
      by_cases ht : t.val % 16 = 0
      · rw [dif_pos ht, if_neg (by omega)]
      · rw [dif_neg ht, if_pos (by omega)]
        exact unit_blk m c _ _ e b _ (by simp only [Fin.val_one]; omega)
    · rw [if_neg hr1, if_pos (by omega)]
      exact unit_blk m c t _ e b _ (by simp only; omega)

/-- THE CONVOLUTION BRANCH a point stores, of the arguments. -/
theorem conv_blk (r : Fin 512) (d : Fin 1024) (b : Fin 4) (s : Fin 8192) (h : 512 * t.val + r.val = 8192 * b.val + s.val) :
    (outsAt0 (F := Ideal) m c t.val t.isLt).2.2.2.2.2.2.1 (ix2 r d) =
      branch (tok m c b s) (argG m c) (argW m c) (argB m c)
        (fun e => taps (m ((c.tc : Thread nD τ).loc main_arg5) (ix2 0 e)) (m ((c.tc : Thread nD τ).loc main_arg4) (ix3 0 0 e))
          (m ((c.tc : Thread nD τ).loc main_arg4) (ix3 0 1 e)) (m ((c.tc : Thread nD τ).loc main_arg4) (ix3 0 2 e))
          (back 2 (tokUnit m c b e) s) (back 1 (tokUnit m c b e) s) (back 0 (tokUnit m c b e) s))
        (fun e d => m ((c.tc : Thread nD τ).loc main_arg6) (ix3 0 e d)) d := by
  have left : (outsAt0 (F := Ideal) m c t.val t.isLt).2.2.2.2.2.2.1 (ix2 r d) = conv m c t (carried m c t) r d := by
    by_cases ht : t.val % 16 = 0
    · refine (conv_first m c t ht r d).trans (congrArg (fun p => conv m c t p r d) (funext fun i => funext fun e => ?_))
      have z : carried m c t i e = 0 := by unfold carried; rw [dif_pos ht]
      exact (state_blk m c t i e).trans z.symm
    · refine (conv_later m c t ht r d).trans (congrArg (fun p => conv m c t p r d) (funext fun i => funext fun e => ?_))
      unfold carried
      rw [dif_neg ht]
  have zero : ∀ e, back 0 (tokUnit m c b e) s = tokUnit m c b e s := fun e => if_pos (Nat.zero_le _)
  rw [left]
  unfold conv
  simp only [one_blk m c t r _ b s h, two_blk m c t r _ b s h, unit_blk m c t r _ b s h, zero, taps_blk, conv_bias_blk, conv_wt_blk]
  rw [row_blk m c t r b s h, gain_blk, wt_blk, bias_blk]

end Cert.Inproj

end
-- ==== Proof.Inproj.Scale.lean ====
/- The queries' scale as the reference writes it: an eighth, divided by the logarithm of two. -/
module

public import Idealize.ShloMosaic.Lib.Pointwise
public import Idealize.ShloMosaic.Lib.IdealHost

@[expose] public section

noncomputable section

namespace Cert.Inproj.Scale

open Idealize.ShloMosaic

/-- The word of an eighth. -/
theorem eighth : Ideal.ofBits .f32 0x3E000000#32 = ((1 / 8 : ℝ) : EReal) := by
  simp [Ideal.ofBits, Ideal.ieee, -EReal.coe_mul]; norm_num

/-- The word of two. -/
theorem two : Ideal.ofBits .f32 0x40000000#32 = ((2 : ℝ) : EReal) := by
  simp [Ideal.ofBits, Ideal.ieee, -EReal.coe_mul]; norm_num

/-- An eighth of a number, divided by the logarithm of two. -/
theorem scale_eq (x : EReal) : Ideal.div (x * Ideal.ofBits .f32 0x3E000000#32) (Ideal.log (Ideal.ofBits .f32 0x40000000#32)) =
    x * (((1 / 8) * (Real.log 2)⁻¹ : ℝ) : EReal) := by
  rw [eighth, two, Ideal.log_coe, if_neg (by norm_num), Ideal.div_coe (Real.log_pos one_lt_two).ne', mul_assoc, ← EReal.coe_mul, one_div (Real.log 2)]

end Cert.Inproj.Scale

end
-- ==== Proof.Inproj.Ref.lean ====
/- The input projection and the short convolution as the reference writes them, read at an entry of each result. -/
module

public import proofs.«01_k».proof.Proof.Inproj.Rows
public import proofs.«01_k».proof.Proof.Inproj.Scale
public import proofs.«01_k».proof.Proof.Gen.Reference4Ideal.Read
public import Idealize.ShloMosaic.Lib.Pointwise

@[expose] public section

set_option maxRecDepth 16384

noncomputable section

namespace Cert.Inproj.Ref

open Idealize.ShloMosaic Idealize.ShloMosaic.TcCoe Cert.Reference4Ideal Cert.Reference4Ideal.Gen Cert.Reference4Ideal.Read Cert.Ffn

variable (x0 : FVec Ideal S4x8192x1024 .f32) (x1 : FVec Ideal S1x1024 .f32) (x2 : FVec Ideal S1x1024x8192 .f32) (x3 : FVec Ideal S1x2048 .f32)
  (x4 : FVec Ideal S1x3x1024 .f32) (x5 : FVec Ideal S1x1024 .f32) (x6 : FVec Ideal S1x1024x1024 .f32)

/-- The norm of a token's row. -/
theorem pre_eq (b : Fin 4) (s : Fin 8192) (c : Fin 1024) :
    val_main_v13 (F := Ideal) x0 x1 (ix3 b s c) = rms (fun k => x0 (ix3 b s k)) (fun k => x1 (ix2 0 k)) c := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

/-- The projected row of a token. -/
theorem proj_eq (b : Fin 4) (s j : Fin 8192) : val_main_v15 (F := Ideal) x0 x1 x2 (ix3 b s j) =
    proj (fun k => x0 (ix3 b s k)) (fun k => x1 (ix2 0 k)) (fun k j => x2 (ix3 0 k j)) j := by
  pointwise [val_main_v15, val_main_v14]
  simp only [pre_eq]
  rfl

/-- THE QUERIES, scaled, by heads and tiles. -/
theorem query_eq (b : Fin 4) (h : Fin 8) (n : Fin 16) (d : Fin 128) (r : Fin 512) : val_main_v83 (F := Ideal) x0 x1 x2 (ix5 b h n d r) =
    query (fun k => x0 (ix3 b ⟨512 * n.val + r.val, by omega⟩ k)) (fun k => x1 (ix2 0 k)) (fun k j => x2 (ix3 0 k j)) ⟨128 * h.val + d.val, by omega⟩ := by
  have e : val_main_v83 (F := Ideal) x0 x1 x2 (ix5 b h n d r) =
      val_main_v80 (F := Ideal) x0 x1 x2 (ix3 b ⟨512 * n.val + r.val, by omega⟩ ⟨128 * h.val + d.val, by omega⟩) := by
    pointwise [val_main_v83, val_main_v82, val_main_v81]
    exact congrArg _ (by idx_ext <;> omega)
  rw [e]
  pointwise [val_main_v80, val_main_v79, val_main_v78, val_main_v77, val_main_v76, val_main_v75, val_main_v16, val_main_cst_5, val_main_cst_6]
  simp only [proj_eq]
  exact Scale.scale_eq _

/-- THE KEYS, turned. -/
theorem key_eq (b : Fin 4) (c : Fin 1024) (s : Fin 8192) : val_main_v68 (F := Ideal) x0 x1 x2 (ix3 b c s) =
    key (fun k => x0 (ix3 b s k)) (fun k => x1 (ix2 0 k)) (fun k j => x2 (ix3 0 k j)) c := by
  pointwise [val_main_v68, val_main_v17]
  simp only [proj_eq]
  rfl

/-- THE VALUES. -/
theorem value_eq (b : Fin 4) (s : Fin 8192) (c : Fin 1024) :
    val_main_v69 (F := Ideal) x0 x1 x2 (ix2 ⟨8192 * b.val + s.val, by omega⟩ c) =
    value (fun k => x0 (ix3 b s k)) (fun k => x1 (ix2 0 k)) (fun k j => x2 (ix3 0 k j)) c := by
  have e : val_main_v69 (F := Ideal) x0 x1 x2 (ix2 ⟨8192 * b.val + s.val, by omega⟩ c) = val_main_v18 (F := Ideal) x0 x1 x2 (ix3 b s c) := by
    pointwise [val_main_v69]
  rw [e]
  pointwise [val_main_v18]
  simp only [proj_eq]
  rfl

/-- The two gates of a token, side by side. -/
theorem sigmoid_eq (b : Fin 4) (s : Fin 8192) (j : Fin 2048) : val_main_v65 (F := Ideal) x0 x1 x2 x3 (ix3 b s j) =
    Ideal.logistic (proj (fun k => x0 (ix3 b s k)) (fun k => x1 (ix2 0 k)) (fun k j => x2 (ix3 0 k j)) ⟨6144 + j.val, by omega⟩ + x3 (ix2 0 j)) := by
  have e : val_main_v55 (F := Ideal) x0 x1 x2 (ix3 b s j) = val_main_v15 (F := Ideal) x0 x1 x2 (ix3 b s ⟨6144 + j.val, by omega⟩) := by
    pointwise [val_main_v55, val_main_v22, val_main_v23]
    by_cases h : j.val < 1024
    · rw [dif_pos h]
    · rw [dif_neg h]
      exact congrArg _ (by idx_ext <;> omega)
  pointwise [val_main_v65, val_main_v64, val_main_v63, val_main_v62, val_main_v61, val_main_v60, val_main_v59, val_main_v58, val_main_v57,
    val_main_v56, val_main_cst_3, val_main_cst_4]
  rw [e, proj_eq]
  rfl

/-- THE ATTENTION BRANCH'S GATES. -/
theorem gate_eq (b : Fin 4) (s : Fin 8192) (c : Fin 1024) :
    val_main_v71 (F := Ideal) x0 x1 x2 x3 (ix2 ⟨8192 * b.val + s.val, by omega⟩ c) =
    gate (fun k => x0 (ix3 b s k)) (fun k => x1 (ix2 0 k)) (fun k j => x2 (ix3 0 k j)) (fun j => x3 (ix2 0 j)) c := by
  have e : val_main_v71 (F := Ideal) x0 x1 x2 x3 (ix2 ⟨8192 * b.val + s.val, by omega⟩ c) = val_main_v66 (F := Ideal) x0 x1 x2 x3 (ix3 b s c) := by
    pointwise [val_main_v71, val_main_v70]
  rw [e]
  pointwise [val_main_v66]
  simp only [sigmoid_eq]
  rfl

/-- What the convolution reads of a token. -/
theorem unit_eq (b : Fin 4) (s : Fin 8192) (c : Fin 1024) : val_main_v24 (F := Ideal) x0 x1 x2 (ix3 b s c) =
    unit (fun k => x0 (ix3 b s k)) (fun k => x1 (ix2 0 k)) (fun k j => x2 (ix3 0 k j)) c := by
  pointwise [val_main_v24, val_main_v20, val_main_v21]
  simp only [proj_eq]
  rfl

/-- The sequence with two zero rows before it, read `n` tokens back. -/
theorem padded_eq (b : Fin 4) (s : Fin 8192) (c : Fin 1024) (n : ℕ) (hn : n ≤ 2) :
    val_main_v26 (F := Ideal) x0 x1 x2 (ix3 b ⟨s.val + (2 - n), by omega⟩ c) =
      back n (fun s => unit (fun k => x0 (ix3 b s k)) (fun k => x1 (ix2 0 k)) (fun k j => x2 (ix3 0 k j)) c) s := by
  unfold back
  simp only [← unit_eq]
  pointwise [val_main_v26, val_main_v25, val_main_cst_2]
  by_cases h : n ≤ s.val
  · rw [dif_neg (by omega), if_pos h]
    exact congrArg _ (by idx_ext <;> omega)
  · rw [dif_pos (by omega), if_neg h]

/-- THE TOKENS CARRIED ON: the sequence's last two. -/
theorem carry_eq (b : Fin 4) (i : Fin 2) (c : Fin 1024) : val_main_v54 (F := Ideal) x0 x1 x2 (ix3 b i c) =
    unit (fun k => x0 (ix3 b ⟨8190 + i.val, by omega⟩ k)) (fun k => x1 (ix2 0 k)) (fun k j => x2 (ix3 0 k j)) c := by
  have e : val_main_v54 (F := Ideal) x0 x1 x2 (ix3 b i c) = val_main_v26 (F := Ideal) x0 x1 x2 (ix3 b ⟨8192 + i.val, by omega⟩ c) := by
    pointwise [val_main_v54]
  have p := padded_eq x0 x1 x2 b ⟨8190 + i.val, by omega⟩ c 0 (by omega)
  unfold back at p
  rw [if_pos (Nat.zero_le _)] at p
  rw [e]
  exact (congrArg _ (by idx_ext <;> omega)).trans p

/-- The convolution of a sequence, at a token. -/
theorem taps_eq (b : Fin 4) (s : Fin 8192) (c : Fin 1024) : val_main_v50 (F := Ideal) x0 x1 x2 x4 x5 (ix3 b s c) =
    taps (x5 (ix2 0 c)) (x4 (ix3 0 0 c)) (x4 (ix3 0 1 c)) (x4 (ix3 0 2 c))
      (back 2 (fun s => unit (fun k => x0 (ix3 b s k)) (fun k => x1 (ix2 0 k)) (fun k j => x2 (ix3 0 k j)) c) s)
      (back 1 (fun s => unit (fun k => x0 (ix3 b s k)) (fun k => x1 (ix2 0 k)) (fun k j => x2 (ix3 0 k j)) c) s)
      (back 0 (fun s => unit (fun k => x0 (ix3 b s k)) (fun k => x1 (ix2 0 k)) (fun k j => x2 (ix3 0 k j)) c) s) := by
  rw [← padded_eq x0 x1 x2 b s c 2 (by omega), ← padded_eq x0 x1 x2 b s c 1 (by omega), ← padded_eq x0 x1 x2 b s c 0 (by omega)]
  pointwise [val_main_v50, val_main_v49, val_main_v48, val_main_v47, val_main_v46, val_main_v45, val_main_v44, val_main_v43, val_main_v42,
    val_main_v41, val_main_v40, val_main_v39, val_main_v38, val_main_v37, val_main_v36, val_main_v35, val_main_v34, val_main_v33, val_main_v32,
    val_main_v31, val_main_v30, val_main_v29, val_main_v28, val_main_v27]
  simp only [Nat.add_comm s.val]
  rfl

/-- THE CONVOLUTION BRANCH WITH ITS GATE. -/
theorem branch_eq (b : Fin 4) (s : Fin 8192) (d : Fin 1024) :
    val_main_v74 (F := Ideal) x0 x1 x2 x3 x4 x5 x6 (ix2 ⟨8192 * b.val + s.val, by omega⟩ d) =
    branch (fun k => x0 (ix3 b s k)) (fun k => x1 (ix2 0 k)) (fun k j => x2 (ix3 0 k j)) (fun j => x3 (ix2 0 j))
      (fun c => taps (x5 (ix2 0 c)) (x4 (ix3 0 0 c)) (x4 (ix3 0 1 c)) (x4 (ix3 0 2 c))
        (back 2 (fun s => unit (fun k => x0 (ix3 b s k)) (fun k => x1 (ix2 0 k)) (fun k j => x2 (ix3 0 k j)) c) s)
        (back 1 (fun s => unit (fun k => x0 (ix3 b s k)) (fun k => x1 (ix2 0 k)) (fun k j => x2 (ix3 0 k j)) c) s)
        (back 0 (fun s => unit (fun k => x0 (ix3 b s k)) (fun k => x1 (ix2 0 k)) (fun k j => x2 (ix3 0 k j)) c) s))
      (fun c d => x6 (ix3 0 c d)) d := by
  have e : val_main_v74 (F := Ideal) x0 x1 x2 x3 x4 x5 x6 (ix2 ⟨8192 * b.val + s.val, by omega⟩ d) =
      val_main_v72 (F := Ideal) x0 x1 x2 x3 x4 x5 x6 (ix3 b s d) := by
    pointwise [val_main_v74, val_main_v73]
  rw [e]
  pointwise [val_main_v72, val_main_v67, val_main_v53, val_main_v52, val_main_v51, val_main_v19]
  simp only [sigmoid_eq, proj_eq, taps_eq]
  have hj : (⟨6144 + (1024 + d.val), by omega⟩ : Fin 8192) = ⟨7168 + d.val, by omega⟩ := Fin.ext (by simp only; omega)
  rw [hj]
  rfl

end Cert.Inproj.Ref

end
-- ==== Proof.Inproj.Final.lean ====
/- The arrays of the input projection's call, after the run, are the reference's. -/
module

public import proofs.«01_k».proof.Proof.Inproj.Blocks
public import proofs.«01_k».proof.Proof.Inproj.Ref

@[expose] public section

set_option maxRecDepth 16384

noncomputable section

namespace Cert.Inproj

open Idealize.ShloMosaic Idealize.ShloMosaic.TcCoe Idealize.SL.Sem Cert.Kernel4Ideal Cert.Kernel4Ideal.Gen Cert.Ffn Idealize.ShloMosaic.StableHlo
  Cert.Reference4Ideal.Read

variable (m : (ℓ : Loc nD τ sig) → Buf (Elt Ideal) ℓ) (c : Dev nD)

/-- The token of a row of a tile. -/
theorem token (t : Fin cfg0.N) (r : Fin 512) : ∃ (b : Fin 4) (s : Fin 8192), 512 * t.val + r.val = 8192 * b.val + s.val := by
  have ht := N_lt t
  exact ⟨⟨(512 * t.val + r.val) / 8192, by omega⟩, ⟨(512 * t.val + r.val) % 8192, by omega⟩, by simp only; omega⟩

/-- THE QUERIES' ARRAY. -/
theorem query_final : (dats m 0 c).arrAt 8 cfg0.N = val_main_v83 (F := Ideal) (m ((c.tc : Thread nD τ).loc main_arg0))
    (m ((c.tc : Thread nD τ).loc main_arg1)) (m ((c.tc : Thread nD τ).loc main_arg2)) := by
  refine (dats m 0 c).arrAt_eq_of_covers 8 _ (by decide +kernel) fun t _ y => ?_
  blk_simp
  rw [after0_8]
  have ht := N_lt t
  have hy0 : (y 0).val < 1 := (y 0).isLt
  have hy1 : (y 1).val < 8 := (y 1).isLt
  have hy2 : (y 2).val < 1 := (y 2).isLt
  have hy3 : (y 3).val < 128 := (y 3).isLt
  have hy4 : (y 4).val < 512 := (y 4).isLt
  have hy : y = ix5 0 ⟨(y 1).val, hy1⟩ 0 ⟨(y 3).val, hy3⟩ ⟨(y 4).val, hy4⟩ := by idx_ext <;> omega
  obtain ⟨b, hb⟩ : ∃ b : Fin 4, b.val = t.val / 16 := ⟨⟨_, by omega⟩, rfl⟩
  obtain ⟨n, hn⟩ : ∃ n : Fin 16, n.val = t.val % 16 := ⟨⟨_, by omega⟩, rfl⟩
  refine (congrArg (outsAt0 (F := Ideal) m c t.val t.isLt).1 hy).trans ((query_point m c t _ _ _).trans ?_)
  rw [row_blk m c t _ b ⟨512 * n.val + (y 4).val, by omega⟩ (by simp only; omega), gain_blk, wt_blk]
  refine (Ref.query_eq (m ((c.tc : Thread nD τ).loc main_arg0)) (m ((c.tc : Thread nD τ).loc main_arg1)) (m ((c.tc : Thread nD τ).loc main_arg2))
    b ⟨(y 1).val, hy1⟩ n ⟨(y 3).val, hy3⟩ ⟨(y 4).val, hy4⟩).symm.trans (congrArg _ ?_)
  blk_ext [idx t] <;> omega

/-- THE KEYS' ARRAY. -/
theorem key_final : (dats m 0 c).arrAt 9 cfg0.N = val_main_v68 (F := Ideal) (m ((c.tc : Thread nD τ).loc main_arg0))
    (m ((c.tc : Thread nD τ).loc main_arg1)) (m ((c.tc : Thread nD τ).loc main_arg2)) := by
  refine (dats m 0 c).arrAt_eq_of_covers 9 _ (by decide +kernel) fun t _ y => ?_
  blk_simp
  rw [after0_9]
  have ht := N_lt t
  have hy0 : (y 0).val < 1 := (y 0).isLt
  have hy1 : (y 1).val < 1024 := (y 1).isLt
  have hy2 : (y 2).val < 512 := (y 2).isLt
  have hy : y = ix3 0 ⟨(y 1).val, hy1⟩ ⟨(y 2).val, hy2⟩ := by idx_ext <;> omega
  obtain ⟨b, s, e⟩ := token t ⟨(y 2).val, hy2⟩
  refine (congrArg (outsAt0 (F := Ideal) m c t.val t.isLt).2.1 hy).trans ((key_point m c t _ _).trans ?_)
  rw [row_blk m c t _ b s e, gain_blk, wt_blk]
  refine (Ref.key_eq (m ((c.tc : Thread nD τ).loc main_arg0)) (m ((c.tc : Thread nD τ).loc main_arg1)) (m ((c.tc : Thread nD τ).loc main_arg2))
    b ⟨(y 1).val, hy1⟩ s).symm.trans (congrArg _ ?_)
  simp only at e
  blk_ext [idx t] <;> omega

/-- THE VALUES' ARRAY. -/
theorem value_final : (dats m 0 c).arrAt 10 cfg0.N = val_main_v69 (F := Ideal) (m ((c.tc : Thread nD τ).loc main_arg0))
    (m ((c.tc : Thread nD τ).loc main_arg1)) (m ((c.tc : Thread nD τ).loc main_arg2)) := by
  refine (dats m 0 c).arrAt_eq_of_covers 10 _ (by decide +kernel) fun t _ y => ?_
  blk_simp
  rw [after0_10]
  have ht := N_lt t
  have hy0 : (y 0).val < 512 := (y 0).isLt
  have hy1 : (y 1).val < 1024 := (y 1).isLt
  have hy : y = ix2 ⟨(y 0).val, hy0⟩ ⟨(y 1).val, hy1⟩ := by idx_ext
  obtain ⟨b, s, e⟩ := token t ⟨(y 0).val, hy0⟩
  refine (congrArg (outsAt0 (F := Ideal) m c t.val t.isLt).2.2.1 hy).trans ((value_point m c t _ _).trans ?_)
  rw [row_blk m c t _ b s e, gain_blk, wt_blk]
  refine (Ref.value_eq (m ((c.tc : Thread nD τ).loc main_arg0)) (m ((c.tc : Thread nD τ).loc main_arg1)) (m ((c.tc : Thread nD τ).loc main_arg2))
    b s ⟨(y 1).val, hy1⟩).symm.trans (congrArg _ ?_)
  simp only at e
  blk_ext [idx t] <;> omega

/-- THE ATTENTION BRANCH'S GATES' ARRAY. -/
theorem gate_final : (dats m 0 c).arrAt 13 cfg0.N = val_main_v71 (F := Ideal) (m ((c.tc : Thread nD τ).loc main_arg0))
    (m ((c.tc : Thread nD τ).loc main_arg1)) (m ((c.tc : Thread nD τ).loc main_arg2)) (m ((c.tc : Thread nD τ).loc main_arg3)) := by
  refine (dats m 0 c).arrAt_eq_of_covers 13 _ (by decide +kernel) fun t _ y => ?_
  blk_simp
  rw [after0_13]
  have ht := N_lt t
  have hy0 : (y 0).val < 512 := (y 0).isLt
  have hy1 : (y 1).val < 1024 := (y 1).isLt
  have hy : y = ix2 ⟨(y 0).val, hy0⟩ ⟨(y 1).val, hy1⟩ := by idx_ext
  obtain ⟨b, s, e⟩ := token t ⟨(y 0).val, hy0⟩
  refine (congrArg (outsAt0 (F := Ideal) m c t.val t.isLt).2.2.2.2.2.1 hy).trans ((gate_point m c t _ _).trans ?_)
  rw [row_blk m c t _ b s e, gain_blk, wt_blk, bias_blk]
  refine (Ref.gate_eq (m ((c.tc : Thread nD τ).loc main_arg0)) (m ((c.tc : Thread nD τ).loc main_arg1)) (m ((c.tc : Thread nD τ).loc main_arg2))
    (m ((c.tc : Thread nD τ).loc main_arg3)) b s ⟨(y 1).val, hy1⟩).symm.trans (congrArg _ ?_)
  simp only at e
  blk_ext [idx t] <;> omega

/-- THE CONVOLUTION BRANCH'S ARRAY. -/
theorem branch_final : (dats m 0 c).arrAt 14 cfg0.N = val_main_v74 (F := Ideal) (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) := by
  refine (dats m 0 c).arrAt_eq_of_covers 14 _ (by decide +kernel) fun t _ y => ?_
  blk_simp
  rw [after0_14]
  have ht := N_lt t
  have hy0 : (y 0).val < 512 := (y 0).isLt
  have hy1 : (y 1).val < 1024 := (y 1).isLt
  have hy : y = ix2 ⟨(y 0).val, hy0⟩ ⟨(y 1).val, hy1⟩ := by idx_ext
  obtain ⟨b, s, e⟩ := token t ⟨(y 0).val, hy0⟩
  refine (congrArg (outsAt0 (F := Ideal) m c t.val t.isLt).2.2.2.2.2.2.1 hy).trans ((conv_blk m c t _ _ b s e).trans ?_)
  refine (Ref.branch_eq (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) b s ⟨(y 1).val, hy1⟩).symm.trans (congrArg _ ?_)
  simp only at e
  blk_ext [idx t] <;> omega

/-- THE ARRAY OF THE TOKENS CARRIED ON: each sequence's last two. -/
theorem carry_final : (dats m 0 c).arrAt 15 cfg0.N = val_main_v54 (F := Ideal) (m ((c.tc : Thread nD τ).loc main_arg0))
    (m ((c.tc : Thread nD τ).loc main_arg1)) (m ((c.tc : Thread nD τ).loc main_arg2)) := by
  refine (dats m 0 c).arrAt_eq_of_covers 15 _ (by decide +kernel) fun t hf y => ?_
  blk_simp
  rw [after0_15]
  have hl := (flush0_15 t).mp hf
  have ht := N_lt t
  have hy0 : (y 0).val < 1 := (y 0).isLt
  have hy1 : (y 1).val < 2 := (y 1).isLt
  have hy2 : (y 2).val < 1024 := (y 2).isLt
  have hy : y = ix3 0 ⟨(y 1).val, hy1⟩ ⟨(y 2).val, hy2⟩ := by idx_ext <;> omega
  obtain ⟨b, hb⟩ : ∃ b : Fin 4, b.val = t.val / 16 := ⟨⟨_, by omega⟩, rfl⟩
  refine (congrArg (outsAt0 (F := Ideal) m c t.val t.isLt).2.2.2.2.2.2.2.1 hy).trans ((tail_point m c t _ _).trans ?_)
  rw [row_blk m c t _ b ⟨8190 + (y 1).val, by omega⟩ (by simp only; omega), gain_blk, wt_blk]
  refine (Ref.carry_eq (m ((c.tc : Thread nD τ).loc main_arg0)) (m ((c.tc : Thread nD τ).loc main_arg1)) (m ((c.tc : Thread nD τ).loc main_arg2))
    b ⟨(y 1).val, hy1⟩ ⟨(y 2).val, hy2⟩).symm.trans (congrArg _ ?_)
  blk_ext [idx t] <;> omega

end Cert.Inproj

end
-- ==== Proof.Inproj.Pair.lean ====
/- The input projection's call and its reference, run from the same arguments. -/
module

public import proofs.«01_k».proof.Defs
public import proofs.«01_k».proof.Proof.Gen.Kernel4Ideal.Value
public import proofs.«01_k».proof.Proof.Gen.Reference4Ideal.Run
public import proofs.«01_k».proof.Proof.Inproj.Final
public import Idealize.ShloMosaic.Adequacy
public import Idealize.ShloMosaic.Init

@[expose] public section

noncomputable section

namespace Cert.Inproj

open Idealize.ShloMosaic Idealize.SL.Sem

/-- THE INPUT PROJECTION'S CALL IS ITS REFERENCE, in each of the arrays claimed. -/
theorem pair : Cert.algebraic_Kernel4Ideal_Reference4Ideal := by
  intro m g m' g' _ hagree
  refine ⟨fun c => (Cert.Kernel4Ideal.Gen.dats m 0 c).arrAt 9 Cert.Kernel4Ideal.cfg0.N, fun c => (Cert.Kernel4Ideal.Gen.dats m 0 c).arrAt 10 Cert.Kernel4Ideal.cfg0.N,
    fun c => (Cert.Kernel4Ideal.Gen.dats m 0 c).arrAt 13 Cert.Kernel4Ideal.cfg0.N, fun c => (Cert.Kernel4Ideal.Gen.dats m 0 c).arrAt 14 Cert.Kernel4Ideal.cfg0.N,
    fun c => (Cert.Kernel4Ideal.Gen.dats m 0 c).arrAt 15 Cert.Kernel4Ideal.cfg0.N, fun c => (Cert.Kernel4Ideal.Gen.dats m 0 c).arrAt 8 Cert.Kernel4Ideal.cfg0.N,
    (θ_run Cert.Kernel4Ideal.defs _ _).mono (fun r h c => ?_) (Cert.Kernel4Ideal.Value.run_blocks m g),
    (θ_run Cert.Reference4Ideal.defs _ _).mono (fun r h c => ?_) (Cert.Reference4Ideal.Value.run m' g')⟩
  · obtain ⟨h0, h1, h2, -, -, h5, h6, h7, args⟩ := h c
    exact ⟨h1, h2, h5, h6, h7, h0, args⟩
  · obtain ⟨h1, h2, h5, h6, h7, h0, args⟩ := h c
    obtain ⟨e0, e1, e2, e3, e4, e5, e6⟩ := hagree c
    rw [Cert.Reference4Ideal.Read.val_main_v68_eq] at h1
    rw [Cert.Reference4Ideal.Read.val_main_v69_eq] at h2
    rw [Cert.Reference4Ideal.Read.val_main_v71_eq] at h5
    rw [Cert.Reference4Ideal.Read.val_main_v74_eq] at h6
    rw [Cert.Reference4Ideal.Read.val_main_v54_eq] at h7
    rw [Cert.Reference4Ideal.Read.val_main_v83_eq] at h0
    rw [e0, e1, e2] at h0 h1 h2 h7
    rw [e0, e1, e2, e3] at h5
    rw [e0, e1, e2, e3, e4, e5, e6] at h6
    exact ⟨h1.trans (key_final m c).symm, h2.trans (value_final m c).symm, h5.trans (gate_final m c).symm,
      h6.trans (branch_final m c).symm, h7.trans (carry_final m c).symm, h0.trans (query_final m c).symm, args⟩

/-- The reference ends, its arguments unchanged. -/
theorem reference_ends : Cert.quiescent_Reference4Ideal := fun m ρ _ =>
  (θ_run Cert.Reference4Ideal.defs _ _).mono (fun r h => ⟨fun c => (h c).2.2.2.2.2.2, sem_eq_zero_of_no_sems rfl r.2⟩) (Cert.Reference4Ideal.Value.run m ρ)

end Cert.Inproj

end
-- ==== Proof.Sample.Rows.lean ====
/- The input projection of a sequence that goes on from a state, row by row, over the extended reals: the queries, and the short convolution after the state's two rows. -/
module

public import proofs.«01_k».proof.Proof.Inproj.Rows

@[expose] public section

noncomputable section

namespace Cert.Sample

open Idealize.ShloMosaic Cert.Ffn Cert.Inproj

/-- A sequence of 64 tokens read `n` tokens back: the state's last rows before its start. -/
def since (n : ℕ) (p : Fin 2 → EReal) (f : Fin 64 → EReal) (s : Fin 64) : EReal :=
  if n ≤ s.val then f ⟨s.val - n, by omega⟩ else if s.val + 1 = n then p 1 else p 0

end Cert.Sample

end
-- ==== Proof.Sample.Payloads.lean ====
/- The values the input projection's call on the sample computes in one tile of eight sequences, each read at an entry. -/
module

public import proofs.«01_k».proof.Proof.Sample.Rows
public import proofs.«01_k».proof.Proof.Inproj.Payloads
public import proofs.«01_k».proof.Proof.Gen.Kernel5Ideal.Skeleton

@[expose] public section

set_option maxRecDepth 16384

noncomputable section

namespace Cert.Sample

open Idealize.ShloMosaic Idealize.ShloMosaic.TcCoe Cert.Kernel5Ideal Cert.Kernel5Ideal.Gen Cert.Ffn Cert.Inproj

/-- The normed rows. -/
theorem pre_eq (x : FVec Ideal S512x1024 .f32) (g : FVec Ideal S1x1024 .f32) (r : Fin 512) (c : Fin 1024) :
    k1_pay4 (F := Ideal) x g (ix2 r c) = rms (fun k => x (ix2 r k)) (fun k => g (ix2 0 k)) c :=
  Inproj.pre_eq x g r c

/-- A product with 1024 columns of the weight. -/
theorem proj_eq (x : FVec Ideal S512x1024 .f32) (g : FVec Ideal S1x1024 .f32) (w : FVec Ideal S1024x8192 .bf16) (o : ℕ)
    (inb : ∀ d, (![0, o] : Fin 2 → ℕ) d + (![1024, 1024] : Fin 2 → ℕ) d ≤ S1024x8192.size d)
    (r : Fin 512) (c : Fin 1024) (j : Fin 8192) (e : o + c.val = j.val) :
    (∑ k, k1_pay4 (F := Ideal) x g (ix2 r k) *
      View.ld (Val := Elt Ideal) (e' := .bf16) (S := S1024x8192) w (Rect.unit (s := S1024x8192) ![0, o] ![1024, 1024] inb) (ix2 k c)) =
      proj (fun k => x (ix2 r k)) (fun k => g (ix2 0 k)) (fun k j => w (ix2 k j)) j :=
  Inproj.proj_eq x g w o inb r c j e

/-- The number the queries are scaled by. -/
theorem q_scale : Named.named (F := Ideal) κ "q_scale" (φ := .f32) 0x3E38AA3B#32 = (((1 / 8) * (Real.log 2)⁻¹ : ℝ) : EReal) := rfl

/-- The queries, scaled. -/
theorem query_eq (x : FVec Ideal S512x1024 .f32) (g : FVec Ideal S1x1024 .f32) (a : FVec Ideal S1024x1024 .bf16) (r : Fin 512) (c : Fin 1024) :
    k1_pay5 (F := Ideal) x g a (ix2 r c) = (∑ k, k1_pay4 (F := Ideal) x g (ix2 r k) * a (ix2 k c)) * (((1 / 8) * (Real.log 2)⁻¹ : ℝ) : EReal) := by
  generalize hh : k1_pay4 (F := Ideal) x g = h
  unfold k1_pay5
  rw [hh, q_scale]
  pointwise

/-- The keys. -/
theorem key_eq (x : FVec Ideal S512x1024 .f32) (g : FVec Ideal S1x1024 .f32) (a : FVec Ideal S1024x1024 .bf16) (r : Fin 512) (c : Fin 1024) :
    k1_pay6 (F := Ideal) x g a (ix2 r c) = ∑ k, k1_pay4 (F := Ideal) x g (ix2 r k) * a (ix2 k c) := by
  generalize hh : k1_pay4 (F := Ideal) x g = h
  unfold k1_pay6
  rw [hh]
  pointwise

/-- The values. -/
theorem value_eq (x : FVec Ideal S512x1024 .f32) (g : FVec Ideal S1x1024 .f32) (a : FVec Ideal S1024x1024 .bf16) (r : Fin 512) (c : Fin 1024) :
    k1_pay7 (F := Ideal) x g a (ix2 r c) = ∑ k, k1_pay4 (F := Ideal) x g (ix2 r k) * a (ix2 k c) :=
  key_eq x g a r c

/-- The attention branch's gates. -/
theorem gate_eq (h : FVec Ideal S512x1024 .bf16) (b : FVec Ideal S1x2048 .f32) (a : FVec Ideal S1024x1024 .bf16) (r : Fin 512) (c : Fin 1024) :
    k1_pay2 (F := Ideal) h b a (ix2 r c) = Ideal.logistic ((∑ k, h (ix2 r k) * a (ix2 k c)) + b (ix2 0 ⟨c.val, by omega⟩)) := by
  pointwise [k1_pay2, k1_pay1]

/-- What the convolution reads: row `s` of the tile's sequence `q`. -/
theorem unit_eq (h : FVec Ideal S512x1024 .bf16) (a b : FVec Ideal S1024x1024 .bf16) (q : Fin 8) (s : Fin 64) (c : Fin 1024) :
    k1_pay10 (F := Ideal) h a b (ix3 q s c) =
      (∑ k, h (ix2 ⟨q.val * 64 + s.val, by omega⟩ k) * a (ix2 k c)) * ∑ k, h (ix2 ⟨q.val * 64 + s.val, by omega⟩ k) * b (ix2 k c) := by
  pointwise [k1_pay10]

/-- The last two rows of each sequence. -/
theorem tail_eq (u : FVec Ideal S8x64x1024 .f32) (q : Fin 8) (i : Fin 2) (c : Fin 1024) :
    k1_pay15 (F := Ideal) u (ix3 q i c) = u (ix3 q ⟨62 + i.val, by omega⟩ c) := by
  pointwise [k1_pay15]

/-- Row `i` of a sequence picked out by its number. -/
theorem select_row (s : Fin 64) (i : ℕ) (hi : i < 2) (a b : EReal) :
    Scalar.select (IntOp.cmpi .eq (BitVec.ofNat 32 s.val) (BitVec.ofNat 32 i)) a b = if s.val = i then a else b :=
  Inproj.select_row ⟨s.val, by omega⟩ i hi a b

/-- One token back: a sequence's first row reads the state. -/
theorem back_one (h : FVec Ideal S512x1024 .bf16) (a b : FVec Ideal S1024x1024 .bf16) (p : FVec Ideal S8x2x1024 .f32) (q : Fin 8) (s : Fin 64) (c : Fin 1024) :
    k1_pay13 (F := Ideal) h a b p (ix3 q s c) =
      since 1 (fun i => p (ix3 q i c)) (fun s => k1_pay10 (F := Ideal) h a b (ix3 q s c)) s := by
  generalize hu : k1_pay10 (F := Ideal) h a b = u
  unfold k1_pay13 since
  rw [hu]
  pointwise [k1_pay12]
  by_cases h0 : s.val = 0
  · rw [if_neg (by omega), if_pos (by omega)]
    exact (select_row s 0 (by omega) _ _).trans (if_pos h0)
  · rw [if_pos (by omega)]
    exact (select_row s 0 (by omega) _ _).trans ((if_neg h0).trans (congrArg u (by idx_ext <;> omega)))

/-- The convolution's output row through its weight. -/
theorem out_eq (z u p1 : FVec Ideal S8x64x1024 .f32) (p : FVec Ideal S8x2x1024 .f32) (w : FVec Ideal S3x1024 .f32) (b : FVec Ideal S1x1024 .f32)
    (wo : FVec Ideal S1024x1024 .bf16) (q : Fin 8) (s : Fin 64) (d : Fin 1024) :
    k1_pay17 (F := Ideal) z u (k1_pay11 p) (k1_pay12 p) (iota .tc S8x64x1024 32 [1] iota_S8x64x1024_d1_w32) p1 k1_pay14 w b wo (ix2 ⟨q.val * 64 + s.val, by omega⟩ d) =
      ∑ c, z (ix3 q s c) * taps (b (ix2 0 c)) (w (ix2 0 c)) (w (ix2 1 c)) (w (ix2 2 c))
        (since 2 (fun i => p (ix3 q i c)) (fun s => u (ix3 q s c)) s) (p1 (ix3 q s c)) (u (ix3 q s c)) * wo (ix2 c d) := by
  have two : ∀ (c : Fin 1024) (y : EReal), y = u (ix3 q ⟨(s.val + 64 - 2) % 64, by omega⟩ c) →
      Scalar.select (IntOp.cmpi .eq (BitVec.ofNat 32 s.val) (BitVec.ofNat 32 0)) (p (ix3 q 0 c))
        (Scalar.select (IntOp.cmpi .eq (BitVec.ofNat 32 s.val) (BitVec.ofNat 32 1)) (p (ix3 q 1 c)) y) =
      since 2 (fun i => p (ix3 q i c)) (fun s => u (ix3 q s c)) s := by
    intro c y hy
    rw [select_row s 0 (by omega), select_row s 1 (by omega)]
    unfold since
    by_cases h0 : s.val = 0
    · rw [if_pos h0, if_neg (by omega), if_neg (by omega)]
    · by_cases h1 : s.val = 1
      · rw [if_neg h0, if_pos h1, if_neg (by omega), if_pos (by omega)]
      · rw [if_neg h0, if_neg h1, if_pos (by omega), hy]
        exact congrArg u (by idx_ext <;> omega)
  pointwise [k1_pay17, k1_pay11, k1_pay12, k1_pay14]
  exact Finset.sum_congr rfl fun c _ => congrArg (fun v => z (ix3 q s c) * (b (ix2 0 c) + w (ix2 0 c) * v + w (ix2 1 c) * p1 (ix3 q s c) + w (ix2 2 c) * u (ix3 q s c)) * wo (ix2 c d))
    (two c _ rfl)

/-- The convolution's own gate, before the taps. -/
theorem pre_gate_eq (h : FVec Ideal S512x1024 .bf16) (a : FVec Ideal S1024x1024 .bf16) (q : Fin 8) (s : Fin 64) (c : Fin 1024) :
    k1_pay9 (F := Ideal) h a (ix3 q s c) = ∑ k, h (ix2 ⟨q.val * 64 + s.val, by omega⟩ k) * a (ix2 k c) := by
  pointwise [k1_pay9]

/-- The convolution branch with its gate. -/
theorem branch_eq (h : FVec Ideal S512x1024 .bf16) (y : FVec Ideal S512x1024 .f32) (b : FVec Ideal S1x2048 .f32) (a : FVec Ideal S1024x1024 .bf16)
    (r : Fin 512) (d : Fin 1024) : k1_pay3 (F := Ideal) h y b a (ix2 r d) =
      Ideal.logistic ((∑ k, h (ix2 r k) * a (ix2 k d)) + b (ix2 0 ⟨1024 + d.val, by omega⟩)) * y (ix2 r d) := by
  pointwise [k1_pay3, k1_pay1]

end Cert.Sample

end
-- ==== Proof.Sample.Point.lean ====
/- What one grid point of the input projection's call on the sample leaves in each of its blocks. -/
module

public import proofs.«01_k».proof.Proof.Sample.Payloads
public import proofs.«01_k».proof.Proof.Gen.Kernel5Ideal.Frame
public import Idealize.ShloMosaic.Lib.Claim

@[expose] public section

set_option maxRecDepth 16384

noncomputable section

namespace Cert.Sample

open Idealize.ShloMosaic Idealize.ShloMosaic.TcCoe Idealize.SL.Sem Cert.Kernel5Ideal Cert.Kernel5Ideal.Gen Cert.Ffn
open Cert.Inproj (proj query key value unit gate taps branch)

variable (V : (c : Dev nD) → (b : Ref sig .tc) → Buf (Elt Ideal) ((c : Thread nD τ).loc b)) (c : Dev nD) (t : Fin cfg1.N)

/-- A row of the point's tile. -/
def row (r : Fin 512) (k : Fin 1024) : EReal := iblk1 V c 0 t (ix2 r k)

/-- The gain, as the point reads it. -/
def gain (k : Fin 1024) : EReal := iblk1 V c 1 t (ix2 0 k)

/-- The projection's weight, as the point reads it. -/
def wt (k : Fin 1024) (j : Fin 8192) : EReal := iblk1 V c 2 t (ix2 k j)

/-- The gates' bias, as the point reads it. -/
def bias (j : Fin 2048) : EReal := iblk1 V c 3 t (ix2 0 j)

/-- What the convolution reads of the tile's sequence `q`. -/
def units (q : Fin 8) (e : Fin 1024) (s : Fin 64) : EReal := unit (row V c t ⟨q.val * 64 + s.val, by omega⟩) (gain V c t) (wt V c t) e

/-- THE QUERIES a point stores. -/
theorem query_point (r : Fin 512) (d : Fin 1024) :
    (outsAt1 (F := Ideal) V c t).1 (ix2 r d) = query (row V c t r) (gain V c t) (wt V c t) d := by
  unfold outsAt1
  frame_out
  exact (query_eq _ _ _ r d).trans (congrArg (· * _) (proj_eq _ _ _ _ _ r d _ (Nat.zero_add _)))

/-- THE KEYS a point stores. -/
theorem key_point (r : Fin 512) (d : Fin 1024) :
    (outsAt1 (F := Ideal) V c t).2.1 (ix2 r d) = key (row V c t r) (gain V c t) (wt V c t) d := by
  unfold outsAt1
  frame_out
  exact (key_eq _ _ _ r d).trans (proj_eq _ _ _ _ _ r d _ rfl)

/-- THE VALUES a point stores. -/
theorem value_point (r : Fin 512) (d : Fin 1024) :
    (outsAt1 (F := Ideal) V c t).2.2.1 (ix2 r d) = value (row V c t r) (gain V c t) (wt V c t) d := by
  unfold outsAt1
  frame_out
  exact (value_eq _ _ _ r d).trans (proj_eq _ _ _ _ _ r d _ rfl)

/-- THE GATES a point stores. -/
theorem gate_point (r : Fin 512) (d : Fin 1024) :
    (outsAt1 (F := Ideal) V c t).2.2.2.1 (ix2 r d) = gate (row V c t r) (gain V c t) (wt V c t) (bias V c t) d := by
  unfold outsAt1
  frame_out
  exact (gate_eq _ _ _ r d).trans (congrArg (fun z => Ideal.logistic (z + _)) (proj_eq _ _ _ _ _ r d _ rfl))

/-- What the convolution reads of a row of the tile. -/
theorem unit_point (q : Fin 8) (s : Fin 64) (d : Fin 1024) :
    k1_pay10 (F := Ideal) (k1_pay4 (iblk1 V c 0 t) (iblk1 V c 1 t))
      (View.ld (iblk1 V c 2 t) (Rect.unit (s := S1024x8192) ![0, 4096] ![1024, 1024] inb_S1024x8192_S1024x1024_0_4096))
      (View.ld (iblk1 V c 2 t) (Rect.unit (s := S1024x8192) ![0, 5120] ![1024, 1024] inb_S1024x8192_S1024x1024_0_5120)) (ix3 q s d) =
    units V c t q d s :=
  (unit_eq _ _ _ q s d).trans (congrArg₂ (· * ·) (proj_eq _ _ _ _ _ _ d _ rfl) (proj_eq _ _ _ _ _ _ d _ rfl))

/-- THE LAST TWO ROWS a point hands out, of each of its sequences. -/
theorem tail_point (q : Fin 8) (i : Fin 2) (d : Fin 1024) :
    (outsAt1 (F := Ideal) V c t).2.2.2.2.2 (ix3 q i d) = units V c t q d ⟨62 + i.val, by omega⟩ := by
  unfold outsAt1
  frame_out
  exact (tail_eq _ q i d).trans (unit_point V c t q _ d)

/-- A row of the tile's sequence `q` through the convolution and its gate, after the state's rows `p`. -/
def conv (p : Fin 1024 → Fin 2 → EReal) (q : Fin 8) (s : Fin 64) (d : Fin 1024) : EReal :=
  branch (row V c t ⟨q.val * 64 + s.val, by omega⟩) (gain V c t) (wt V c t) (bias V c t)
    (fun e => taps (iblk1 V c 5 t (ix2 0 e)) (iblk1 V c 4 t (ix2 0 e)) (iblk1 V c 4 t (ix2 1 e)) (iblk1 V c 4 t (ix2 2 e))
      (since 2 (p e) (units V c t q e) s) (since 1 (p e) (units V c t q e) s) (units V c t q e s))
    (fun e d => iblk1 V c 6 t (ix2 e d)) d

/-- The convolution branch of a tile, after any state. -/
theorem conv_core (p : FVec Ideal S8x2x1024 .f32) (q : Fin 8) (s : Fin 64) (d : Fin 1024) :
    k1_pay3 (F := Ideal) (k1_pay4 (iblk1 V c 0 t) (iblk1 V c 1 t))
      (k1_pay17
        (k1_pay9 (k1_pay4 (iblk1 V c 0 t) (iblk1 V c 1 t))
          (View.ld (iblk1 V c 2 t) (Rect.unit (s := S1024x8192) ![0, 3072] ![1024, 1024] inb_S1024x8192_S1024x1024_0_3072)))
        (k1_pay10 (k1_pay4 (iblk1 V c 0 t) (iblk1 V c 1 t))
          (View.ld (iblk1 V c 2 t) (Rect.unit (s := S1024x8192) ![0, 4096] ![1024, 1024] inb_S1024x8192_S1024x1024_0_4096))
          (View.ld (iblk1 V c 2 t) (Rect.unit (s := S1024x8192) ![0, 5120] ![1024, 1024] inb_S1024x8192_S1024x1024_0_5120)))
        (k1_pay11 p) (k1_pay12 p) (iota .tc S8x64x1024 32 [1] iota_S8x64x1024_d1_w32)
        (k1_pay13 (k1_pay4 (iblk1 V c 0 t) (iblk1 V c 1 t))
          (View.ld (iblk1 V c 2 t) (Rect.unit (s := S1024x8192) ![0, 4096] ![1024, 1024] inb_S1024x8192_S1024x1024_0_4096))
          (View.ld (iblk1 V c 2 t) (Rect.unit (s := S1024x8192) ![0, 5120] ![1024, 1024] inb_S1024x8192_S1024x1024_0_5120)) p)
        k1_pay14 (iblk1 V c 4 t) (iblk1 V c 5 t) (iblk1 V c 6 t))
      (iblk1 V c 3 t)
      (View.ld (iblk1 V c 2 t) (Rect.unit (s := S1024x8192) ![0, 7168] ![1024, 1024] inb_S1024x8192_S1024x1024_0_7168)) (ix2 ⟨q.val * 64 + s.val, by omega⟩ d) =
    conv V c t (fun e i => p (ix3 q i e)) q s d := by
  refine (branch_eq _ _ _ _ _ d).trans ?_
  unfold conv branch
  refine congrArg₂ (· * ·) (congrArg (fun z => Ideal.logistic (z + _)) (proj_eq _ _ _ _ _ _ d _ rfl)) ?_
  refine (out_eq _ _ _ _ _ _ _ q s d).trans (Finset.sum_congr rfl fun e _ => congrArg (· * _) ?_)
  refine congrArg₂ (· * ·) ((pre_gate_eq _ _ q s e).trans (proj_eq _ _ _ _ _ _ e _ rfl)) ?_
  rw [back_one]
  simp only [unit_point]

/-- THE CONVOLUTION BRANCH a point stores: each of its sequences goes on from its own state. -/
theorem conv_point (q : Fin 8) (s : Fin 64) (d : Fin 1024) :
    (outsAt1 (F := Ideal) V c t).2.2.2.2.1 (ix2 ⟨q.val * 64 + s.val, by omega⟩ d) = conv V c t (fun e i => iblk1 V c 7 t (ix3 q i e)) q s d := by
  unfold outsAt1
  frame_out
  refine (conv_core V c t _ q s d).trans ?_
  refine congrArg (fun p => conv V c t p q s d) (funext fun e => funext fun i => ?_)
  pointwise [k1_pay8]

end Cert.Sample

end
-- ==== Proof.Sample.First.lean ====
/- What one grid point of the first feed-forward call on the sample leaves in its block. -/
module

public import proofs.«01_k».proof.Proof.Ffn.Rows
public import proofs.«01_k».proof.Proof.Gen.Kernel5Ideal.Frame
public import Idealize.ShloMosaic.Lib.Pipeline.ValueKit
public import Idealize.ShloMosaic.Lib.Pointwise

@[expose] public section

set_option maxRecDepth 16384

noncomputable section

namespace Cert.Sample.First

open Idealize.ShloMosaic Idealize.ShloMosaic.TcCoe Idealize.SL.Sem Cert.Kernel5Ideal Cert.Kernel5Ideal.Gen Cert.Ffn

variable (V : (c : Dev nD) → (b : Ref sig .tc) → Buf (Elt Ideal) ((c : Thread nD τ).loc b))

/-- The normed row that both products read. -/
theorem pre_eq (x : FVec Ideal S512x1024 .f32) (g : FVec Ideal S1x1024 .f32) (r : Fin 512) (c : Fin 1024) :
    k0_pay2 (F := Ideal) x g (ix2 r c) = rms (fun k => x (ix2 r k)) (fun k => g (ix2 0 k)) c := by
  pointwise [k0_pay2, k0_pay1]
  rfl

/-- 256 gated units, read at one of them. -/
theorem unit_eq (h : FVec Ideal S512x1024 .bf16) (a b : FVec Ideal S1024x256 .bf16) (r : Fin 512) (c : Fin 256) :
    k0_pay8 (F := Ideal) h a b (ix2 r c) = (∑ k, h (ix2 r k) * a (ix2 k c)) * Ideal.logistic (∑ k, h (ix2 r k) * a (ix2 k c)) * ∑ k, h (ix2 r k) * b (ix2 k c) := by
  pointwise [k0_pay8]

/-- The 256 gated units from column `o` of the two weights. -/
theorem unit_act (h : FVec Ideal S512x1024 .bf16) (a b : FVec Ideal S1024x2816 .bf16) (o : ℕ)
    (inb : ∀ d, (![0, o] : Fin 2 → ℕ) d + (![1024, 256] : Fin 2 → ℕ) d ≤ S1024x2816.size d) (r : Fin 512) (c : Fin 256) (j : Fin 2816) (e : o + c.val = j.val) :
    k0_pay8 (F := Ideal) h (View.ld (Val := Elt Ideal) (e' := .bf16) (S := S1024x2816) a (Rect.unit (s := S1024x2816) ![0, o] ![1024, 256] inb))
      (View.ld (Val := Elt Ideal) (e' := .bf16) (S := S1024x2816) b (Rect.unit (s := S1024x2816) ![0, o] ![1024, 256] inb)) (ix2 r c)
      = act (fun k => h (ix2 r k)) (fun k j => a (ix2 k j)) (fun k j => b (ix2 k j)) j := by
  have rd : ∀ (w : FVec Ideal S1024x2816 .bf16) (k : Fin 1024),
      View.ld (Val := Elt Ideal) (e' := .bf16) (S := S1024x2816) w (Rect.unit (s := S1024x2816) ![0, o] ![1024, 256] inb) (ix2 k c) = w (ix2 k j) := by
    intro w k
    pointwise
    blk_ext
  have s : ∀ w : FVec Ideal S1024x2816 .bf16, (∑ k, h (ix2 r k) * View.ld (Val := Elt Ideal) (e' := .bf16) (S := S1024x2816) w
      (Rect.unit (s := S1024x2816) ![0, o] ![1024, 256] inb) (ix2 k c)) = ∑ k, h (ix2 r k) * w (ix2 k j) :=
    fun w => Finset.sum_congr rfl fun k _ => congrArg (h (ix2 r k) * ·) (rd w k)
  exact (unit_eq _ _ _ r c).trans (congrArg₂ (· * ·) (congrArg₂ (· * ·) (s a) (congrArg Ideal.logistic (s a))) (s b))

/-- The residual and half the norm of the third product. -/
theorem tail_eq (x : FVec Ideal S512x1024 .f32) (u : FVec Ideal S512x2816 .bf16) (w : FVec Ideal S2816x1024 .bf16) (g : FVec Ideal S1x1024 .f32)
    (r : Fin 512) (c : Fin 1024) :
    k0_pay19 (F := Ideal) (k0_pay1 x) u w g (ix2 r c) =
      x (ix2 r c) + Ideal.ofBits .f32 0x3F000000#32 * rms (fun d => ∑ j, u (ix2 r j) * w (ix2 j d)) (fun k => g (ix2 0 k)) c := by
  pointwise [k0_pay19, k0_pay1]
  rfl

set_option maxHeartbeats 1600000 in
/-- WHAT A POINT STORES, at a row and a column of its block: the feed-forward part of the block's row. -/
theorem outs_eq (c : Dev nD) (t : Fin cfg0.N) (r : Fin 512) (d : Fin 1024) : outsAt0 (F := Ideal) V c t (ix2 r d) =
    ffn (fun k => iblk0 V c 0 t (ix2 r k)) (fun k => iblk0 V c 1 t (ix2 0 k)) (fun k => iblk0 V c 2 t (ix2 0 k))
      (fun k j => iblk0 V c 3 t (ix2 k j)) (fun k j => iblk0 V c 4 t (ix2 k j)) (fun j k => iblk0 V c 5 t (ix2 j k)) d := by
  unfold outsAt0
  frame_out
  refine (tail_eq _ _ _ _ r d).trans ?_
  unfold ffn
  refine congrArg (fun f => _ + _ * rms f _ d) (funext fun e => Finset.sum_congr rfl fun j _ => congrArg (· * _) ?_)
  have hp : rms (fun k => iblk0 V c 0 t (ix2 r k)) (fun k => iblk0 V c 1 t (ix2 0 k)) = fun k => k0_pay2 (iblk0 V c 0 t) (iblk0 V c 1 t) (ix2 r k) :=
    funext fun k => (pre_eq _ _ r k).symm
  rw [hp, View.readCov_eq_canon']
  have e0 : (Rect.unit (s := S512x2816) ![0, 0] ![512, 2816] inb_S512x2816_S512x2816_0_0).toLoadRect.idx (ix2 r j) = ix2 r j := by idx_ext
  refine (congrArg (View.canon _) e0).trans ?_
  canon_tiles x h
  all_goals
    have hx : x = ix2 r ⟨(x 1).val, (x 1).isLt⟩ := by idx_ext <;> omega
    have hj : j.val = _ := h1
    rw [hx]
    exact unit_act (k0_pay2 (iblk0 V c 0 t) (iblk0 V c 1 t)) (iblk0 V c 3 t) (iblk0 V c 4 t) _ _ r _ j (by first | omega | (simp; omega))

end Cert.Sample.First

end
-- ==== Proof.Sample.Ref.lean ====
/- The feed-forward part, the input projection and the short convolution of the sample as the reference writes them, read at an entry of each result. -/
module

public import proofs.«01_k».proof.Proof.Sample.Rows
public import proofs.«01_k».proof.Proof.Gen.Reference5Ideal.Read
public import Idealize.ShloMosaic.Lib.Pointwise
public import proofs.«01_k».proof.Proof.Inproj.Scale

@[expose] public section

set_option maxRecDepth 16384

noncomputable section

namespace Cert.Sample.Ref

open Idealize.ShloMosaic Idealize.ShloMosaic.TcCoe Cert.Reference5Ideal Cert.Reference5Ideal.Gen Cert.Reference5Ideal.Read Cert.Ffn Cert.Inproj

variable (x0 : FVec Ideal S32x64x1024 .f32) (x1 : FVec Ideal S1x32x2x1024 .f32) (x2 x3 : FVec Ideal S1x1024 .f32) (x4 x5 : FVec Ideal S1x1024x2816 .f32)
  (x6 : FVec Ideal S1x2816x1024 .f32) (x7 : FVec Ideal S1x1024 .f32) (x8 : FVec Ideal S1x1024x8192 .f32)
  (x9 : FVec Ideal S1x2048 .f32) (x10 : FVec Ideal S1x3x1024 .f32) (x11 : FVec Ideal S1x1024 .f32) (x12 : FVec Ideal S1x1024x1024 .f32)

/-- The norm before the products. -/
theorem ffn_pre (b : Fin 32) (s : Fin 64) (c : Fin 1024) :
    val_main_v13 (F := Ideal) x0 x2 (ix3 b s c) = rms (fun k => x0 (ix3 b s k)) (fun k => x2 (ix2 0 k)) c := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

/-- The gated units. -/
theorem ffn_act (b : Fin 32) (s : Fin 64) (j : Fin 2816) :
    val_main_v20 (F := Ideal) x0 x2 x4 x5 (ix3 b s j) = act (rms (fun k => x0 (ix3 b s k)) (fun k => x2 (ix2 0 k)))
      (fun k j => x4 (ix3 0 k j)) (fun k j => x5 (ix3 0 k j)) j := by
  pointwise [val_main_v20, val_main_v19, val_main_v18, val_main_call0_v5, val_main_call0_v4, val_main_call0_v3, val_main_call0_v2, val_main_call0_v1,
    val_main_call0_v0, val_main_call0_cst, val_main_call0_cst_0, val_main_v17, val_main_v15, val_main_v14]
  simp only [ffn_pre]
  rfl

/-- The product with the third weight. -/
theorem ffn_down (b : Fin 32) (s : Fin 64) (c : Fin 1024) :
    val_main_v21 (F := Ideal) x0 x2 x4 x5 x6 (ix3 b s c) = ∑ j, act (rms (fun k => x0 (ix3 b s k)) (fun k => x2 (ix2 0 k)))
      (fun k j => x4 (ix3 0 k j)) (fun k j => x5 (ix3 0 k j)) j * x6 (ix3 0 j c) := by
  pointwise [val_main_v21, val_main_v16]
  simp only [ffn_act]

/-- A token's row in the array of all rows. -/
theorem rows_eq (b : Fin 32) (s : Fin 64) (c : Fin 1024) : val_main_v107 (F := Ideal) x0 x2 x3 x4 x5 x6 (ix2 ⟨64 * b.val + s.val, by omega⟩ c) =
    val_main_v38 (F := Ideal) x0 x2 x3 x4 x5 x6 (ix3 b s c) := by
  pointwise [val_main_v107]

/-- THE FEED-FORWARD PART of a token. -/
theorem ffn_eq (b : Fin 32) (s : Fin 64) (c : Fin 1024) :
    val_main_v107 (F := Ideal) x0 x2 x3 x4 x5 x6 (ix2 ⟨64 * b.val + s.val, by omega⟩ c) =
      ffn (fun k => x0 (ix3 b s k)) (fun k => x2 (ix2 0 k)) (fun k => x3 (ix2 0 k))
        (fun k j => x4 (ix3 0 k j)) (fun k j => x5 (ix3 0 k j)) (fun j k => x6 (ix3 0 j k)) c := by
  rw [rows_eq]
  pointwise [val_main_v38, val_main_v37, val_main_v36, val_main_v35, val_main_v34, val_main_v33, val_main_v32, val_main_v31, val_main_v30,
    val_main_v29, val_main_v28, val_main_v27, val_main_v26, val_main_v25, val_main_v24, val_main_v23, val_main_v22,
    val_main_cst_2, val_main_cst_3, val_main_cst_4, val_main_cst_5]
  simp only [ffn_down]
  rfl

/-- The norm of a token's row. -/
theorem pre_eq (b : Fin 32) (s : Fin 64) (c : Fin 1024) :
    val_main_v52 (F := Ideal) x0 x2 x3 x4 x5 x6 x7 (ix3 b s c) = rms (fun k => val_main_v38 (F := Ideal) x0 x2 x3 x4 x5 x6 (ix3 b s k)) (fun k => x7 (ix2 0 k)) c := by
  pointwise [val_main_v52, val_main_v51, val_main_v50, val_main_v49, val_main_v48, val_main_v47, val_main_v46, val_main_v45, val_main_v44,
    val_main_v43, val_main_v42, val_main_v41, val_main_v40, val_main_v39, val_main_cst_6, val_main_cst_7, val_main_cst_8]
  rfl

/-- The projected row of a token. -/
theorem proj_eq (b : Fin 32) (s : Fin 64) (j : Fin 8192) : val_main_v54 (F := Ideal) x0 x2 x3 x4 x5 x6 x7 x8 (ix3 b s j) =
    proj (fun k => val_main_v38 (F := Ideal) x0 x2 x3 x4 x5 x6 (ix3 b s k)) (fun k => x7 (ix2 0 k)) (fun k j => x8 (ix3 0 k j)) j := by
  pointwise [val_main_v54, val_main_v53]
  simp only [pre_eq]
  rfl

/-- THE QUERIES, scaled. -/
theorem query_eq (b : Fin 32) (s : Fin 64) (c : Fin 1024) :
    val_main_v115 (F := Ideal) x0 x2 x3 x4 x5 x6 x7 x8 (ix2 ⟨64 * b.val + s.val, by omega⟩ c) =
    query (fun k => val_main_v38 (F := Ideal) x0 x2 x3 x4 x5 x6 (ix3 b s k)) (fun k => x7 (ix2 0 k)) (fun k j => x8 (ix3 0 k j)) c := by
  have e : val_main_v115 (F := Ideal) x0 x2 x3 x4 x5 x6 x7 x8 (ix2 ⟨64 * b.val + s.val, by omega⟩ c) = val_main_v113 (F := Ideal) x0 x2 x3 x4 x5 x6 x7 x8 (ix3 b s c) := by
    pointwise [val_main_v115, val_main_v114]
  rw [e]
  pointwise [val_main_v113, val_main_v112, val_main_v111, val_main_v110, val_main_v109, val_main_v108, val_main_v55, val_main_cst_11, val_main_cst_12]
  simp only [proj_eq]
  exact Scale.scale_eq _

/-- THE KEYS. -/
theorem key_eq (b : Fin 32) (s : Fin 64) (c : Fin 1024) :
    val_main_v116 (F := Ideal) x0 x2 x3 x4 x5 x6 x7 x8 (ix2 ⟨64 * b.val + s.val, by omega⟩ c) =
    key (fun k => val_main_v38 (F := Ideal) x0 x2 x3 x4 x5 x6 (ix3 b s k)) (fun k => x7 (ix2 0 k)) (fun k j => x8 (ix3 0 k j)) c := by
  have e : val_main_v116 (F := Ideal) x0 x2 x3 x4 x5 x6 x7 x8 (ix2 ⟨64 * b.val + s.val, by omega⟩ c) = val_main_v56 (F := Ideal) x0 x2 x3 x4 x5 x6 x7 x8 (ix3 b s c) := by
    pointwise [val_main_v116]
  rw [e]
  pointwise [val_main_v56]
  simp only [proj_eq]
  rfl

/-- THE VALUES. -/
theorem value_eq (b : Fin 32) (s : Fin 64) (c : Fin 1024) :
    val_main_v117 (F := Ideal) x0 x2 x3 x4 x5 x6 x7 x8 (ix2 ⟨64 * b.val + s.val, by omega⟩ c) =
    value (fun k => val_main_v38 (F := Ideal) x0 x2 x3 x4 x5 x6 (ix3 b s k)) (fun k => x7 (ix2 0 k)) (fun k j => x8 (ix3 0 k j)) c := by
  have e : val_main_v117 (F := Ideal) x0 x2 x3 x4 x5 x6 x7 x8 (ix2 ⟨64 * b.val + s.val, by omega⟩ c) = val_main_v57 (F := Ideal) x0 x2 x3 x4 x5 x6 x7 x8 (ix3 b s c) := by
    pointwise [val_main_v117]
  rw [e]
  pointwise [val_main_v57]
  simp only [proj_eq]
  rfl

/-- The two gates of a token, side by side. -/
theorem sigmoid_eq (b : Fin 32) (s : Fin 64) (j : Fin 2048) : val_main_v104 (F := Ideal) x0 x2 x3 x4 x5 x6 x7 x8 x9 (ix3 b s j) =
    Ideal.logistic (proj (fun k => val_main_v38 (F := Ideal) x0 x2 x3 x4 x5 x6 (ix3 b s k)) (fun k => x7 (ix2 0 k)) (fun k j => x8 (ix3 0 k j)) ⟨6144 + j.val, by omega⟩ + x9 (ix2 0 j)) := by
  have e : val_main_v94 (F := Ideal) x0 x2 x3 x4 x5 x6 x7 x8 (ix3 b s j) = val_main_v54 (F := Ideal) x0 x2 x3 x4 x5 x6 x7 x8 (ix3 b s ⟨6144 + j.val, by omega⟩) := by
    pointwise [val_main_v94, val_main_v61, val_main_v62]
    by_cases h : j.val < 1024
    · rw [dif_pos h]
    · rw [dif_neg h]
      exact congrArg _ (by idx_ext <;> omega)
  pointwise [val_main_v104, val_main_v103, val_main_v102, val_main_v101, val_main_v100, val_main_v99, val_main_v98, val_main_v97, val_main_v96,
    val_main_v95, val_main_cst_9, val_main_cst_10]
  rw [e, proj_eq]
  rfl

/-- THE ATTENTION BRANCH'S GATES. -/
theorem gate_eq (b : Fin 32) (s : Fin 64) (c : Fin 1024) :
    val_main_v119 (F := Ideal) x0 x2 x3 x4 x5 x6 x7 x8 x9 (ix2 ⟨64 * b.val + s.val, by omega⟩ c) =
    gate (fun k => val_main_v38 (F := Ideal) x0 x2 x3 x4 x5 x6 (ix3 b s k)) (fun k => x7 (ix2 0 k)) (fun k j => x8 (ix3 0 k j)) (fun j => x9 (ix2 0 j)) c := by
  have e : val_main_v119 (F := Ideal) x0 x2 x3 x4 x5 x6 x7 x8 x9 (ix2 ⟨64 * b.val + s.val, by omega⟩ c) = val_main_v105 (F := Ideal) x0 x2 x3 x4 x5 x6 x7 x8 x9 (ix3 b s c) := by
    pointwise [val_main_v119, val_main_v118]
  rw [e]
  pointwise [val_main_v105]
  simp only [sigmoid_eq]
  rfl

/-- What the convolution reads of a token. -/
theorem unit_eq (b : Fin 32) (s : Fin 64) (c : Fin 1024) : val_main_v63 (F := Ideal) x0 x2 x3 x4 x5 x6 x7 x8 (ix3 b s c) =
    unit (fun k => val_main_v38 (F := Ideal) x0 x2 x3 x4 x5 x6 (ix3 b s k)) (fun k => x7 (ix2 0 k)) (fun k j => x8 (ix3 0 k j)) c := by
  pointwise [val_main_v63, val_main_v59, val_main_v60]
  simp only [proj_eq]
  rfl

/-- The sequence after the state's two rows, read `n` tokens back. -/
theorem padded_eq (b : Fin 32) (s : Fin 64) (c : Fin 1024) (n : ℕ) (hn : n ≤ 2) :
    val_main_v65 (F := Ideal) x0 x1 x2 x3 x4 x5 x6 x7 x8 (ix3 b ⟨s.val + (2 - n), by omega⟩ c) =
      since n (fun i => x1 (ix4 0 b i c)) (fun s => unit (fun k => val_main_v38 (F := Ideal) x0 x2 x3 x4 x5 x6 (ix3 b s k)) (fun k => x7 (ix2 0 k)) (fun k j => x8 (ix3 0 k j)) c) s := by
  unfold since
  simp only [← unit_eq]
  pointwise [val_main_v65, val_main_v64]
  by_cases h : n ≤ s.val
  · rw [dif_neg (by omega), if_pos h]
    exact congrArg _ (by idx_ext <;> omega)
  · rw [dif_pos (by omega), if_neg h]
    by_cases h1 : s.val + 1 = n
    · rw [if_pos h1]
      exact congrArg x1 (by idx_ext <;> omega)
    · rw [if_neg h1]
      exact congrArg x1 (by idx_ext <;> omega)

/-- THE TOKENS CARRIED ON: each sequence's last two. -/
theorem carry_eq (b : Fin 32) (i : Fin 2) (c : Fin 1024) : val_main_v93 (F := Ideal) x0 x1 x2 x3 x4 x5 x6 x7 x8 (ix3 b i c) =
    unit (fun k => val_main_v38 (F := Ideal) x0 x2 x3 x4 x5 x6 (ix3 b ⟨62 + i.val, by omega⟩ k)) (fun k => x7 (ix2 0 k)) (fun k j => x8 (ix3 0 k j)) c := by
  have e : val_main_v93 (F := Ideal) x0 x1 x2 x3 x4 x5 x6 x7 x8 (ix3 b i c) = val_main_v65 (F := Ideal) x0 x1 x2 x3 x4 x5 x6 x7 x8 (ix3 b ⟨64 + i.val, by omega⟩ c) := by
    pointwise [val_main_v93]
  have p := padded_eq x0 x1 x2 x3 x4 x5 x6 x7 x8 b ⟨62 + i.val, by omega⟩ c 0 (by omega)
  unfold since at p
  rw [if_pos (Nat.zero_le _)] at p
  rw [e]
  exact (congrArg _ (by idx_ext <;> omega)).trans p

/-- The convolution of a sequence, at a token. -/
theorem taps_eq (b : Fin 32) (s : Fin 64) (c : Fin 1024) : val_main_v89 (F := Ideal) x0 x1 x2 x3 x4 x5 x6 x7 x8 x10 x11 (ix3 b s c) =
    taps (x11 (ix2 0 c)) (x10 (ix3 0 0 c)) (x10 (ix3 0 1 c)) (x10 (ix3 0 2 c))
      (since 2 (fun i => x1 (ix4 0 b i c)) (fun s => unit (fun k => val_main_v38 (F := Ideal) x0 x2 x3 x4 x5 x6 (ix3 b s k)) (fun k => x7 (ix2 0 k)) (fun k j => x8 (ix3 0 k j)) c) s)
      (since 1 (fun i => x1 (ix4 0 b i c)) (fun s => unit (fun k => val_main_v38 (F := Ideal) x0 x2 x3 x4 x5 x6 (ix3 b s k)) (fun k => x7 (ix2 0 k)) (fun k j => x8 (ix3 0 k j)) c) s)
      (since 0 (fun i => x1 (ix4 0 b i c)) (fun s => unit (fun k => val_main_v38 (F := Ideal) x0 x2 x3 x4 x5 x6 (ix3 b s k)) (fun k => x7 (ix2 0 k)) (fun k j => x8 (ix3 0 k j)) c) s) := by
  rw [← padded_eq x0 x1 x2 x3 x4 x5 x6 x7 x8 b s c 2 (by omega), ← padded_eq x0 x1 x2 x3 x4 x5 x6 x7 x8 b s c 1 (by omega), ← padded_eq x0 x1 x2 x3 x4 x5 x6 x7 x8 b s c 0 (by omega)]
  pointwise [val_main_v89, val_main_v88, val_main_v87, val_main_v86, val_main_v85, val_main_v84, val_main_v83, val_main_v82, val_main_v81,
    val_main_v80, val_main_v79, val_main_v78, val_main_v77, val_main_v76, val_main_v75, val_main_v74, val_main_v73, val_main_v72, val_main_v71,
    val_main_v70, val_main_v69, val_main_v68, val_main_v67, val_main_v66]
  simp only [Nat.add_comm s.val]
  rfl

/-- THE CONVOLUTION BRANCH WITH ITS GATE. -/
theorem branch_eq (b : Fin 32) (s : Fin 64) (d : Fin 1024) :
    val_main_v122 (F := Ideal) x0 x1 x2 x3 x4 x5 x6 x7 x8 x9 x10 x11 x12 (ix2 ⟨64 * b.val + s.val, by omega⟩ d) =
    branch (fun k => val_main_v38 (F := Ideal) x0 x2 x3 x4 x5 x6 (ix3 b s k)) (fun k => x7 (ix2 0 k)) (fun k j => x8 (ix3 0 k j)) (fun j => x9 (ix2 0 j))
      (fun c => taps (x11 (ix2 0 c)) (x10 (ix3 0 0 c)) (x10 (ix3 0 1 c)) (x10 (ix3 0 2 c))
        (since 2 (fun i => x1 (ix4 0 b i c)) (fun s => unit (fun k => val_main_v38 (F := Ideal) x0 x2 x3 x4 x5 x6 (ix3 b s k)) (fun k => x7 (ix2 0 k)) (fun k j => x8 (ix3 0 k j)) c) s)
        (since 1 (fun i => x1 (ix4 0 b i c)) (fun s => unit (fun k => val_main_v38 (F := Ideal) x0 x2 x3 x4 x5 x6 (ix3 b s k)) (fun k => x7 (ix2 0 k)) (fun k j => x8 (ix3 0 k j)) c) s)
        (since 0 (fun i => x1 (ix4 0 b i c)) (fun s => unit (fun k => val_main_v38 (F := Ideal) x0 x2 x3 x4 x5 x6 (ix3 b s k)) (fun k => x7 (ix2 0 k)) (fun k j => x8 (ix3 0 k j)) c) s))
      (fun c d => x12 (ix3 0 c d)) d := by
  have e : val_main_v122 (F := Ideal) x0 x1 x2 x3 x4 x5 x6 x7 x8 x9 x10 x11 x12 (ix2 ⟨64 * b.val + s.val, by omega⟩ d) =
      val_main_v120 (F := Ideal) x0 x1 x2 x3 x4 x5 x6 x7 x8 x9 x10 x11 x12 (ix3 b s d) := by
    pointwise [val_main_v122, val_main_v121]
  rw [e]
  pointwise [val_main_v120, val_main_v106, val_main_v92, val_main_v91, val_main_v90, val_main_v58]
  simp only [sigmoid_eq, proj_eq, taps_eq]
  have hj : (⟨6144 + (1024 + d.val), by omega⟩ : Fin 8192) = ⟨7168 + d.val, by omega⟩ := Fin.ext (by simp only; omega)
  rw [hj]
  rfl

end Cert.Sample.Ref

end
-- ==== Proof.Sample.Run.lean ====
/- What the sample's two calls find in their arrays: the host line's results, and the first call's array in the second. -/
module

public import proofs.«01_k».proof.Proof.Gen.Kernel5Ideal.Frame
public import Idealize.ShloMosaic.Lib.Claim
public import Idealize.ShloMosaic.Lib.Pointwise

@[expose] public section

set_option maxRecDepth 16384

noncomputable section

namespace Cert.Sample

open Idealize.ShloMosaic Idealize.ShloMosaic.TcCoe Idealize.ShloMosaic.Tactic Cert.Kernel5Ideal Cert.Kernel5Ideal.Gen Idealize.ShloMosaic.StableHlo
open Idealize.SL Idealize.SL.RA Idealize.SL.BI Idealize.SL.BI.BIBase Idealize.SL.BI.Laws Idealize.SL.ProofMode Idealize.SL.Sem
open scoped Idealize.SL.BI
open Idealize.ShloMosaic.Rounds

variable (m : (ℓ : Loc nD τ sig) → Buf (Elt Ideal) ℓ) (ρ : Dev nD → PrngReg) (c : Dev nD)

/-- A buffer after the host line before the first call. -/
abbrev V (c : Dev nD) (b : Ref sig .tc) : Buf (Elt Ideal) ((c : Thread nD τ).loc b) := StableHlo.after hostOps0 (fun b => m (c, b)) b

/-- The first call finds the host line's results. -/
theorem enter (r : Ref sig .tc) : V1 m ρ c r = V m c r := rfl

/-- What neither the first call nor the host line after it writes, the second call finds as the first did. -/
theorem carried (r : Ref sig .tc) (h1 : r ∉ hostOps1_W) (h0 : ∀ w : Fin cfg0.W, Pipeline.arrRef spec0 w = r → (cfg0.win w).isOut = false) :
    V3 m ρ c r = V m c r :=
  (W3_of m ρ c r h1).trans (W2_of m ρ c r h0)

/-- The second call reads the first call's array. -/
theorem handed : V3 m ρ c main_v22 = (dat0 (V1 m ρ) c).arrAt 6 cfg0.N :=
  (W3_of m ρ c main_v22 (by decide)).trans (W2_arr m ρ c 6)

/-- The state, as the second call finds it. -/
theorem state (b : Fin 32) (i : Fin 2) (e : Fin 1024) : V3 m ρ c main_v23 (ix3 b i e) = m ((c.tc : Thread nD τ).loc main_arg1) (ix4 0 b i e) := by
  have h : V3 m ρ c main_v23 = shapeCast S32x2x1024 (W2 m ρ c (Proc.devRef .tc main_arg1)) shapeCasts_S1x32x2x1024_S32x2x1024 := by
    show StableHlo.after hostOps1 (W2 m ρ c) (Proc.devRef .tc main_v23) = _
    entry_read
    rfl
  rw [h, W2_args m ρ c main_arg1 (by decide)]
  pointwise

set_option backward.isDefEq.respectTransparency.types false in
/-- THE RUN: both calls' arrays at its end, the arguments unchanged. -/
theorem run : θ_run defs (onTc (τ := τ) (main (F := Ideal))) ⟨m, fun _ => 0, ρ⟩ (fun r => ∀ c : Dev nD, ∀ b ∈ Pipeline.ucRefs τ sig,
    r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

/-- The first call's array at the end. -/
theorem left0 : W4 m ρ c main_v22 = (dat0 (V1 m ρ) c).arrAt 6 cfg0.N :=
  (W4_of m ρ c main_v22 (by decide +kernel)).trans (handed m ρ c)

end Cert.Sample

end
-- ==== Proof.Sample.Blocks.lean ====
/- The blocks the sample's two calls read, as entries of its arguments. -/
module

public import proofs.«01_k».proof.Proof.Sample.Point
public import proofs.«01_k».proof.Proof.Sample.First
public import proofs.«01_k».proof.Proof.Sample.Ref
public import proofs.«01_k».proof.Proof.Sample.Run

@[expose] public section

set_option maxRecDepth 16384

noncomputable section

namespace Cert.Sample

open Idealize.ShloMosaic Idealize.ShloMosaic.TcCoe Idealize.SL.Sem Cert.Kernel5Ideal Cert.Kernel5Ideal.Gen Cert.Ffn Idealize.ShloMosaic.StableHlo
open Cert.Inproj (unit taps branch)
open Cert.Reference5Ideal.Read (val_main_v38 val_main_v107)

variable (m : (ℓ : Loc nD τ sig) → Buf (Elt Ideal) ℓ) (ρ : Dev nD → PrngReg) (c : Dev nD) (t : Fin cfg1.N)

/-- The blocks of the tiled windows, at every point. -/
theorem idx : ∀ t : Fin cfg1.N, win1_0.index t = ![t.val, 0] ∧ win1_7.index t = ![t.val, 0, 0] ∧ win1_8.index t = ![t.val, 0]
    ∧ win1_9.index t = ![t.val, 0] ∧ win1_10.index t = ![t.val, 0] ∧ win1_11.index t = ![t.val, 0] ∧ win1_12.index t = ![t.val, 0]
    ∧ win1_13.index t = ![t.val, 0, 0] :=
  (by decide +kernel : ∀ t : Fin grid1.N, _)

/-- The blocks of the weights, the gain and the biases: the whole array, at every point. -/
theorem idx_whole : ∀ t : Fin cfg1.N, win1_1.index t = ![0, 0] ∧ win1_2.index t = ![0, 0] ∧ win1_3.index t = ![0, 0] ∧ win1_4.index t = ![0, 0]
    ∧ win1_5.index t = ![0, 0] ∧ win1_6.index t = ![0, 0] :=
  (by decide +kernel : ∀ t : Fin grid1.N, _)

/-- There are four tiles of eight sequences. -/
theorem N_lt : t.val < 4 := t.isLt

/-- A token's row after the feed-forward part. -/
def tok (b : Fin 32) (s : Fin 64) (k : Fin 1024) : EReal := val_main_v38 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ix3 b s k)

/-- The gain. -/
def argG (k : Fin 1024) : EReal := m ((c.tc : Thread nD τ).loc main_arg7) (ix2 0 k)

/-- The projection's weight. -/
def argW (k : Fin 1024) (j : Fin 8192) : EReal := m ((c.tc : Thread nD τ).loc main_arg8) (ix3 0 k j)

/-- The gates' bias. -/
def argB (j : Fin 2048) : EReal := m ((c.tc : Thread nD τ).loc main_arg9) (ix2 0 j)

/-- Every window's block, at every point. -/
theorem idx0 : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val, 0] :=
  (by decide +kernel : ∀ t : Fin grid0.N, _)

/-- There are four tiles of 512 rows. -/
theorem N0_lt (t : Fin cfg0.N) : t.val < 4 := t.isLt

/-- The rows of tile `t`. -/
theorem x_blk0 (t : Fin cfg0.N) (r : Fin 512) (k : Fin 1024) (b : Fin 32) (s : Fin 64) (e : 512 * t.val + r.val = 64 * b.val + s.val) :
    iblk0 (V1 m ρ) c 0 t (ix2 r k) = m ((c.tc : Thread nD τ).loc main_arg0) (ix3 b s k) := by
  have ht := N0_lt t
  have e' : iblk0 (V1 m ρ) c 0 t (ix2 r k) = V m c main_v0 (ix2 ⟨64 * b.val + s.val, by omega⟩ k) := by
    rw [← enter m ρ c]
    blk_point [iblk0, idx0 t]
  rw [e']
  entry_read
  pointwise

/-- The gain of the norm before the products. -/
theorem pre_blk (t : Fin cfg0.N) (k : Fin 1024) : iblk0 (V1 m ρ) c 1 t (ix2 0 k) = m ((c.tc : Thread nD τ).loc main_arg2) (ix2 0 k) := by
  have e : iblk0 (V1 m ρ) c 1 t (ix2 0 k) = V m c main_v2 (ix2 0 k) := by
    rw [← enter m ρ c]
    blk_point [iblk0, idx0 t]
  rw [e]
  entry_read
  pointwise

/-- The gain of the norm after them. -/
theorem post_blk (t : Fin cfg0.N) (k : Fin 1024) : iblk0 (V1 m ρ) c 2 t (ix2 0 k) = m ((c.tc : Thread nD τ).loc main_arg3) (ix2 0 k) := by
  have e : iblk0 (V1 m ρ) c 2 t (ix2 0 k) = V m c main_v4 (ix2 0 k) := by
    rw [← enter m ρ c]
    blk_point [iblk0, idx0 t]
  rw [e]
  entry_read
  pointwise

/-- The gate's weight. -/
theorem gate_blk (t : Fin cfg0.N) (k : Fin 1024) (j : Fin 2816) :
    iblk0 (V1 m ρ) c 3 t (ix2 k j) = m ((c.tc : Thread nD τ).loc main_arg4) (ix3 0 k j) := by
  have e : iblk0 (V1 m ρ) c 3 t (ix2 k j) = V m c main_v6 (ix2 k j) := by
    rw [← enter m ρ c]
    blk_point [iblk0, idx0 t]
  rw [e]
  entry_read
  pointwise

/-- The other weight of the units. -/
theorem up_blk (t : Fin cfg0.N) (k : Fin 1024) (j : Fin 2816) :
    iblk0 (V1 m ρ) c 4 t (ix2 k j) = m ((c.tc : Thread nD τ).loc main_arg5) (ix3 0 k j) := by
  have e : iblk0 (V1 m ρ) c 4 t (ix2 k j) = V m c main_v8 (ix2 k j) := by
    rw [← enter m ρ c]
    blk_point [iblk0, idx0 t]
  rw [e]
  entry_read
  pointwise

/-- The third weight. -/
theorem down_blk (t : Fin cfg0.N) (j : Fin 2816) (k : Fin 1024) :
    iblk0 (V1 m ρ) c 5 t (ix2 j k) = m ((c.tc : Thread nD τ).loc main_arg6) (ix3 0 j k) := by
  have e : iblk0 (V1 m ρ) c 5 t (ix2 j k) = V m c main_v10 (ix2 j k) := by
    rw [← enter m ρ c]
    blk_point [iblk0, idx0 t]
  rw [e]
  entry_read
  pointwise

/-- THE FIRST CALL'S ARRAY. -/
theorem first_final : (dat0 (V1 m ρ) c).arrAt 6 cfg0.N = val_main_v107 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dat0 (V1 m ρ) c).arrAt_eq_of_covers 6 _ (by decide +kernel) fun t _ y => ?_
  blk_simp
  rw [after0_6]
  have ht := N0_lt t
  have hy0 : (y 0).val < 512 := (y 0).isLt
  have hy1 : (y 1).val < 1024 := (y 1).isLt
  have hy : y = ix2 ⟨(y 0).val, hy0⟩ ⟨(y 1).val, hy1⟩ := by idx_ext
  have he : 512 * t.val + (y 0).val = 64 * ((512 * t.val + (y 0).val) / 64) + (512 * t.val + (y 0).val) % 64 := by omega
  have left := First.outs_eq (V1 m ρ) c t ⟨(y 0).val, hy0⟩ ⟨(y 1).val, hy1⟩
  have right := Ref.ffn_eq (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) ⟨(512 * t.val + (y 0).val) / 64, by omega⟩ ⟨(512 * t.val + (y 0).val) % 64, by omega⟩ ⟨(y 1).val, hy1⟩
  simp only [x_blk0 m ρ c t ⟨(y 0).val, hy0⟩ _ ⟨(512 * t.val + (y 0).val) / 64, by omega⟩ ⟨(512 * t.val + (y 0).val) % 64, by omega⟩ he,
    pre_blk, post_blk, gate_blk, up_blk, down_blk] at left
  refine (congrArg (outsAt0 (F := Ideal) (V1 m ρ) c t) hy).trans (left.trans (right.symm.trans (congrArg _ ?_)))
  blk_ext [idx0 t] <;> omega

/-- A row of tile `t` is a token's. -/
theorem row_blk (r : Fin 512) (b : Fin 32) (s : Fin 64) (e : 512 * t.val + r.val = 64 * b.val + s.val) : row (V3 m ρ) c t r = tok m c b s := by
  have ht := N_lt t
  funext k
  unfold row tok
  have e' : iblk1 (V3 m ρ) c 0 t (ix2 r k) = V3 m ρ c main_v22 (ix2 ⟨64 * b.val + s.val, by omega⟩ k) := by blk_point [iblk1, idx t]
  rw [e', handed, first_final]
  exact Ref.rows_eq (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b s k

/-- The gain is the eighth argument. -/
theorem gain_blk : gain (V3 m ρ) c t = argG m c := by
  funext k
  unfold gain argG
  have e : iblk1 (V3 m ρ) c 1 t (ix2 0 k) = V m c main_v12 (ix2 0 k) := by
    rw [← carried m ρ c main_v12 (by decide) (by decide +kernel)]
    blk_point [iblk1, idx_whole t]
  rw [e]
  entry_read
  pointwise

/-- The projection's weight is the ninth. -/
theorem wt_blk : wt (V3 m ρ) c t = argW m c := by
  funext k j
  unfold wt argW
  have e : iblk1 (V3 m ρ) c 2 t (ix2 k j) = V m c main_v14 (ix2 k j) := by
    rw [← carried m ρ c main_v14 (by decide) (by decide +kernel)]
    blk_point [iblk1, idx_whole t]
  rw [e]
  entry_read
  pointwise

/-- The gates' bias is the tenth. -/
theorem bias_blk : bias (V3 m ρ) c t = argB m c := by
  funext j
  unfold bias argB
  have e : iblk1 (V3 m ρ) c 3 t (ix2 0 j) = V m c main_v16 (ix2 0 j) := by
    rw [← carried m ρ c main_v16 (by decide) (by decide +kernel)]
    blk_point [iblk1, idx_whole t]
  rw [e]
  entry_read
  pointwise

/-- The taps. -/
theorem taps_blk (i : Fin 3) (e : Fin 1024) : iblk1 (V3 m ρ) c 4 t (ix2 i e) = m ((c.tc : Thread nD τ).loc main_arg10) (ix3 0 i e) := by
  have e : iblk1 (V3 m ρ) c 4 t (ix2 i e) = V m c main_v17 (ix2 i e) := by
    rw [← carried m ρ c main_v17 (by decide) (by decide +kernel)]
    blk_point [iblk1, idx_whole t]
  rw [e]
  entry_read
  pointwise

/-- The convolution's bias. -/
theorem conv_bias_blk (e : Fin 1024) : iblk1 (V3 m ρ) c 5 t (ix2 0 e) = m ((c.tc : Thread nD τ).loc main_arg11) (ix2 0 e) := by
  have e : iblk1 (V3 m ρ) c 5 t (ix2 0 e) = V m c main_v19 (ix2 0 e) := by
    rw [← carried m ρ c main_v19 (by decide) (by decide +kernel)]
    blk_point [iblk1, idx_whole t]
  rw [e]
  entry_read
  pointwise

/-- The convolution's weight. -/
theorem conv_wt_blk (e d : Fin 1024) : iblk1 (V3 m ρ) c 6 t (ix2 e d) = m ((c.tc : Thread nD τ).loc main_arg12) (ix3 0 e d) := by
  have e : iblk1 (V3 m ρ) c 6 t (ix2 e d) = V m c main_v21 (ix2 e d) := by
    rw [← carried m ρ c main_v21 (by decide) (by decide +kernel)]
    blk_point [iblk1, idx_whole t]
  rw [e]
  entry_read
  pointwise

/-- The state a sequence goes on from is the second argument's. -/
theorem state_blk (q : Fin 8) (i : Fin 2) (e : Fin 1024) (b : Fin 32) (h : 8 * t.val + q.val = b.val) :
    iblk1 (V3 m ρ) c 7 t (ix3 q i e) = m ((c.tc : Thread nD τ).loc main_arg1) (ix4 0 b i e) := by
  have ht := N_lt t
  have hb : iblk1 (V3 m ρ) c 7 t (ix3 q i e) = V3 m ρ c main_v23 (ix3 b i e) := by blk_point [iblk1, idx t]
  exact hb.trans (state m ρ c b i e)

/-- What the convolution reads of a token. -/
abbrev tokUnit (b : Fin 32) (e : Fin 1024) (s : Fin 64) : EReal := unit (tok m c b s) (argG m c) (argW m c) e

/-- What the convolution reads of a sequence of tile `t`. -/
theorem units_blk (q : Fin 8) (e : Fin 1024) (b : Fin 32) (h : 8 * t.val + q.val = b.val) : units (V3 m ρ) c t q e = tokUnit m c b e := by
  funext s
  unfold units
  rw [row_blk m ρ c t _ b s (by simp only; omega), gain_blk, wt_blk]

/-- THE CONVOLUTION BRANCH a point stores, of the arguments. -/
theorem conv_blk (q : Fin 8) (s : Fin 64) (d : Fin 1024) (b : Fin 32) (h : 8 * t.val + q.val = b.val) :
    (outsAt1 (F := Ideal) (V3 m ρ) c t).2.2.2.2.1 (ix2 ⟨q.val * 64 + s.val, by omega⟩ d) =
      branch (tok m c b s) (argG m c) (argW m c) (argB m c)
        (fun e => taps (m ((c.tc : Thread nD τ).loc main_arg11) (ix2 0 e)) (m ((c.tc : Thread nD τ).loc main_arg10) (ix3 0 0 e))
          (m ((c.tc : Thread nD τ).loc main_arg10) (ix3 0 1 e)) (m ((c.tc : Thread nD τ).loc main_arg10) (ix3 0 2 e))
          (since 2 (fun i => m ((c.tc : Thread nD τ).loc main_arg1) (ix4 0 b i e)) (tokUnit m c b e) s)
          (since 1 (fun i => m ((c.tc : Thread nD τ).loc main_arg1) (ix4 0 b i e)) (tokUnit m c b e) s)
          (since 0 (fun i => m ((c.tc : Thread nD τ).loc main_arg1) (ix4 0 b i e)) (tokUnit m c b e) s))
        (fun e d => m ((c.tc : Thread nD τ).loc main_arg12) (ix3 0 e d)) d := by
  have zero : ∀ e, since 0 (fun i => m ((c.tc : Thread nD τ).loc main_arg1) (ix4 0 b i e)) (tokUnit m c b e) s = tokUnit m c b e s :=
    fun e => if_pos (Nat.zero_le _)
  refine (conv_point (V3 m ρ) c t q s d).trans ?_
  unfold conv
  simp only [units_blk m ρ c t q _ b h, state_blk m ρ c t q _ _ b h, zero, taps_blk, conv_bias_blk, conv_wt_blk]
  rw [row_blk m ρ c t _ b s (by simp only; omega), gain_blk, wt_blk, bias_blk]

end Cert.Sample

end
-- ==== Proof.Sample.Final.lean ====
/- The arrays of the sample's two calls, after the run, are the reference's. -/
module

public import proofs.«01_k».proof.Proof.Sample.Blocks

@[expose] public section

set_option maxRecDepth 16384

noncomputable section

namespace Cert.Sample

open Idealize.ShloMosaic Idealize.ShloMosaic.TcCoe Idealize.SL.Sem Cert.Kernel5Ideal Cert.Kernel5Ideal.Gen Cert.Ffn Idealize.ShloMosaic.StableHlo
  Cert.Reference5Ideal.Read

variable (m : (ℓ : Loc nD τ sig) → Buf (Elt Ideal) ℓ) (ρ : Dev nD → PrngReg) (c : Dev nD)

/-- The token of a row of a tile: token `s` of the tile's sequence `q`, which is sequence `b`. -/
theorem token (t : Fin cfg1.N) (r : Fin 512) : ∃ (b : Fin 32) (q : Fin 8) (s : Fin 64), 8 * t.val + q.val = b.val ∧ q.val * 64 + s.val = r.val := by
  have ht := N_lt t
  exact ⟨⟨8 * t.val + r.val / 64, by omega⟩, ⟨r.val / 64, by omega⟩, ⟨r.val % 64, by omega⟩, rfl, by simp only; omega⟩

/-- THE QUERIES' ARRAY. -/
theorem query_final : (dat1 (V3 m ρ) c).arrAt 8 cfg1.N = val_main_v115 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (dat1 (V3 m ρ) c).arrAt_eq_of_covers 8 _ (by decide +kernel) fun t _ y => ?_
  blk_simp
  rw [after1_8]
  have ht := N_lt t
  have hy0 : (y 0).val < 512 := (y 0).isLt
  have hy1 : (y 1).val < 1024 := (y 1).isLt
  have hy : y = ix2 ⟨(y 0).val, hy0⟩ ⟨(y 1).val, hy1⟩ := by idx_ext
  obtain ⟨b, q, s, e, e'⟩ := token t ⟨(y 0).val, hy0⟩
  simp only at e'
  refine (congrArg (outsAt1 (F := Ideal) (V3 m ρ) c t).1 hy).trans ((query_point (V3 m ρ) c t _ _).trans ?_)
  rw [row_blk m ρ c t _ b s (by simp only; omega), gain_blk, wt_blk]
  refine (Ref.query_eq (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) b s ⟨(y 1).val, hy1⟩).symm.trans (congrArg _ ?_)
  blk_ext [idx t] <;> omega

/-- THE KEYS' ARRAY. -/
theorem key_final : (dat1 (V3 m ρ) c).arrAt 9 cfg1.N = val_main_v116 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (dat1 (V3 m ρ) c).arrAt_eq_of_covers 9 _ (by decide +kernel) fun t _ y => ?_
  blk_simp
  rw [after1_9]
  have ht := N_lt t
  have hy0 : (y 0).val < 512 := (y 0).isLt
  have hy1 : (y 1).val < 1024 := (y 1).isLt
  have hy : y = ix2 ⟨(y 0).val, hy0⟩ ⟨(y 1).val, hy1⟩ := by idx_ext
  obtain ⟨b, q, s, e, e'⟩ := token t ⟨(y 0).val, hy0⟩
  simp only at e'
  refine (congrArg (outsAt1 (F := Ideal) (V3 m ρ) c t).2.1 hy).trans ((key_point (V3 m ρ) c t _ _).trans ?_)
  rw [row_blk m ρ c t _ b s (by simp only; omega), gain_blk, wt_blk]
  refine (Ref.key_eq (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) b s ⟨(y 1).val, hy1⟩).symm.trans (congrArg _ ?_)
  blk_ext [idx t] <;> omega

/-- THE VALUES' ARRAY. -/
theorem value_final : (dat1 (V3 m ρ) c).arrAt 10 cfg1.N = val_main_v117 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (dat1 (V3 m ρ) c).arrAt_eq_of_covers 10 _ (by decide +kernel) fun t _ y => ?_
  blk_simp
  rw [after1_10]
  have ht := N_lt t
  have hy0 : (y 0).val < 512 := (y 0).isLt
  have hy1 : (y 1).val < 1024 := (y 1).isLt
  have hy : y = ix2 ⟨(y 0).val, hy0⟩ ⟨(y 1).val, hy1⟩ := by idx_ext
  obtain ⟨b, q, s, e, e'⟩ := token t ⟨(y 0).val, hy0⟩
  simp only at e'
  refine (congrArg (outsAt1 (F := Ideal) (V3 m ρ) c t).2.2.1 hy).trans ((value_point (V3 m ρ) c t _ _).trans ?_)
  rw [row_blk m ρ c t _ b s (by simp only; omega), gain_blk, wt_blk]
  refine (Ref.value_eq (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) b s ⟨(y 1).val, hy1⟩).symm.trans (congrArg _ ?_)
  blk_ext [idx t] <;> omega

/-- THE ATTENTION BRANCH'S GATES' ARRAY. -/
theorem gate_final : (dat1 (V3 m ρ) c).arrAt 11 cfg1.N = val_main_v119 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (dat1 (V3 m ρ) c).arrAt_eq_of_covers 11 _ (by decide +kernel) fun t _ y => ?_
  blk_simp
  rw [after1_11]
  have ht := N_lt t
  have hy0 : (y 0).val < 512 := (y 0).isLt
  have hy1 : (y 1).val < 1024 := (y 1).isLt
  have hy : y = ix2 ⟨(y 0).val, hy0⟩ ⟨(y 1).val, hy1⟩ := by idx_ext
  obtain ⟨b, q, s, e, e'⟩ := token t ⟨(y 0).val, hy0⟩
  simp only at e'
  refine (congrArg (outsAt1 (F := Ideal) (V3 m ρ) c t).2.2.2.1 hy).trans ((gate_point (V3 m ρ) c t _ _).trans ?_)
  rw [row_blk m ρ c t _ b s (by simp only; omega), gain_blk, wt_blk, bias_blk]
  refine (Ref.gate_eq (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) b s ⟨(y 1).val, hy1⟩).symm.trans (congrArg _ ?_)
  blk_ext [idx t] <;> omega

/-- THE CONVOLUTION BRANCH'S ARRAY. -/
theorem branch_final : (dat1 (V3 m ρ) c).arrAt 12 cfg1.N = val_main_v122 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  refine (dat1 (V3 m ρ) c).arrAt_eq_of_covers 12 _ (by decide +kernel) fun t _ y => ?_
  blk_simp
  rw [after1_12]
  have ht := N_lt t
  have hy0 : (y 0).val < 512 := (y 0).isLt
  have hy1 : (y 1).val < 1024 := (y 1).isLt
  obtain ⟨b, q, s, e, e'⟩ := token t ⟨(y 0).val, hy0⟩
  simp only at e'
  have hy : y = ix2 ⟨q.val * 64 + s.val, by omega⟩ ⟨(y 1).val, hy1⟩ := by idx_ext <;> omega
  refine (congrArg (outsAt1 (F := Ideal) (V3 m ρ) c t).2.2.2.2.1 hy).trans ((conv_blk m ρ c t q s _ b e).trans ?_)
  refine (Ref.branch_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) b s ⟨(y 1).val, hy1⟩).symm.trans (congrArg _ ?_)
  blk_ext [idx t] <;> omega

/-- THE ARRAY OF THE TOKENS CARRIED ON: each sequence's last two. -/
theorem carry_final : (dat1 (V3 m ρ) c).arrAt 13 cfg1.N = val_main_v93 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (dat1 (V3 m ρ) c).arrAt_eq_of_covers 13 _ (by decide +kernel) fun t _ y => ?_
  blk_simp
  rw [after1_13]
  have ht := N_lt t
  have hy0 : (y 0).val < 8 := (y 0).isLt
  have hy1 : (y 1).val < 2 := (y 1).isLt
  have hy2 : (y 2).val < 1024 := (y 2).isLt
  have hy : y = ix3 ⟨(y 0).val, hy0⟩ ⟨(y 1).val, hy1⟩ ⟨(y 2).val, hy2⟩ := by idx_ext
  obtain ⟨b, e⟩ : ∃ b : Fin 32, 8 * t.val + (y 0).val = b.val := ⟨⟨_, by omega⟩, rfl⟩
  refine (congrArg (outsAt1 (F := Ideal) (V3 m ρ) c t).2.2.2.2.2 hy).trans ((tail_point (V3 m ρ) c t _ _ _).trans ?_)
  rw [units_blk m ρ c t ⟨(y 0).val, hy0⟩ _ b e]
  refine (Ref.carry_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) b ⟨(y 1).val, hy1⟩ ⟨(y 2).val, hy2⟩).symm.trans (congrArg _ ?_)
  blk_ext [idx t] <;> omega

end Cert.Sample

end
-- ==== Proof.Sample.Pair.lean ====
/- The sample's feed-forward and input projection calls and their reference, run from the same arguments. -/
module

public import proofs.«01_k».proof.Defs
public import proofs.«01_k».proof.Proof.Gen.Reference5Ideal.Run
public import proofs.«01_k».proof.Proof.Sample.Final
public import Idealize.ShloMosaic.Adequacy
public import Idealize.ShloMosaic.Init

@[expose] public section

noncomputable section

namespace Cert.Sample

open Idealize.ShloMosaic Idealize.SL.Sem

open Cert.Kernel5Ideal Cert.Kernel5Ideal.Gen in
/-- THE RUN of the two calls, read at its results and at its arguments. -/
theorem ends (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v22) = (dat0 (V1 m ρ) c).arrAt 6 cfg0.N
      ∧ r.2.mem ((c.tc : Thread nD τ).loc main_v24_0) = (dat1 (V3 m ρ) c).arrAt 8 cfg1.N
      ∧ r.2.mem ((c.tc : Thread nD τ).loc main_v24_1) = (dat1 (V3 m ρ) c).arrAt 9 cfg1.N
      ∧ r.2.mem ((c.tc : Thread nD τ).loc main_v24_2) = (dat1 (V3 m ρ) c).arrAt 10 cfg1.N
      ∧ r.2.mem ((c.tc : Thread nD τ).loc main_v24_3) = (dat1 (V3 m ρ) c).arrAt 11 cfg1.N
      ∧ r.2.mem ((c.tc : Thread nD τ).loc main_v24_4) = (dat1 (V3 m ρ) c).arrAt 12 cfg1.N
      ∧ r.2.mem ((c.tc : Thread nD τ).loc main_v24_5) = (dat1 (V3 m ρ) c).arrAt 13 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨(h c _ (mem_uc main_v22 (by decide))).trans (left0 m ρ c),
     (h c _ (mem_uc main_v24_0 (by decide))).trans (W4_arr m ρ c 8),
     (h c _ (mem_uc main_v24_1 (by decide))).trans (W4_arr m ρ c 9),
     (h c _ (mem_uc main_v24_2 (by decide))).trans (W4_arr m ρ c 10),
     (h c _ (mem_uc main_v24_3 (by decide))).trans (W4_arr m ρ c 11),
     (h c _ (mem_uc main_v24_4 (by decide))).trans (W4_arr m ρ c 12),
     (h c _ (mem_uc main_v24_5 (by decide))).trans (W4_arr m ρ c 13),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c)⟩) (run m ρ)

/-- THE SAMPLE'S FEED-FORWARD AND INPUT PROJECTION CALLS ARE THEIR REFERENCE, in each of their seven arrays. -/
theorem pair : Cert.algebraic_Kernel5Ideal_Reference5Ideal := by
  intro m g m' g' _ hagree
  refine ⟨fun c => (Cert.Kernel5Ideal.Gen.dat0 (Cert.Kernel5Ideal.Gen.V1 m g) c).arrAt 6 Cert.Kernel5Ideal.cfg0.N,
    fun c => (Cert.Kernel5Ideal.Gen.dat1 (Cert.Kernel5Ideal.Gen.V3 m g) c).arrAt 8 Cert.Kernel5Ideal.cfg1.N,
    fun c => (Cert.Kernel5Ideal.Gen.dat1 (Cert.Kernel5Ideal.Gen.V3 m g) c).arrAt 9 Cert.Kernel5Ideal.cfg1.N,
    fun c => (Cert.Kernel5Ideal.Gen.dat1 (Cert.Kernel5Ideal.Gen.V3 m g) c).arrAt 10 Cert.Kernel5Ideal.cfg1.N,
    fun c => (Cert.Kernel5Ideal.Gen.dat1 (Cert.Kernel5Ideal.Gen.V3 m g) c).arrAt 11 Cert.Kernel5Ideal.cfg1.N,
    fun c => (Cert.Kernel5Ideal.Gen.dat1 (Cert.Kernel5Ideal.Gen.V3 m g) c).arrAt 12 Cert.Kernel5Ideal.cfg1.N,
    fun c => (Cert.Kernel5Ideal.Gen.dat1 (Cert.Kernel5Ideal.Gen.V3 m g) c).arrAt 13 Cert.Kernel5Ideal.cfg1.N,
    ends m g,
    (θ_run Cert.Reference5Ideal.defs _ _).mono (fun r h c => ?_) (Cert.Reference5Ideal.Value.run m' g')⟩
  obtain ⟨h0, h1, h2, h3, h4, h5, h6, args⟩ := h c
  obtain ⟨e0, e1, e2, e3, e4, e5, e6, e7, e8, e9, e10, e11, e12⟩ := hagree c
  rw [Cert.Reference5Ideal.Read.val_main_v107_eq] at h0
  simp only [StableHlo.launchContents_devRef, e0, e2, e3, e4, e5, e6] at h0
  rw [Cert.Reference5Ideal.Read.val_main_v115_eq] at h1
  simp only [StableHlo.launchContents_devRef, e0, e2, e3, e4, e5, e6, e7, e8] at h1
  rw [Cert.Reference5Ideal.Read.val_main_v116_eq] at h2
  simp only [StableHlo.launchContents_devRef, e0, e2, e3, e4, e5, e6, e7, e8] at h2
  rw [Cert.Reference5Ideal.Read.val_main_v117_eq] at h3
  simp only [StableHlo.launchContents_devRef, e0, e2, e3, e4, e5, e6, e7, e8] at h3
  rw [Cert.Reference5Ideal.Read.val_main_v119_eq] at h4
  simp only [StableHlo.launchContents_devRef, e0, e2, e3, e4, e5, e6, e7, e8, e9] at h4
  rw [Cert.Reference5Ideal.Read.val_main_v122_eq] at h5
  simp only [StableHlo.launchContents_devRef, e0, e1, e2, e3, e4, e5, e6, e7, e8, e9, e10, e11, e12] at h5
  rw [Cert.Reference5Ideal.Read.val_main_v93_eq] at h6
  simp only [StableHlo.launchContents_devRef, e0, e1, e2, e3, e4, e5, e6, e7, e8] at h6
  exact ⟨h0.trans (first_final m g c).symm, h1.trans (query_final m g c).symm, h2.trans (key_final m g c).symm, h3.trans (value_final m g c).symm, h4.trans (gate_final m g c).symm, h5.trans (branch_final m g c).symm, h6.trans (carry_final m g c).symm, args⟩

/-- The reference ends, its arguments unchanged. -/
theorem reference_ends : Cert.quiescent_Reference5Ideal := fun m ρ _ =>
  (θ_run Cert.Reference5Ideal.defs _ _).mono (fun r h => ⟨fun c => (h c).2.2.2.2.2.2.2, sem_eq_zero_of_no_sems rfl r.2⟩) (Cert.Reference5Ideal.Value.run m ρ)

end Cert.Sample

end
-- ==== Proof.Ffn.Point6.lean ====
/- What one grid point of the mixing and second feed-forward call leaves in its block, on the sample. The values it
   computes are those of the call on the prompt, so that call's lemmas read them. -/
module

public import proofs.«01_k».proof.Proof.Ffn.Point3
public import proofs.«01_k».proof.Proof.Gen.Kernel6Ideal.Value

@[expose] public section

set_option maxRecDepth 16384

noncomputable section

namespace Cert.Ffn.Call6

open Idealize.ShloMosaic Idealize.ShloMosaic.TcCoe Idealize.SL.Sem Cert.Kernel6Ideal Cert.Kernel6Ideal.Gen

variable (m : (ℓ : Loc nD τ sig) → Buf (Elt Ideal) ℓ)

/-- The square of the mixed rows. -/
theorem square_eq (o : FVec Ideal S512x1024 .bf16) (wa : FVec Ideal S1024x1024 .bf16) (ga cv : FVec Ideal S512x1024 .bf16)
    (wm : FVec Ideal S1024x1024 .bf16) (x : FVec Ideal S512x1024 .f32) (g : FVec Ideal S1x1024 .f32) :
    k0_pay5 (F := Ideal) o wa ga cv wm x g = mulf (k0_pay3 o wa ga cv wm x g) (k0_pay3 o wa ga cv wm x g) := rfl

/-- The first 256 units, of the normed rows. -/
theorem first_eq (z : FVec Ideal S512x1024 .f32) (g : FVec Ideal S1x1024 .f32) (s : FVec Ideal S512x1024 .f32) (a b : FVec Ideal S1024x256 .bf16) :
    k0_pay7 (F := Ideal) z g s a b = k0_pay9 (k0_pay6 z g s) a b := rfl

/-- The second. -/
theorem second_eq (z : FVec Ideal S512x1024 .f32) (g : FVec Ideal S1x1024 .f32) (s : FVec Ideal S512x1024 .f32) (a b : FVec Ideal S1024x256 .bf16) :
    k0_pay8 (F := Ideal) z g s a b = k0_pay9 (k0_pay6 z g s) a b := rfl

set_option maxHeartbeats 3200000 in
/-- WHAT A POINT STORES, at a row and a column of its block: the feed-forward part of the block's mixed row. -/
theorem outs_eq (c : Dev nD) (t : Fin cfg0.N) (r : Fin 512) (d : Fin 1024) : outsAt0 (F := Ideal) m c t (ix2 r d) =
    ffn (mix (fun k => iblk m c 0 t (ix2 r k)) (fun k => iblk m c 1 t (ix2 r k)) (fun k => iblk m c 2 t (ix2 r k)) (fun k => iblk m c 3 t (ix2 r k))
        (fun l k => iblk m c 4 t (ix2 l k)) (fun l k => iblk m c 5 t (ix2 l k)) (fun k => iblk m c 6 t (ix2 0 k)))
      (fun k => iblk m c 7 t (ix2 0 k)) (fun k => iblk m c 8 t (ix2 0 k))
      (fun k j => iblk m c 9 t (ix2 k j)) (fun k j => iblk m c 10 t (ix2 k j)) (fun j k => iblk m c 11 t (ix2 j k)) d := by
  unfold outsAt0
  frame_out
  have hm : mix (fun k => iblk m c 0 t (ix2 r k)) (fun k => iblk m c 1 t (ix2 r k)) (fun k => iblk m c 2 t (ix2 r k)) (fun k => iblk m c 3 t (ix2 r k))
        (fun l k => iblk m c 4 t (ix2 l k)) (fun l k => iblk m c 5 t (ix2 l k)) (fun k => iblk m c 6 t (ix2 0 k)) =
      fun k => k0_pay3 (F := Ideal) (iblk m c 0 t) (iblk m c 4 t) (iblk m c 1 t) (iblk m c 2 t) (iblk m c 5 t) (iblk m c 3 t) (iblk m c 6 t) (ix2 r k) :=
    funext fun k => (Call3.mix_eq _ _ _ _ _ _ _ r k).symm
  rw [hm]
  refine (Call3.tail_eq _ _ _ _ r d).trans ?_
  unfold ffn
  refine congrArg (fun f => _ + _ * rms f _ d) (funext fun e => Finset.sum_congr rfl fun j _ => congrArg (· * _) ?_)
  rw [square_eq, first_eq, second_eq]
  generalize k0_pay3 (F := Ideal) (iblk m c 0 t) (iblk m c 4 t) (iblk m c 1 t) (iblk m c 2 t) (iblk m c 5 t) (iblk m c 3 t) (iblk m c 6 t) = z
  have hp : rms (fun k => z (ix2 r k)) (fun k => iblk m c 7 t (ix2 0 k)) = fun k => k0_pay6 (F := Ideal) z (k0_pay4 (iblk m c 7 t)) (mulf z z) (ix2 r k) :=
    funext fun k => (Call3.pre_eq _ _ r k).symm
  rw [hp, View.readCov_eq_canon']
  generalize k0_pay6 (F := Ideal) z (k0_pay4 (iblk m c 7 t)) (mulf z z) = h
  have e0 : (Rect.unit (s := S512x2816) ![0, 0] ![512, 2816] inb_S512x2816_S512x2816_0_0).toLoadRect.idx (ix2 r j) = ix2 r j := by idx_ext
  refine (congrArg (View.canon _) e0).trans ?_
  canon_tiles x q
  all_goals
    have hx : x = ix2 r ⟨(x 1).val, (x 1).isLt⟩ := by idx_ext <;> omega
    have hj : j.val = _ := q1
    rw [hx]
    exact Call3.unit_act h (iblk m c 9 t) (iblk m c 10 t) _ _ r _ j (by first | omega | (simp; omega))

end Cert.Ffn.Call6

end
-- ==== Proof.Ffn.Ref6.lean ====
/- The mixing and the second feed-forward part as the reference writes them on the sample, read at an entry. -/
module

public import proofs.«01_k».proof.Proof.Ffn.Rows
public import proofs.«01_k».proof.Proof.Gen.Reference6Ideal.Read
public import Idealize.ShloMosaic.Lib.Pointwise

@[expose] public section

set_option maxRecDepth 16384

noncomputable section

namespace Cert.Ffn.Ref6

open Idealize.ShloMosaic Idealize.ShloMosaic.TcCoe Cert.Reference6Ideal Cert.Reference6Ideal.Gen Cert.Reference6Ideal.Read

variable (x0 x1 x2 x3 : FVec Ideal S32x64x1024 .f32) (x4 x5 : FVec Ideal S1x1024x1024 .f32) (x6 x7 x8 : FVec Ideal S1x1024 .f32)
  (x9 x10 : FVec Ideal S1x1024x2816 .f32) (x11 : FVec Ideal S1x2816x1024 .f32)

/-- The mixed row of a token. -/
def row (b : Fin 32) (s : Fin 64) : Fin 1024 → EReal :=
  mix (fun k => x0 (ix3 b s k)) (fun k => x1 (ix3 b s k)) (fun k => x2 (ix3 b s k)) (fun k => x3 (ix3 b s k))
    (fun l k => x4 (ix3 0 l k)) (fun l k => x5 (ix3 0 l k)) (fun k => x6 (ix2 0 k))

/-- The gated attention and the gated convolution, through the mixing weight. -/
theorem prod_eq (b : Fin 32) (s : Fin 64) (c : Fin 1024) : val_main_v5 (F := Ideal) x0 x1 x2 x4 x5 (ix3 b s c) =
    ∑ k, (x1 (ix3 b s k) * (∑ l, x0 (ix3 b s l) * x4 (ix3 0 l k)) + x2 (ix3 b s k)) * x5 (ix3 0 k c) := by
  pointwise [val_main_v5, val_main_v4, val_main_v3, val_main_v2, val_main_v1, val_main_v0]

/-- The residual with the mixed branches. -/
theorem mix_eq (b : Fin 32) (s : Fin 64) (c : Fin 1024) :
    val_main_v20 (F := Ideal) x0 x1 x2 x3 x4 x5 x6 (ix3 b s c) = row x0 x1 x2 x3 x4 x5 x6 b s c := by
  pointwise [val_main_v20, val_main_v19, val_main_v18, val_main_v17, val_main_v16, val_main_v15, val_main_v14, val_main_v13, val_main_v12,
    val_main_v11, val_main_v10, val_main_v9, val_main_v8, val_main_v7, val_main_v6, val_main_cst, val_main_cst_0, val_main_cst_1]
  simp only [prod_eq]
  rfl

/-- The norm before the products. -/
theorem pre_eq (b : Fin 32) (s : Fin 64) (c : Fin 1024) : val_main_v34 (F := Ideal) x0 x1 x2 x3 x4 x5 x6 x7 (ix3 b s c) =
    rms (row x0 x1 x2 x3 x4 x5 x6 b s) (fun k => x7 (ix2 0 k)) c := by
  pointwise [val_main_v34, val_main_v33, val_main_v32, val_main_v31, val_main_v30, val_main_v29, val_main_v28, val_main_v27, val_main_v26,
    val_main_v25, val_main_v24, val_main_v23, val_main_v22, val_main_v21, val_main_cst_2, val_main_cst_3, val_main_cst_4]
  simp only [mix_eq]
  rfl

/-- The gated units. -/
theorem act_eq (b : Fin 32) (s : Fin 64) (j : Fin 2816) : val_main_v41 (F := Ideal) x0 x1 x2 x3 x4 x5 x6 x7 x9 x10 (ix3 b s j) =
    act (rms (row x0 x1 x2 x3 x4 x5 x6 b s) (fun k => x7 (ix2 0 k))) (fun k j => x9 (ix3 0 k j)) (fun k j => x10 (ix3 0 k j)) j := by
  pointwise [val_main_v41, val_main_v40, val_main_v39, val_main_call0_v5, val_main_call0_v4, val_main_call0_v3, val_main_call0_v2, val_main_call0_v1,
    val_main_call0_v0, val_main_call0_cst, val_main_call0_cst_0, val_main_v38, val_main_v36, val_main_v35]
  simp only [pre_eq]
  rfl

/-- The product with the third weight. -/
theorem down_eq (b : Fin 32) (s : Fin 64) (c : Fin 1024) : val_main_v42 (F := Ideal) x0 x1 x2 x3 x4 x5 x6 x7 x9 x10 x11 (ix3 b s c) =
    ∑ j, act (rms (row x0 x1 x2 x3 x4 x5 x6 b s) (fun k => x7 (ix2 0 k))) (fun k j => x9 (ix3 0 k j)) (fun k j => x10 (ix3 0 k j)) j * x11 (ix3 0 j c) := by
  pointwise [val_main_v42, val_main_v37]
  simp only [act_eq]

/-- THE REFERENCE, AT AN ENTRY of its result. -/
theorem ref_eq (b : Fin 32) (s : Fin 64) (c : Fin 1024) :
    val_main_v60 (F := Ideal) x0 x1 x2 x3 x4 x5 x6 x7 x8 x9 x10 x11 (ix2 ⟨64 * b.val + s.val, by omega⟩ c) =
      ffn (row x0 x1 x2 x3 x4 x5 x6 b s) (fun k => x7 (ix2 0 k)) (fun k => x8 (ix2 0 k))
        (fun k j => x9 (ix3 0 k j)) (fun k j => x10 (ix3 0 k j)) (fun j k => x11 (ix3 0 j k)) c := by
  have e : val_main_v60 (F := Ideal) x0 x1 x2 x3 x4 x5 x6 x7 x8 x9 x10 x11 (ix2 ⟨64 * b.val + s.val, by omega⟩ c) =
      val_main_v59 (F := Ideal) x0 x1 x2 x3 x4 x5 x6 x7 x8 x9 x10 x11 (ix3 b s c) := by
    pointwise [val_main_v60]
  rw [e]
  pointwise [val_main_v59, val_main_v58, val_main_v57, val_main_v56, val_main_v55, val_main_v54, val_main_v53, val_main_v52, val_main_v51,
    val_main_v50, val_main_v49, val_main_v48, val_main_v47, val_main_v46, val_main_v45, val_main_v44, val_main_v43,
    val_main_cst_5, val_main_cst_6, val_main_cst_7, val_main_cst_8]
  simp only [down_eq, mix_eq]
  rfl

end Cert.Ffn.Ref6

end
-- ==== Proof.Ffn.Final6.lean ====
/- The mixing and second feed-forward call's result array on the sample, after the run, is the reference's. -/
module

public import proofs.«01_k».proof.Proof.Ffn.Point6
public import proofs.«01_k».proof.Proof.Ffn.Ref6
public import Idealize.ShloMosaic.Lib.Claim

@[expose] public section

set_option maxRecDepth 16384

noncomputable section

namespace Cert.Ffn.Call6

open Idealize.ShloMosaic Idealize.ShloMosaic.TcCoe Idealize.SL.Sem Cert.Kernel6Ideal Cert.Kernel6Ideal.Gen Idealize.ShloMosaic.StableHlo
  Cert.Reference6Ideal.Read

variable (m : (ℓ : Loc nD τ sig) → Buf (Elt Ideal) ℓ)

/-- The blocks of the tiled windows, at every point. -/
theorem idx : ∀ t : Fin cfg0.N, win0_0.index t = ![t.val, 0] ∧ win0_1.index t = ![t.val, 0] ∧ win0_2.index t = ![t.val, 0] ∧ win0_3.index t = ![t.val, 0]
    ∧ win0_12.index t = ![t.val, 0] :=
  (by decide +kernel : ∀ t : Fin grid0.N, _)

/-- The blocks of the weights and gains: the whole array, at every point. -/
theorem idx_whole : ∀ t : Fin cfg0.N, win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0] :=
  (by decide +kernel : ∀ t : Fin grid0.N, _)

/-- There are 4 tiles of 512 rows. -/
theorem N_lt (t : Fin cfg0.N) : t.val < 4 := t.isLt

section rows

variable (c : Dev nD) (t : Fin cfg0.N) (r : Fin 512) (k : Fin 1024) (b : Fin 32) (s : Fin 64) (e : 512 * t.val + r.val = 64 * b.val + s.val)
include e

/-- The attention's rows of tile `t`. -/
theorem o_blk : iblk m c 0 t (ix2 r k) = m ((c.tc : Thread nD τ).loc main_arg0) (ix3 b s k) := by
  have ht := N_lt t
  have e' : iblk m c 0 t (ix2 r k) = V m c main_v17 (ix2 ⟨64 * b.val + s.val, by omega⟩ k) := by blk_point [iblk, V, idx t]
  rw [e']
  entry_read
  pointwise
  refine congrArg _ ?_
  idx_ext <;> omega

/-- The gate's rows. -/
theorem gate_blk : iblk m c 1 t (ix2 r k) = m ((c.tc : Thread nD τ).loc main_arg1) (ix3 b s k) := by
  have ht := N_lt t
  have e' : iblk m c 1 t (ix2 r k) = V m c main_v19 (ix2 ⟨64 * b.val + s.val, by omega⟩ k) := by blk_point [iblk, V, idx t]
  rw [e']
  entry_read
  pointwise
  refine congrArg _ ?_
  idx_ext <;> omega

/-- The gated convolution's rows. -/
theorem conv_blk : iblk m c 2 t (ix2 r k) = m ((c.tc : Thread nD τ).loc main_arg2) (ix3 b s k) := by
  have ht := N_lt t
  have e' : iblk m c 2 t (ix2 r k) = V m c main_v21 (ix2 ⟨64 * b.val + s.val, by omega⟩ k) := by blk_point [iblk, V, idx t]
  rw [e']
  entry_read
  pointwise
  refine congrArg _ ?_
  idx_ext <;> omega

/-- The residual's rows. -/
theorem x_blk : iblk m c 3 t (ix2 r k) = m ((c.tc : Thread nD τ).loc main_arg3) (ix3 b s k) := by
  have ht := N_lt t
  have e' : iblk m c 3 t (ix2 r k) = V m c main_v22 (ix2 ⟨64 * b.val + s.val, by omega⟩ k) := by blk_point [iblk, V, idx t]
  rw [e']
  entry_read
  pointwise

end rows

/-- The attention's weight. -/
theorem attn_blk (c : Dev nD) (t : Fin cfg0.N) (l k : Fin 1024) : iblk m c 4 t (ix2 l k) = m ((c.tc : Thread nD τ).loc main_arg4) (ix3 0 l k) := by
  have e : iblk m c 4 t (ix2 l k) = V m c main_v11 (ix2 l k) := by blk_point [iblk, V, idx_whole t]
  rw [e]
  entry_read
  pointwise

/-- The mixing weight. -/
theorem mix_blk (c : Dev nD) (t : Fin cfg0.N) (l k : Fin 1024) : iblk m c 5 t (ix2 l k) = m ((c.tc : Thread nD τ).loc main_arg5) (ix3 0 l k) := by
  have e : iblk m c 5 t (ix2 l k) = V m c main_v13 (ix2 l k) := by blk_point [iblk, V, idx_whole t]
  rw [e]
  entry_read
  pointwise

/-- The gain of the mixing norm. -/
theorem gain_blk (c : Dev nD) (t : Fin cfg0.N) (k : Fin 1024) : iblk m c 6 t (ix2 0 k) = m ((c.tc : Thread nD τ).loc main_arg6) (ix2 0 k) := by
  have e : iblk m c 6 t (ix2 0 k) = V m c main_v15 (ix2 0 k) := by blk_point [iblk, V, idx_whole t]
  rw [e]
  entry_read
  pointwise

/-- The gain of the norm before the products. -/
theorem pre_blk (c : Dev nD) (t : Fin cfg0.N) (k : Fin 1024) : iblk m c 7 t (ix2 0 k) = m ((c.tc : Thread nD τ).loc main_arg7) (ix2 0 k) := by
  have e : iblk m c 7 t (ix2 0 k) = V m c main_v1 (ix2 0 k) := by blk_point [iblk, V, idx_whole t]
  rw [e]
  entry_read
  pointwise

/-- The gain of the norm after them. -/
theorem post_blk (c : Dev nD) (t : Fin cfg0.N) (k : Fin 1024) : iblk m c 8 t (ix2 0 k) = m ((c.tc : Thread nD τ).loc main_arg8) (ix2 0 k) := by
  have e : iblk m c 8 t (ix2 0 k) = V m c main_v3 (ix2 0 k) := by blk_point [iblk, V, idx_whole t]
  rw [e]
  entry_read
  pointwise

/-- The units' gate weight. -/
theorem wg_blk (c : Dev nD) (t : Fin cfg0.N) (k : Fin 1024) (j : Fin 2816) :
    iblk m c 9 t (ix2 k j) = m ((c.tc : Thread nD τ).loc main_arg9) (ix3 0 k j) := by
  have e : iblk m c 9 t (ix2 k j) = V m c main_v5 (ix2 k j) := by blk_point [iblk, V, idx_whole t]
  rw [e]
  entry_read
  pointwise

/-- The units' other weight. -/
theorem wu_blk (c : Dev nD) (t : Fin cfg0.N) (k : Fin 1024) (j : Fin 2816) :
    iblk m c 10 t (ix2 k j) = m ((c.tc : Thread nD τ).loc main_arg10) (ix3 0 k j) := by
  have e : iblk m c 10 t (ix2 k j) = V m c main_v7 (ix2 k j) := by blk_point [iblk, V, idx_whole t]
  rw [e]
  entry_read
  pointwise

/-- The third weight. -/
theorem wd_blk (c : Dev nD) (t : Fin cfg0.N) (j : Fin 2816) (k : Fin 1024) :
    iblk m c 11 t (ix2 j k) = m ((c.tc : Thread nD τ).loc main_arg11) (ix3 0 j k) := by
  have e : iblk m c 11 t (ix2 j k) = V m c main_v9 (ix2 j k) := by blk_point [iblk, V, idx_whole t]
  rw [e]
  entry_read
  pointwise

/-- THE RESULT ARRAY: the reference's value of the same arguments. -/
theorem final (c : Dev nD) : (dats m 0 c).arrAt 12 cfg0.N = val_main_v60 (F := Ideal) (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9))
    (m ((c.tc : Thread nD τ).loc main_arg10)) (m ((c.tc : Thread nD τ).loc main_arg11)) := by
  refine (dats m 0 c).arrAt_eq_of_covers 12 _ (by decide +kernel) fun t _ y => ?_
  blk_simp
  rw [after0_12]
  have ht := N_lt t
  have hy0 : (y 0).val < 512 := (y 0).isLt
  have hy1 : (y 1).val < 1024 := (y 1).isLt
  have hy : y = ix2 ⟨(y 0).val, hy0⟩ ⟨(y 1).val, hy1⟩ := by idx_ext
  obtain ⟨b, hb⟩ : ∃ b : Fin 32, b.val = (512 * t.val + (y 0).val) / 64 := ⟨⟨_, by omega⟩, rfl⟩
  obtain ⟨s, hs⟩ : ∃ s : Fin 64, s.val = (512 * t.val + (y 0).val) % 64 := ⟨⟨_, by omega⟩, rfl⟩
  have he : 512 * t.val + (⟨(y 0).val, hy0⟩ : Fin 512).val = 64 * b.val + s.val := by rw [hb, hs]; simp only; omega
  have left := outs_eq m c t ⟨(y 0).val, hy0⟩ ⟨(y 1).val, hy1⟩
  have right := Ref6.ref_eq (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9))
    (m ((c.tc : Thread nD τ).loc main_arg10)) (m ((c.tc : Thread nD τ).loc main_arg11)) b s ⟨(y 1).val, hy1⟩
  simp only [o_blk m c t ⟨(y 0).val, hy0⟩ _ b s he, gate_blk m c t ⟨(y 0).val, hy0⟩ _ b s he, conv_blk m c t ⟨(y 0).val, hy0⟩ _ b s he,
    x_blk m c t ⟨(y 0).val, hy0⟩ _ b s he, attn_blk, mix_blk, gain_blk, pre_blk, post_blk, wg_blk, wu_blk, wd_blk] at left
  refine (congrArg (outsAt0 (F := Ideal) m c t) hy).trans (left.trans (right.symm.trans (congrArg _ ?_)))
  simp only at he
  blk_ext [idx t] <;> omega

end Cert.Ffn.Call6

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite
public import proofs.«01_k».proof.Proof.Attn.Finite
public import proofs.«01_k».proof.Proof.Attn.Final
public import proofs.«01_k».proof.Proof.Ffn.Final2
public import proofs.«01_k».proof.Proof.Ffn.Final3
public import proofs.«01_k».proof.Proof.Inproj.Pair
public import proofs.«01_k».proof.Proof.Sample.Pair
public import proofs.«01_k».proof.Proof.Ffn.Final6
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- THE ATTENTION IS ITS REFERENCE: over the extended reals, from finite arguments, both programs leave the same result. -/
theorem algebraic : Cert.algebraic_KernelIdeal_ReferenceIdeal_pre_finite := by
  pair_intro
  · run_from Cert.KernelIdeal.Gen.run_main m g
  · run_from Cert.ReferenceIdeal.Value.run m' g'
    rw [Cert.ReferenceIdeal.Read.val_main_v56_eq m' c]
    obtain ⟨e0, e1, e2, e3, e4, e5, e6, e7, e8, e9⟩ := hagree c
    obtain ⟨⟨A, hA⟩, ⟨B, hB⟩, ⟨C, hC⟩, ⟨D, hD⟩, ⟨Q, hQ⟩, ⟨N, hN⟩, ⟨W, hW⟩, ⟨K, hK⟩, ⟨Z, hZ⟩⟩ :=
      Cert.Attn.finite_reals _ _ _ _ _ _ _ _ _ _ fun j => congrFun (hpre c) j
    refine Eq.trans ?_ (Cert.Attn.final m c A B C D Q N W K Z hA hB hC hD hQ hN hW hK hZ).symm
    rw [e0, e1, e2, e3, e4, e5, e6, e7, e8, e9]

/-- The reference ends, its arguments unchanged. -/
theorem reference_frame : Cert.quiescent_ReferenceIdeal := fun m ρ _ =>
  (θ_run Cert.ReferenceIdeal.defs _ _).mono (fun r h => ⟨fun c => (h c).2, sem_eq_zero_of_no_sems rfl r.2⟩) (Cert.ReferenceIdeal.Value.run m ρ)

/-- THE FIRST FEED-FORWARD CALL IS ITS REFERENCE. -/
theorem algebraic2 : Cert.algebraic_Kernel2Ideal_Reference2Ideal := by
  pair_intro
  · run_from Cert.Kernel2Ideal.Gen.run_main m g
  · run_from Cert.Reference2Ideal.Value.run m' g'
    rw [Cert.Reference2Ideal.Read.val_main_v39_eq m' c]
    obtain ⟨e0, e1, e2, e3, e4, e5⟩ := hagree c
    refine Eq.trans ?_ (Cert.Ffn.Call2.final m c).symm
    rw [e0, e1, e2, e3, e4, e5]

/-- Its reference ends, its arguments unchanged. -/
theorem reference2_frame : Cert.quiescent_Reference2Ideal := fun m ρ _ =>
  (θ_run Cert.Reference2Ideal.defs _ _).mono (fun r h => ⟨fun c => (h c).2, sem_eq_zero_of_no_sems rfl r.2⟩) (Cert.Reference2Ideal.Value.run m ρ)

/-- THE MIXING AND SECOND FEED-FORWARD CALL IS ITS REFERENCE. -/
theorem algebraic3 : Cert.algebraic_Kernel3Ideal_Reference3Ideal := by
  pair_intro
  · run_from Cert.Kernel3Ideal.Gen.run_main m g
  · run_from Cert.Reference3Ideal.Value.run m' g'
    rw [Cert.Reference3Ideal.Read.val_main_v60_eq m' c]
    obtain ⟨e0, e1, e2, e3, e4, e5, e6, e7, e8, e9, e10, e11⟩ := hagree c
    refine Eq.trans ?_ (Cert.Ffn.Call3.final m c).symm
    rw [e0, e1, e2, e3, e4, e5, e6, e7, e8, e9, e10, e11]

/-- Its reference ends, its arguments unchanged. -/
theorem reference3_frame : Cert.quiescent_Reference3Ideal := fun m ρ _ =>
  (θ_run Cert.Reference3Ideal.defs _ _).mono (fun r h => ⟨fun c => (h c).2, sem_eq_zero_of_no_sems rfl r.2⟩) (Cert.Reference3Ideal.Value.run m ρ)

/-- THE MIXING AND SECOND FEED-FORWARD CALL ON THE SAMPLE IS ITS REFERENCE. -/
theorem algebraic6 : Cert.algebraic_Kernel6Ideal_Reference6Ideal := by
  pair_intro
  · run_from Cert.Kernel6Ideal.Gen.run_main m g
  · run_from Cert.Reference6Ideal.Value.run m' g'
    rw [Cert.Reference6Ideal.Read.val_main_v60_eq m' c]
    obtain ⟨e0, e1, e2, e3, e4, e5, e6, e7, e8, e9, e10, e11⟩ := hagree c
    refine Eq.trans ?_ (Cert.Ffn.Call6.final m c).symm
    rw [e0, e1, e2, e3, e4, e5, e6, e7, e8, e9, e10, e11]

/-- Its reference ends, its arguments unchanged. -/
theorem reference6_frame : Cert.quiescent_Reference6Ideal := fun m ρ _ =>
  (θ_run Cert.Reference6Ideal.defs _ _).mono (fun r h => ⟨fun c => (h c).2, sem_eq_zero_of_no_sems rfl r.2⟩) (Cert.Reference6Ideal.Value.run m ρ)

/-- The claims, in the order they are certified. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Kernel2.Gen.frame m ρ, fun m ρ _ => Cert.Kernel2Ideal.Gen.frame m ρ, reference2_frame,
  fun m ρ _ => Cert.Kernel3.Gen.frame m ρ, fun m ρ _ => Cert.Kernel3Ideal.Gen.frame m ρ, reference3_frame,
  fun m ρ _ => Cert.Kernel4.Gen.frame m ρ, fun m ρ _ => Cert.Kernel4Ideal.Gen.frame m ρ, Cert.Inproj.reference_ends,
  fun m ρ _ => Cert.Kernel5.Gen.frame m ρ, fun m ρ _ => Cert.Kernel5Ideal.Gen.frame m ρ, Cert.Sample.reference_ends,
  fun m ρ _ => Cert.Kernel6.Gen.frame m ρ, fun m ρ _ => Cert.Kernel6Ideal.Gen.frame m ρ, reference6_frame,
  IdealRules.named_const.statement Cert.KernelIdeal.κ "q_scale" .f32 0x3E38AA3B#32 _ rfl, algebraic, trivial, algebraic2, trivial, algebraic3,
  IdealRules.named_const.statement Cert.Kernel4Ideal.κ "q_scale" .f32 0x3E38AA3B#32 _ rfl, Cert.Inproj.pair, IdealRules.named_const.statement Cert.Kernel5Ideal.κ "q_scale" .f32 0x3E38AA3B#32 _ rfl, Cert.Sample.pair, trivial, algebraic6⟩

end Cert.Proof

end
